-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_v3_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x1x8192 : Shape := ⟨3, ![24, 1, 8192]⟩
abbrev S14336x8192 : Shape := ⟨2, ![14336, 8192]⟩
abbrev S14336 : Shape := ⟨1, ![14336]⟩
abbrev S8192x7168 : Shape := ⟨2, ![8192, 7168]⟩
abbrev S8192 : Shape := ⟨1, ![8192]⟩
abbrev S24x8192 : Shape := ⟨2, ![24, 8192]⟩
abbrev S1x14336 : Shape := ⟨2, ![1, 14336]⟩
abbrev S1x8192 : Shape := ⟨2, ![1, 8192]⟩
abbrev S1x24 : Shape := ⟨2, ![1, 24]⟩
abbrev S24x7168 : Shape := ⟨2, ![24, 7168]⟩
abbrev S12x512x8192 : Shape := ⟨3, ![12, 512, 8192]⟩
abbrev S32x8192 : Shape := ⟨2, ![32, 8192]⟩
abbrev S32x7168 : Shape := ⟨2, ![32, 7168]⟩
abbrev S28x24x256 : Shape := ⟨3, ![28, 24, 256]⟩
abbrev S24x256 : Shape := ⟨2, ![24, 256]⟩
abbrev S12 : Shape := ⟨1, ![12]⟩
abbrev S3 : Shape := ⟨1, ![3]⟩
abbrev S1 : Shape := ⟨1, ![1]⟩
abbrev S_ : Shape := ⟨0, ![]⟩
abbrev S1x256x8192 : Shape := ⟨3, ![1, 256, 8192]⟩
abbrev S256x8192 : Shape := ⟨2, ![256, 8192]⟩
abbrev S24x512 : Shape := ⟨2, ![24, 512]⟩
abbrev S24 : Shape := ⟨1, ![24]⟩
abbrev S24x1 : Shape := ⟨2, ![24, 1]⟩
abbrev S8x512 : Shape := ⟨2, ![8, 512]⟩
abbrev S32x512 : Shape := ⟨2, ![32, 512]⟩
abbrev S1x512x8192 : Shape := ⟨3, ![1, 512, 8192]⟩
abbrev S512x8192 : Shape := ⟨2, ![512, 8192]⟩
abbrev S1x256 : Shape := ⟨2, ![1, 256]⟩
abbrev S1x24x256 : Shape := ⟨3, ![1, 24, 256]⟩
abbrev S1x512x7168 : Shape := ⟨3, ![1, 512, 7168]⟩
abbrev S512x7168 : Shape := ⟨2, ![512, 7168]⟩
abbrev S8x256 : Shape := ⟨2, ![8, 256]⟩
abbrev S32x256 : Shape := ⟨2, ![32, 256]⟩
abbrev S1x512 : Shape := ⟨2, ![1, 512]⟩

abbrev nBuf : Space → Nat
  | .hbm => 13
  | .vmem => 13
  | .smem => 0
  | _ => 0

abbrev bufTy : (tb : Table) → Fin (tcTables nBuf tb) → BufTy
  | .hbm, ⟨0, _⟩ => ⟨S24x1x8192, .bf16⟩
  | .hbm, ⟨1, _⟩ => ⟨S14336x8192, .fp8e4m3⟩
  | .hbm, ⟨2, _⟩ => ⟨S14336, .f32⟩
  | .hbm, ⟨3, _⟩ => ⟨S8192x7168, .fp8e4m3⟩
  | .hbm, ⟨4, _⟩ => ⟨S8192, .f32⟩
  | .hbm, ⟨5, _⟩ => ⟨S24x8192, .bf16⟩
  | .hbm, ⟨6, _⟩ => ⟨S1x14336, .f32⟩
  | .hbm, ⟨7, _⟩ => ⟨S1x8192, .f32⟩
  | .hbm, ⟨8, _⟩ => ⟨S24x8192, .bf16⟩
  | .hbm, ⟨9, _⟩ => ⟨S24x8192, .fp8e4m3⟩
  | .hbm, ⟨10, _⟩ => ⟨S1x24, .f32⟩
  | .hbm, ⟨11, _⟩ => ⟨S24x7168, .fp8e4m3⟩
  | .hbm, ⟨12, _⟩ => ⟨S1x24, .f32⟩
  | .local _ .vmem, ⟨0, _⟩ => ⟨S1x24, .f32⟩
  | .local _ .vmem, ⟨1, _⟩ => ⟨S1x24, .f32⟩
  | .local _ .vmem, ⟨2, _⟩ => ⟨S12x512x8192, .fp8e4m3⟩
  | .local _ .vmem, ⟨3, _⟩ => ⟨S24x8192, .bf16⟩
  | .local _ .vmem, ⟨4, _⟩ => ⟨S1x14336, .f32⟩
  | .local _ .vmem, ⟨5, _⟩ => ⟨S1x8192, .f32⟩
  | .local _ .vmem, ⟨6, _⟩ => ⟨S32x8192, .fp8e4m3⟩
  | .local _ .vmem, ⟨7, _⟩ => ⟨S32x7168, .fp8e4m3⟩
  | .local _ .vmem, ⟨8, _⟩ => ⟨S24x8192, .fp8e4m3⟩
  | .local _ .vmem, ⟨9, _⟩ => ⟨S24x7168, .fp8e4m3⟩
  | .local _ .vmem, ⟨10, _⟩ => ⟨S28x24x256, .f32⟩
  | .local _ .vmem, ⟨11, _⟩ => ⟨S24x256, .f32⟩
  | .local _ .vmem, ⟨12, _⟩ => ⟨S24x8192, .bf16⟩
  | _, _ => ⟨S24x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_scratch9 : Ref sig .tc := ⟨.vmem, 11, rfl⟩
abbrev cc0_scratch10 : Ref sig .tc := ⟨.vmem, 12, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_300 : BitVec 32 := 0#32
  let c28_i32 : BitVec 32 := 28#32
  let v573 : BitVec 32 := Scalar.addi c0_i32_300 c28_i32
  let c1_i32_301 : BitVec 32 := 1#32
  ⟨c0_i32_300, v573, c1_i32_301⟩
def k0_off1 (k0_t1 : Fin k0_t1_loop.trips) : Fin 1 → Nat :=
  let c0_i32_587 : BitVec 32 := 0#32
  let c0_i32_300 : BitVec 32 := 0#32
  let c1_i32_301 : BitVec 32 := 1#32
  let arg24 : BitVec 32 := Scf.iv c0_i32_300 c1_i32_301 k0_t1
  let c1_i32_586 : BitVec 32 := 1#32
  let v1173 : BitVec 32 := Scalar.muli arg24 c1_i32_586
  let v1174 : BitVec 32 := Scalar.addi c0_i32_587 v1173
  let c12_i32 : BitVec 32 := 12#32
  let v1175 : BitVec 32 := Scalar.remsi v1174 c12_i32
  ![v1175.toNat]
def k0_off2 (k0_t1 : Fin k0_t1_loop.trips) : Fin 3 → Nat :=
  let c0_i32_587 : BitVec 32 := 0#32
  let c0_i32_300 : BitVec 32 := 0#32
  let c1_i32_301 : BitVec 32 := 1#32
  let arg24 : BitVec 32 := Scf.iv c0_i32_300 c1_i32_301 k0_t1
  let c1_i32_586 : BitVec 32 := 1#32
  let v1173 : BitVec 32 := Scalar.muli arg24 c1_i32_586
  let v1174 : BitVec 32 := Scalar.addi c0_i32_587 v1173
  let c12_i32 : BitVec 32 := 12#32
  let v1175 : BitVec 32 := Scalar.remsi v1174 c12_i32
  let c0_i32_591 : BitVec 32 := 0#32
  let c0_i32_592 : BitVec 32 := 0#32
  ![v1175.toNat, 0, 0]
def k0_off3 (k0_t1 : Fin k0_t1_loop.trips) : Fin 2 → Nat :=
  let c0_i32_587 : BitVec 32 := 0#32
  let c0_i32_300 : BitVec 32 := 0#32
  let c1_i32_301 : BitVec 32 := 1#32
  let arg24 : BitVec 32 := Scf.iv c0_i32_300 c1_i32_301 k0_t1
  let c1_i32_586 : BitVec 32 := 1#32
  let v1173 : BitVec 32 := Scalar.muli arg24 c1_i32_586
  let v1174 : BitVec 32 := Scalar.addi c0_i32_587 v1173
  let c256_i32_588 : BitVec 32 := 256#32
  let v1176 : BitVec 32 := Scalar.muli v1174 c256_i32_588
  let c0_i32_593 : BitVec 32 := 0#32
  ![v1176.toNat, 0]
def k0_off4 (k0_t1 : Fin k0_t1_loop.trips) : Fin 3 → Nat :=
  let c0_i32_587 : BitVec 32 := 0#32
  let c0_i32_300 : BitVec 32 := 0#32
  let c1_i32_301 : BitVec 32 := 1#32
  let arg24 : BitVec 32 := Scf.iv c0_i32_300 c1_i32_301 k0_t1
  let c1_i32_586 : BitVec 32 := 1#32
  let v1173 : BitVec 32 := Scalar.muli arg24 c1_i32_586
  let v1174 : BitVec 32 := Scalar.addi c0_i32_587 v1173
  let c12_i32 : BitVec 32 := 12#32
  let v1175 : BitVec 32 := Scalar.remsi v1174 c12_i32
  let c256_i32_594 : BitVec 32 := 256#32
  let c0_i32_595 : BitVec 32 := 0#32
  ![v1175.toNat, 256, 0]
def k0_off5 (k0_t1 : Fin k0_t1_loop.trips) : Fin 2 → Nat :=
  let c7168_i32_590 : BitVec 32 := 7168#32
  let c0_i32_587 : BitVec 32 := 0#32
  let c0_i32_300 : BitVec 32 := 0#32
  let c1_i32_301 : BitVec 32 := 1#32
  let arg24 : BitVec 32 := Scf.iv c0_i32_300 c1_i32_301 k0_t1
  let c1_i32_586 : BitVec 32 := 1#32
  let v1173 : BitVec 32 := Scalar.muli arg24 c1_i32_586
  let v1174 : BitVec 32 := Scalar.addi c0_i32_587 v1173
  let c256_i32_589 : BitVec 32 := 256#32
  let v1177 : BitVec 32 := Scalar.muli v1174 c256_i32_589
  let v1178 : BitVec 32 := Scalar.addi c7168_i32_590 v1177
  let c0_i32_596 : BitVec 32 := 0#32
  ![v1178.toNat, 0]
def k0_off6 (k0_t1 : Fin k0_t1_loop.trips) : Fin 3 → Nat :=
  let c0_i32_587 : BitVec 32 := 0#32
  let c0_i32_300 : BitVec 32 := 0#32
  let c1_i32_301 : BitVec 32 := 1#32
  let arg24 : BitVec 32 := Scf.iv c0_i32_300 c1_i32_301 k0_t1
  let c1_i32_586 : BitVec 32 := 1#32
  let v1173 : BitVec 32 := Scalar.muli arg24 c1_i32_586
  let v1174 : BitVec 32 := Scalar.addi c0_i32_587 v1173
  let c12_i32 : BitVec 32 := 12#32
  let v1175 : BitVec 32 := Scalar.remsi v1174 c12_i32
  let v1190 : Index := Scalar.indexCast v1175
  let c0_599 : Index := 0#32
  let c0_600 : Index := 0#32
  ![v1190.toNat, 0, 0]
def k0_off7 (k0_t1 : Fin k0_t1_loop.trips) : Fin 2 → Nat :=
  let c0_603 : Index := 0#32
  let c0_i32_587 : BitVec 32 := 0#32
  let c0_i32_300 : BitVec 32 := 0#32
  let c1_i32_301 : BitVec 32 := 1#32
  let arg24 : BitVec 32 := Scf.iv c0_i32_300 c1_i32_301 k0_t1
  let c1_i32_586 : BitVec 32 := 1#32
  let v1173 : BitVec 32 := Scalar.muli arg24 c1_i32_586
  let v1174 : BitVec 32 := Scalar.addi c0_i32_587 v1173
  let c256_i32_602 : BitVec 32 := 256#32
  let v1198 : BitVec 32 := Scalar.muli v1174 c256_i32_602
  let v1199 : Index := Scalar.indexCast v1198
  ![0, v1199.toNat]
def k0_off8 (k0_t1 : Fin k0_t1_loop.trips) : Fin 2 → Nat :=
  let c0_606 : Index := 0#32
  let c7168_i32_605 : BitVec 32 := 7168#32
  let c0_i32_587 : BitVec 32 := 0#32
  let c0_i32_300 : BitVec 32 := 0#32
  let c1_i32_301 : BitVec 32 := 1#32
  let arg24 : BitVec 32 := Scf.iv c0_i32_300 c1_i32_301 k0_t1
  let c1_i32_586 : BitVec 32 := 1#32
  let v1173 : BitVec 32 := Scalar.muli arg24 c1_i32_586
  let v1174 : BitVec 32 := Scalar.addi c0_i32_587 v1173
  let c256_i32_604 : BitVec 32 := 256#32
  let v1206 : BitVec 32 := Scalar.muli v1174 c256_i32_604
  let v1207 : BitVec 32 := Scalar.addi c7168_i32_605 v1206
  let v1208 : Index := Scalar.indexCast v1207
  ![0, v1208.toNat]
def k0_off9 (k0_t1 : Fin k0_t1_loop.trips) : Fin 3 → Nat :=
  let c0_i32_587 : BitVec 32 := 0#32
  let c0_i32_300 : BitVec 32 := 0#32
  let c1_i32_301 : BitVec 32 := 1#32
  let arg24 : BitVec 32 := Scf.iv c0_i32_300 c1_i32_301 k0_t1
  let c1_i32_586 : BitVec 32 := 1#32
  let v1173 : BitVec 32 := Scalar.muli arg24 c1_i32_586
  let v1174 : BitVec 32 := Scalar.addi c0_i32_587 v1173
  let v1215 : Index := Scalar.indexCast v1174
  let c0_607 : Index := 0#32
  let c0_608 : Index := 0#32
  ![v1215.toNat, 0, 0]
def k0_cond1 (k0_t1 : Fin k0_t1_loop.trips) : BitVec 1 :=
  let c0_i32_587 : BitVec 32 := 0#32
  let c0_i32_300 : BitVec 32 := 0#32
  let c1_i32_301 : BitVec 32 := 1#32
  let arg24 : BitVec 32 := Scf.iv c0_i32_300 c1_i32_301 k0_t1
  let c1_i32_586 : BitVec 32 := 1#32
  let v1173 : BitVec 32 := Scalar.muli arg24 c1_i32_586
  let v1174 : BitVec 32 := Scalar.addi c0_i32_587 v1173
  let c12_i32_613 : BitVec 32 := 12#32
  let v1225 : BitVec 32 := Scalar.addi v1174 c12_i32_613
  let c28_i32_615 : BitVec 32 := 28#32
  let v1227 : BitVec 1 := Scalar.cmpi .slt v1225 c28_i32_615
  let v1228 : BitVec 32 := Scalar.extui v1227
  let c0_i32_616 : BitVec 32 := 0#32
  let v1229 : BitVec 1 := Scalar.cmpi .ne v1228 c0_i32_616
  v1229

def k0_off10 (k0_t1 : Fin k0_t1_loop.trips) : Fin 1 → Nat :=
  let c0_i32_587 : BitVec 32 := 0#32
  let c0_i32_300 : BitVec 32 := 0#32
  let c1_i32_301 : BitVec 32 := 1#32
  let arg24 : BitVec 32 := Scf.iv c0_i32_300 c1_i32_301 k0_t1
  let c1_i32_586 : BitVec 32 := 1#32
  let v1173 : BitVec 32 := Scalar.muli arg24 c1_i32_586
  let v1174 : BitVec 32 := Scalar.addi c0_i32_587 v1173
  let c12_i32_613 : BitVec 32 := 12#32
  let v1225 : BitVec 32 := Scalar.addi v1174 c12_i32_613
  let c12_i32_614 : BitVec 32 := 12#32
  let v1226 : BitVec 32 := Scalar.remsi v1225 c12_i32_614
  ![v1226.toNat]
def k0_off11 (k0_t1 : Fin k0_t1_loop.trips) : Fin 3 → Nat :=
  let c0_i32_587 : BitVec 32 := 0#32
  let c0_i32_300 : BitVec 32 := 0#32
  let c1_i32_301 : BitVec 32 := 1#32
  let arg24 : BitVec 32 := Scf.iv c0_i32_300 c1_i32_301 k0_t1
  let c1_i32_586 : BitVec 32 := 1#32
  let v1173 : BitVec 32 := Scalar.muli arg24 c1_i32_586
  let v1174 : BitVec 32 := Scalar.addi c0_i32_587 v1173
  let c12_i32_613 : BitVec 32 := 12#32
  let v1225 : BitVec 32 := Scalar.addi v1174 c12_i32_613
  let c12_i32_614 : BitVec 32 := 12#32
  let v1226 : BitVec 32 := Scalar.remsi v1225 c12_i32_614
  let c0_i32_622 : BitVec 32 := 0#32
  let c0_i32_623 : BitVec 32 := 0#32
  ![v1226.toNat, 0, 0]
def k0_off12 (k0_t1 : Fin k0_t1_loop.trips) : Fin 2 → Nat :=
  let c0_i32_587 : BitVec 32 := 0#32
  let c0_i32_300 : BitVec 32 := 0#32
  let c1_i32_301 : BitVec 32 := 1#32
  let arg24 : BitVec 32 := Scf.iv c0_i32_300 c1_i32_301 k0_t1
  let c1_i32_586 : BitVec 32 := 1#32
  let v1173 : BitVec 32 := Scalar.muli arg24 c1_i32_586
  let v1174 : BitVec 32 := Scalar.addi c0_i32_587 v1173
  let c12_i32_613 : BitVec 32 := 12#32
  let v1225 : BitVec 32 := Scalar.addi v1174 c12_i32_613
  let c256_i32_619 : BitVec 32 := 256#32
  let v1235 : BitVec 32 := Scalar.muli v1225 c256_i32_619
  let c0_i32_624 : BitVec 32 := 0#32
  ![v1235.toNat, 0]
def k0_off13 (k0_t1 : Fin k0_t1_loop.trips) : Fin 3 → Nat :=
  let c0_i32_587 : BitVec 32 := 0#32
  let c0_i32_300 : BitVec 32 := 0#32
  let c1_i32_301 : BitVec 32 := 1#32
  let arg24 : BitVec 32 := Scf.iv c0_i32_300 c1_i32_301 k0_t1
  let c1_i32_586 : BitVec 32 := 1#32
  let v1173 : BitVec 32 := Scalar.muli arg24 c1_i32_586
  let v1174 : BitVec 32 := Scalar.addi c0_i32_587 v1173
  let c12_i32_613 : BitVec 32 := 12#32
  let v1225 : BitVec 32 := Scalar.addi v1174 c12_i32_613
  let c12_i32_614 : BitVec 32 := 12#32
  let v1226 : BitVec 32 := Scalar.remsi v1225 c12_i32_614
  let c256_i32_625 : BitVec 32 := 256#32
  let c0_i32_626 : BitVec 32 := 0#32
  ![v1226.toNat, 256, 0]
def k0_off14 (k0_t1 : Fin k0_t1_loop.trips) : Fin 2 → Nat :=
  let c7168_i32_621 : BitVec 32 := 7168#32
  let c0_i32_587 : BitVec 32 := 0#32
  let c0_i32_300 : BitVec 32 := 0#32
  let c1_i32_301 : BitVec 32 := 1#32
  let arg24 : BitVec 32 := Scf.iv c0_i32_300 c1_i32_301 k0_t1
  let c1_i32_586 : BitVec 32 := 1#32
  let v1173 : BitVec 32 := Scalar.muli arg24 c1_i32_586
  let v1174 : BitVec 32 := Scalar.addi c0_i32_587 v1173
  let c12_i32_613 : BitVec 32 := 12#32
  let v1225 : BitVec 32 := Scalar.addi v1174 c12_i32_613
  let c256_i32_620 : BitVec 32 := 256#32
  let v1236 : BitVec 32 := Scalar.muli v1225 c256_i32_620
  let v1237 : BitVec 32 := Scalar.addi c7168_i32_621 v1236
  let c0_i32_627 : BitVec 32 := 0#32
  ![v1237.toNat, 0]
def k0_cond2 (k0_t1 : Fin k0_t1_loop.trips) : BitVec 1 :=
  let c0_i32_587 : BitVec 32 := 0#32
  let c0_i32_300 : BitVec 32 := 0#32
  let c1_i32_301 : BitVec 32 := 1#32
  let arg24 : BitVec 32 := Scf.iv c0_i32_300 c1_i32_301 k0_t1
  let c1_i32_586 : BitVec 32 := 1#32
  let v1173 : BitVec 32 := Scalar.muli arg24 c1_i32_586
  let v1174 : BitVec 32 := Scalar.addi c0_i32_587 v1173
  let c12_i32_613 : BitVec 32 := 12#32
  let v1225 : BitVec 32 := Scalar.addi v1174 c12_i32_613
  let c28_i32_617 : BitVec 32 := 28#32
  let v1230 : BitVec 1 := Scalar.cmpi .sge v1225 c28_i32_617
  let c44_i32 : BitVec 32 := 44#32
  let v1231 : BitVec 1 := Scalar.cmpi .slt v1225 c44_i32
  let v1232 : BitVec 1 := Scalar.andi v1230 v1231
  let v1233 : BitVec 32 := Scalar.extui v1232
  let c0_i32_618 : BitVec 32 := 0#32
  let v1234 : BitVec 1 := Scalar.cmpi .ne v1233 c0_i32_618
  v1234

def k0_off15 (k0_t1 : Fin k0_t1_loop.trips) : Fin 1 → Nat :=
  let c0_i32_587 : BitVec 32 := 0#32
  let c0_i32_300 : BitVec 32 := 0#32
  let c1_i32_301 : BitVec 32 := 1#32
  let arg24 : BitVec 32 := Scf.iv c0_i32_300 c1_i32_301 k0_t1
  let c1_i32_586 : BitVec 32 := 1#32
  let v1173 : BitVec 32 := Scalar.muli arg24 c1_i32_586
  let v1174 : BitVec 32 := Scalar.addi c0_i32_587 v1173
  let c12_i32_613 : BitVec 32 := 12#32
  let v1225 : BitVec 32 := Scalar.addi v1174 c12_i32_613
  let c12_i32_614 : BitVec 32 := 12#32
  let v1226 : BitVec 32 := Scalar.remsi v1225 c12_i32_614
  ![v1226.toNat]
def k0_off16 (k0_t1 : Fin k0_t1_loop.trips) : Fin 3 → Nat :=
  let c0_i32_587 : BitVec 32 := 0#32
  let c0_i32_300 : BitVec 32 := 0#32
  let c1_i32_301 : BitVec 32 := 1#32
  let arg24 : BitVec 32 := Scf.iv c0_i32_300 c1_i32_301 k0_t1
  let c1_i32_586 : BitVec 32 := 1#32
  let v1173 : BitVec 32 := Scalar.muli arg24 c1_i32_586
  let v1174 : BitVec 32 := Scalar.addi c0_i32_587 v1173
  let c12_i32_613 : BitVec 32 := 12#32
  let v1225 : BitVec 32 := Scalar.addi v1174 c12_i32_613
  let c12_i32_614 : BitVec 32 := 12#32
  let v1226 : BitVec 32 := Scalar.remsi v1225 c12_i32_614
  let c0_i32_621 : BitVec 32 := 0#32
  let c0_i32_622 : BitVec 32 := 0#32
  ![v1226.toNat, 0, 0]
def k0_off17 (k0_t1 : Fin k0_t1_loop.trips) : Fin 2 → Nat :=
  let c0_i32_587 : BitVec 32 := 0#32
  let c0_i32_300 : BitVec 32 := 0#32
  let c1_i32_301 : BitVec 32 := 1#32
  let arg24 : BitVec 32 := Scf.iv c0_i32_300 c1_i32_301 k0_t1
  let c1_i32_586 : BitVec 32 := 1#32
  let v1173 : BitVec 32 := Scalar.muli arg24 c1_i32_586
  let v1174 : BitVec 32 := Scalar.addi c0_i32_587 v1173
  let c12_i32_613 : BitVec 32 := 12#32
  let v1225 : BitVec 32 := Scalar.addi v1174 c12_i32_613
  let c28_i32_619 : BitVec 32 := 28#32
  let v1235 : BitVec 32 := Scalar.subi v1225 c28_i32_619
  let c512_i32_620 : BitVec 32 := 512#32
  let v1236 : BitVec 32 := Scalar.muli v1235 c512_i32_620
  let c0_i32_623 : BitVec 32 := 0#32
  ![v1236.toNat, 0]
@[reducible] def k0_t2_loop : Scf.Loop 32 :=
  let c0_i32_576 : BitVec 32 := 0#32
  let c16_i32_577 : BitVec 32 := 16#32
  let v1167 : BitVec 32 := Scalar.addi c0_i32_576 c16_i32_577
  let c1_i32_578 : BitVec 32 := 1#32
  ⟨c0_i32_576, v1167, c1_i32_578⟩
def k0_off18 (k0_t2 : Fin k0_t2_loop.trips) : Fin 1 → Nat :=
  let c0_i32_587 : BitVec 32 := 0#32
  let c0_i32_576 : BitVec 32 := 0#32
  let c1_i32_578 : BitVec 32 := 1#32
  let arg24 : BitVec 32 := Scf.iv c0_i32_576 c1_i32_578 k0_t2
  let c1_i32_586 : BitVec 32 := 1#32
  let v1173 : BitVec 32 := Scalar.muli arg24 c1_i32_586
  let v1174 : BitVec 32 := Scalar.addi c0_i32_587 v1173
  let c28_i32_588 : BitVec 32 := 28#32
  let v1175 : BitVec 32 := Scalar.addi v1174 c28_i32_588
  let c12_i32 : BitVec 32 := 12#32
  let v1176 : BitVec 32 := Scalar.remsi v1175 c12_i32
  ![v1176.toNat]
def k0_off19 (k0_t2 : Fin k0_t2_loop.trips) : Fin 3 → Nat :=
  let c0_i32_587 : BitVec 32 := 0#32
  let c0_i32_576 : BitVec 32 := 0#32
  let c1_i32_578 : BitVec 32 := 1#32
  let arg24 : BitVec 32 := Scf.iv c0_i32_576 c1_i32_578 k0_t2
  let c1_i32_586 : BitVec 32 := 1#32
  let v1173 : BitVec 32 := Scalar.muli arg24 c1_i32_586
  let v1174 : BitVec 32 := Scalar.addi c0_i32_587 v1173
  let c28_i32_588 : BitVec 32 := 28#32
  let v1175 : BitVec 32 := Scalar.addi v1174 c28_i32_588
  let c12_i32 : BitVec 32 := 12#32
  let v1176 : BitVec 32 := Scalar.remsi v1175 c12_i32
  let c0_i32_590 : BitVec 32 := 0#32
  let c0_i32_591 : BitVec 32 := 0#32
  ![v1176.toNat, 0, 0]
def k0_off20 (k0_t2 : Fin k0_t2_loop.trips) : Fin 2 → Nat :=
  let c0_i32_587 : BitVec 32 := 0#32
  let c0_i32_576 : BitVec 32 := 0#32
  let c1_i32_578 : BitVec 32 := 1#32
  let arg24 : BitVec 32 := Scf.iv c0_i32_576 c1_i32_578 k0_t2
  let c1_i32_586 : BitVec 32 := 1#32
  let v1173 : BitVec 32 := Scalar.muli arg24 c1_i32_586
  let v1174 : BitVec 32 := Scalar.addi c0_i32_587 v1173
  let c512_i32_589 : BitVec 32 := 512#32
  let v1177 : BitVec 32 := Scalar.muli v1174 c512_i32_589
  let c0_i32_592 : BitVec 32 := 0#32
  ![v1177.toNat, 0]
def k0_off21 (k0_t2 : Fin k0_t2_loop.trips) : Fin 3 → Nat :=
  let c0_i32_587 : BitVec 32 := 0#32
  let c0_i32_576 : BitVec 32 := 0#32
  let c1_i32_578 : BitVec 32 := 1#32
  let arg24 : BitVec 32 := Scf.iv c0_i32_576 c1_i32_578 k0_t2
  let c1_i32_586 : BitVec 32 := 1#32
  let v1173 : BitVec 32 := Scalar.muli arg24 c1_i32_586
  let v1174 : BitVec 32 := Scalar.addi c0_i32_587 v1173
  let c28_i32_588 : BitVec 32 := 28#32
  let v1175 : BitVec 32 := Scalar.addi v1174 c28_i32_588
  let c12_i32 : BitVec 32 := 12#32
  let v1176 : BitVec 32 := Scalar.remsi v1175 c12_i32
  let v1184 : Index := Scalar.indexCast v1176
  let c0_595 : Index := 0#32
  let c0_596 : Index := 0#32
  ![v1184.toNat, 0, 0]
def k0_off22 (k0_t2 : Fin k0_t2_loop.trips) : Fin 2 → Nat :=
  let c0_599 : Index := 0#32
  let c0_i32_587 : BitVec 32 := 0#32
  let c0_i32_576 : BitVec 32 := 0#32
  let c1_i32_578 : BitVec 32 := 1#32
  let arg24 : BitVec 32 := Scf.iv c0_i32_576 c1_i32_578 k0_t2
  let c1_i32_586 : BitVec 32 := 1#32
  let v1173 : BitVec 32 := Scalar.muli arg24 c1_i32_586
  let v1174 : BitVec 32 := Scalar.addi c0_i32_587 v1173
  let c512_i32_598 : BitVec 32 := 512#32
  let v1189 : BitVec 32 := Scalar.muli v1174 c512_i32_598
  let v1192 : Index := Scalar.indexCast v1189
  ![0, v1192.toNat]
def k0_off23 (k0_t2 : Fin k0_t2_loop.trips) : Fin 2 → Nat :=
  let c0_600 : Index := 0#32
  let c0_i32_587 : BitVec 32 := 0#32
  let c0_i32_576 : BitVec 32 := 0#32
  let c1_i32_578 : BitVec 32 := 1#32
  let arg24 : BitVec 32 := Scf.iv c0_i32_576 c1_i32_578 k0_t2
  let c1_i32_586 : BitVec 32 := 1#32
  let v1173 : BitVec 32 := Scalar.muli arg24 c1_i32_586
  let v1174 : BitVec 32 := Scalar.addi c0_i32_587 v1173
  let c512_i32_598 : BitVec 32 := 512#32
  let v1189 : BitVec 32 := Scalar.muli v1174 c512_i32_598
  let v1197 : Index := Scalar.indexCast v1189
  ![0, v1197.toNat]
def k0_cond3 (k0_t2 : Fin k0_t2_loop.trips) : BitVec 1 :=
  let c0_i32_587 : BitVec 32 := 0#32
  let c0_i32_576 : BitVec 32 := 0#32
  let c1_i32_578 : BitVec 32 := 1#32
  let arg24 : BitVec 32 := Scf.iv c0_i32_576 c1_i32_578 k0_t2
  let c1_i32_586 : BitVec 32 := 1#32
  let v1173 : BitVec 32 := Scalar.muli arg24 c1_i32_586
  let v1174 : BitVec 32 := Scalar.addi c0_i32_587 v1173
  let c28_i32_588 : BitVec 32 := 28#32
  let v1175 : BitVec 32 := Scalar.addi v1174 c28_i32_588
  let c12_i32_601 : BitVec 32 := 12#32
  let v1201 : BitVec 32 := Scalar.addi v1175 c12_i32_601
  let c28_i32_603 : BitVec 32 := 28#32
  let v1203 : BitVec 1 := Scalar.cmpi .slt v1201 c28_i32_603
  let v1204 : BitVec 32 := Scalar.extui v1203
  let c0_i32_604 : BitVec 32 := 0#32
  let v1205 : BitVec 1 := Scalar.cmpi .ne v1204 c0_i32_604
  v1205

def k0_off24 (k0_t2 : Fin k0_t2_loop.trips) : Fin 1 → Nat :=
  let c0_i32_587 : BitVec 32 := 0#32
  let c0_i32_576 : BitVec 32 := 0#32
  let c1_i32_578 : BitVec 32 := 1#32
  let arg24 : BitVec 32 := Scf.iv c0_i32_576 c1_i32_578 k0_t2
  let c1_i32_586 : BitVec 32 := 1#32
  let v1173 : BitVec 32 := Scalar.muli arg24 c1_i32_586
  let v1174 : BitVec 32 := Scalar.addi c0_i32_587 v1173
  let c28_i32_588 : BitVec 32 := 28#32
  let v1175 : BitVec 32 := Scalar.addi v1174 c28_i32_588
  let c12_i32_601 : BitVec 32 := 12#32
  let v1201 : BitVec 32 := Scalar.addi v1175 c12_i32_601
  let c12_i32_602 : BitVec 32 := 12#32
  let v1202 : BitVec 32 := Scalar.remsi v1201 c12_i32_602
  ![v1202.toNat]
def k0_off25 (k0_t2 : Fin k0_t2_loop.trips) : Fin 3 → Nat :=
  let c0_i32_587 : BitVec 32 := 0#32
  let c0_i32_576 : BitVec 32 := 0#32
  let c1_i32_578 : BitVec 32 := 1#32
  let arg24 : BitVec 32 := Scf.iv c0_i32_576 c1_i32_578 k0_t2
  let c1_i32_586 : BitVec 32 := 1#32
  let v1173 : BitVec 32 := Scalar.muli arg24 c1_i32_586
  let v1174 : BitVec 32 := Scalar.addi c0_i32_587 v1173
  let c28_i32_588 : BitVec 32 := 28#32
  let v1175 : BitVec 32 := Scalar.addi v1174 c28_i32_588
  let c12_i32_601 : BitVec 32 := 12#32
  let v1201 : BitVec 32 := Scalar.addi v1175 c12_i32_601
  let c12_i32_602 : BitVec 32 := 12#32
  let v1202 : BitVec 32 := Scalar.remsi v1201 c12_i32_602
  let c0_i32_614 : BitVec 32 := 0#32
  let c0_i32_615 : BitVec 32 := 0#32
  ![v1202.toNat, 0, 0]
def k0_off26 (k0_t2 : Fin k0_t2_loop.trips) : Fin 2 → Nat :=
  let c0_i32_587 : BitVec 32 := 0#32
  let c0_i32_576 : BitVec 32 := 0#32
  let c1_i32_578 : BitVec 32 := 1#32
  let arg24 : BitVec 32 := Scf.iv c0_i32_576 c1_i32_578 k0_t2
  let c1_i32_586 : BitVec 32 := 1#32
  let v1173 : BitVec 32 := Scalar.muli arg24 c1_i32_586
  let v1174 : BitVec 32 := Scalar.addi c0_i32_587 v1173
  let c28_i32_588 : BitVec 32 := 28#32
  let v1175 : BitVec 32 := Scalar.addi v1174 c28_i32_588
  let c12_i32_601 : BitVec 32 := 12#32
  let v1201 : BitVec 32 := Scalar.addi v1175 c12_i32_601
  let c256_i32_611 : BitVec 32 := 256#32
  let v1216 : BitVec 32 := Scalar.muli v1201 c256_i32_611
  let c0_i32_616 : BitVec 32 := 0#32
  ![v1216.toNat, 0]
def k0_off27 (k0_t2 : Fin k0_t2_loop.trips) : Fin 3 → Nat :=
  let c0_i32_587 : BitVec 32 := 0#32
  let c0_i32_576 : BitVec 32 := 0#32
  let c1_i32_578 : BitVec 32 := 1#32
  let arg24 : BitVec 32 := Scf.iv c0_i32_576 c1_i32_578 k0_t2
  let c1_i32_586 : BitVec 32 := 1#32
  let v1173 : BitVec 32 := Scalar.muli arg24 c1_i32_586
  let v1174 : BitVec 32 := Scalar.addi c0_i32_587 v1173
  let c28_i32_588 : BitVec 32 := 28#32
  let v1175 : BitVec 32 := Scalar.addi v1174 c28_i32_588
  let c12_i32_601 : BitVec 32 := 12#32
  let v1201 : BitVec 32 := Scalar.addi v1175 c12_i32_601
  let c12_i32_602 : BitVec 32 := 12#32
  let v1202 : BitVec 32 := Scalar.remsi v1201 c12_i32_602
  let c256_i32_617 : BitVec 32 := 256#32
  let c0_i32_618 : BitVec 32 := 0#32
  ![v1202.toNat, 256, 0]
def k0_off28 (k0_t2 : Fin k0_t2_loop.trips) : Fin 2 → Nat :=
  let c7168_i32_613 : BitVec 32 := 7168#32
  let c0_i32_587 : BitVec 32 := 0#32
  let c0_i32_576 : BitVec 32 := 0#32
  let c1_i32_578 : BitVec 32 := 1#32
  let arg24 : BitVec 32 := Scf.iv c0_i32_576 c1_i32_578 k0_t2
  let c1_i32_586 : BitVec 32 := 1#32
  let v1173 : BitVec 32 := Scalar.muli arg24 c1_i32_586
  let v1174 : BitVec 32 := Scalar.addi c0_i32_587 v1173
  let c28_i32_588 : BitVec 32 := 28#32
  let v1175 : BitVec 32 := Scalar.addi v1174 c28_i32_588
  let c12_i32_601 : BitVec 32 := 12#32
  let v1201 : BitVec 32 := Scalar.addi v1175 c12_i32_601
  let c256_i32_612 : BitVec 32 := 256#32
  let v1217 : BitVec 32 := Scalar.muli v1201 c256_i32_612
  let v1218 : BitVec 32 := Scalar.addi c7168_i32_613 v1217
  let c0_i32_619 : BitVec 32 := 0#32
  ![v1218.toNat, 0]
def k0_cond4 (k0_t2 : Fin k0_t2_loop.trips) : BitVec 1 :=
  let c0_i32_587 : BitVec 32 := 0#32
  let c0_i32_576 : BitVec 32 := 0#32
  let c1_i32_578 : BitVec 32 := 1#32
  let arg24 : BitVec 32 := Scf.iv c0_i32_576 c1_i32_578 k0_t2
  let c1_i32_586 : BitVec 32 := 1#32
  let v1173 : BitVec 32 := Scalar.muli arg24 c1_i32_586
  let v1174 : BitVec 32 := Scalar.addi c0_i32_587 v1173
  let c28_i32_588 : BitVec 32 := 28#32
  let v1175 : BitVec 32 := Scalar.addi v1174 c28_i32_588
  let c12_i32_601 : BitVec 32 := 12#32
  let v1201 : BitVec 32 := Scalar.addi v1175 c12_i32_601
  let c28_i32_605 : BitVec 32 := 28#32
  let v1206 : BitVec 1 := Scalar.cmpi .sge v1201 c28_i32_605
  let c44_i32 : BitVec 32 := 44#32
  let v1207 : BitVec 1 := Scalar.cmpi .slt v1201 c44_i32
  let v1208 : BitVec 1 := Scalar.andi v1206 v1207
  let v1209 : BitVec 32 := Scalar.extui v1208
  let c0_i32_606 : BitVec 32 := 0#32
  let v1210 : BitVec 1 := Scalar.cmpi .ne v1209 c0_i32_606
  v1210

def k0_off29 (k0_t2 : Fin k0_t2_loop.trips) : Fin 1 → Nat :=
  let c0_i32_587 : BitVec 32 := 0#32
  let c0_i32_576 : BitVec 32 := 0#32
  let c1_i32_578 : BitVec 32 := 1#32
  let arg24 : BitVec 32 := Scf.iv c0_i32_576 c1_i32_578 k0_t2
  let c1_i32_586 : BitVec 32 := 1#32
  let v1173 : BitVec 32 := Scalar.muli arg24 c1_i32_586
  let v1174 : BitVec 32 := Scalar.addi c0_i32_587 v1173
  let c28_i32_588 : BitVec 32 := 28#32
  let v1175 : BitVec 32 := Scalar.addi v1174 c28_i32_588
  let c12_i32_601 : BitVec 32 := 12#32
  let v1201 : BitVec 32 := Scalar.addi v1175 c12_i32_601
  let c12_i32_602 : BitVec 32 := 12#32
  let v1202 : BitVec 32 := Scalar.remsi v1201 c12_i32_602
  ![v1202.toNat]
def k0_off30 (k0_t2 : Fin k0_t2_loop.trips) : Fin 3 → Nat :=
  let c0_i32_587 : BitVec 32 := 0#32
  let c0_i32_576 : BitVec 32 := 0#32
  let c1_i32_578 : BitVec 32 := 1#32
  let arg24 : BitVec 32 := Scf.iv c0_i32_576 c1_i32_578 k0_t2
  let c1_i32_586 : BitVec 32 := 1#32
  let v1173 : BitVec 32 := Scalar.muli arg24 c1_i32_586
  let v1174 : BitVec 32 := Scalar.addi c0_i32_587 v1173
  let c28_i32_588 : BitVec 32 := 28#32
  let v1175 : BitVec 32 := Scalar.addi v1174 c28_i32_588
  let c12_i32_601 : BitVec 32 := 12#32
  let v1201 : BitVec 32 := Scalar.addi v1175 c12_i32_601
  let c12_i32_602 : BitVec 32 := 12#32
  let v1202 : BitVec 32 := Scalar.remsi v1201 c12_i32_602
  let c0_i32_613 : BitVec 32 := 0#32
  let c0_i32_614 : BitVec 32 := 0#32
  ![v1202.toNat, 0, 0]
def k0_off31 (k0_t2 : Fin k0_t2_loop.trips) : Fin 2 → Nat :=
  let c0_i32_587 : BitVec 32 := 0#32
  let c0_i32_576 : BitVec 32 := 0#32
  let c1_i32_578 : BitVec 32 := 1#32
  let arg24 : BitVec 32 := Scf.iv c0_i32_576 c1_i32_578 k0_t2
  let c1_i32_586 : BitVec 32 := 1#32
  let v1173 : BitVec 32 := Scalar.muli arg24 c1_i32_586
  let v1174 : BitVec 32 := Scalar.addi c0_i32_587 v1173
  let c28_i32_588 : BitVec 32 := 28#32
  let v1175 : BitVec 32 := Scalar.addi v1174 c28_i32_588
  let c12_i32_601 : BitVec 32 := 12#32
  let v1201 : BitVec 32 := Scalar.addi v1175 c12_i32_601
  let c28_i32_611 : BitVec 32 := 28#32
  let v1216 : BitVec 32 := Scalar.subi v1201 c28_i32_611
  let c512_i32_612 : BitVec 32 := 512#32
  let v1217 : BitVec 32 := Scalar.muli v1216 c512_i32_612
  let c0_i32_615 : BitVec 32 := 0#32
  ![v1217.toNat, 0]
def k0_off32 (k0_t2 : Fin k0_t2_loop.trips) : Fin 2 → Nat :=
  let c0_i32_609 : BitVec 32 := 0#32
  let c0_i32_587 : BitVec 32 := 0#32
  let c0_i32_576 : BitVec 32 := 0#32
  let c1_i32_578 : BitVec 32 := 1#32
  let arg24 : BitVec 32 := Scf.iv c0_i32_576 c1_i32_578 k0_t2
  let c1_i32_586 : BitVec 32 := 1#32
  let v1173 : BitVec 32 := Scalar.muli arg24 c1_i32_586
  let v1174 : BitVec 32 := Scalar.addi c0_i32_587 v1173
  let c512_i32_607 : BitVec 32 := 512#32
  let v1211 : BitVec 32 := Scalar.muli v1174 c512_i32_607
  ![0, v1211.toNat]
@[reducible] def k0_t3_loop : Scf.Loop 32 :=
  let c0_i32_580 : BitVec 32 := 0#32
  let c16_i32_581 : BitVec 32 := 16#32
  let v1168 : BitVec 32 := Scalar.addi c0_i32_580 c16_i32_581
  let c1_i32_582 : BitVec 32 := 1#32
  ⟨c0_i32_580, v1168, c1_i32_582⟩
def k0_off33 (k0_t3 : Fin k0_t3_loop.trips) : Fin 2 → Nat :=
  let c0_i32_590 : BitVec 32 := 0#32
  let c0_i32_587 : BitVec 32 := 0#32
  let c0_i32_580 : BitVec 32 := 0#32
  let c1_i32_582 : BitVec 32 := 1#32
  let arg24 : BitVec 32 := Scf.iv c0_i32_580 c1_i32_582 k0_t3
  let c1_i32_586 : BitVec 32 := 1#32
  let v1173 : BitVec 32 := Scalar.muli arg24 c1_i32_586
  let v1174 : BitVec 32 := Scalar.addi c0_i32_587 v1173
  let c512_i32_588 : BitVec 32 := 512#32
  let v1175 : BitVec 32 := Scalar.muli v1174 c512_i32_588
  ![0, v1175.toNat]
abbrev stage0_0 : Fin 1 → Memref sig .tc .vmem S1x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S24x1x8192 : Shape := ⟨3, ![24, 1, 8192]⟩
abbrev S14336x8192 : Shape := ⟨2, ![14336, 8192]⟩
abbrev S14336 : Shape := ⟨1, ![14336]⟩
abbrev S8192x7168 : Shape := ⟨2, ![8192, 7168]⟩
abbrev S8192 : Shape := ⟨1, ![8192]⟩
abbrev S24x8192 : Shape := ⟨2, ![24, 8192]⟩
abbrev S1x14336 : Shape := ⟨2, ![1, 14336]⟩
abbrev S1x8192 : Shape := ⟨2, ![1, 8192]⟩
abbrev S1x24 : Shape := ⟨2, ![1, 24]⟩
abbrev S24x7168 : Shape := ⟨2, ![24, 7168]⟩
abbrev S24 : Shape := ⟨1, ![24]⟩
abbrev S24x1 : Shape := ⟨2, ![24, 1]⟩
abbrev S24x252 : Shape := ⟨2, ![24, 252]⟩
abbrev S24x14336 : Shape := ⟨2, ![24, 14336]⟩

abbrev nBuf : Space → Nat
  | .hbm => 13
  | .vmem => 10
  | .smem => 0
  | _ => 0

abbrev bufTy : (tb : Table) → Fin (tcTables nBuf tb) → BufTy
  | .hbm, ⟨0, _⟩ => ⟨S24x1x8192, .bf16⟩
  | .hbm, ⟨1, _⟩ => ⟨S14336x8192, .fp8e4m3⟩
  | .hbm, ⟨2, _⟩ => ⟨S14336, .f32⟩
  | .hbm, ⟨3, _⟩ => ⟨S8192x7168, .fp8e4m3⟩
  | .hbm, ⟨4, _⟩ => ⟨S8192, .f32⟩
  | .hbm, ⟨5, _⟩ => ⟨S24x8192, .bf16⟩
  | .hbm, ⟨6, _⟩ => ⟨S1x14336, .f32⟩
  | .hbm, ⟨7, _⟩ => ⟨S1x8192, .f32⟩
  | .hbm, ⟨8, _⟩ => ⟨S24x8192, .bf16⟩
  | .hbm, ⟨9, _⟩ => ⟨S24x8192, .fp8e4m3⟩
  | .hbm, ⟨10, _⟩ => ⟨S1x24, .f32⟩
  | .hbm, ⟨11, _⟩ => ⟨S24x7168, .fp8e4m3⟩
  | .hbm, ⟨12, _⟩ => ⟨S1x24, .f32⟩
  | .local _ .vmem, ⟨0, _⟩ => ⟨S24x8192, .bf16⟩
  | .local _ .vmem, ⟨1, _⟩ => ⟨S14336x8192, .fp8e4m3⟩
  | .local _ .vmem, ⟨2, _⟩ => ⟨S1x14336, .f32⟩
  | .local _ .vmem, ⟨3, _⟩ => ⟨S8192x7168, .fp8e4m3⟩
  | .local _ .vmem, ⟨4, _⟩ => ⟨S1x8192, .f32⟩
  | .local _ .vmem, ⟨5, _⟩ => ⟨S24x8192, .bf16⟩
  | .local _ .vmem, ⟨6, _⟩ => ⟨S24x8192, .fp8e4m3⟩
  | .local _ .vmem, ⟨7, _⟩ => ⟨S1x24, .f32⟩
  | .local _ .vmem, ⟨8, _⟩ => ⟨S24x7168, .fp8e4m3⟩
  | .local _ .vmem, ⟨9, _⟩ => ⟨S1x24, .f32⟩
  | _, _ => ⟨S24x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S24x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14336x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x14336 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x24 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24x7168 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x24 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Ring.lean ====
/-
  The names the kernel's proof speaks in: the twelve slots of the weight ring (each in two halves for a gate/up
  chunk, or in one wide window for a down chunk), the blocks of the two weight arrays the chunks come from, the
  ring's semaphore cells, and the equations that turn the kernel's printed slices into these names.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The buffers -/

abbrev wguM : Memref sig .tc .hbm S14336x8192 .fp8e4m3 := Memref.whole main_arg1
abbrev wdM : Memref sig .tc .hbm S8192x7168 .fp8e4m3 := Memref.whole main_arg3
abbrev ringM : Memref sig .tc .vmem S12x512x8192 .fp8e4m3 := Memref.whole cc0_scratch0
abbrev outM : Memref sig .tc .hbm S24x8192 .bf16 := Memref.whole main_v3_0
abbrev ovM : Memref sig .tc .vmem S24x8192 .bf16 := Memref.whole cc0_scratch10

/-! ## Offsets -/

abbrev semOff (s : Fin 12) : Fin 1 → Nat := ![s.val]
abbrev loOff (s : Fin 12) : Fin 3 → Nat := ![s.val, 0, 0]
abbrev hiOff (s : Fin 12) : Fin 3 → Nat := ![s.val, 256, 0]
abbrev gOff (r : ℕ) : Fin 2 → Nat := ![min r 14080, 0]
abbrev dOff (b : Fin 16) : Fin 2 → Nat := ![b.val * 512, 0]
abbrev oOff (b : Fin 16) : Fin 2 → Nat := ![0, b.val * 512]
theorem semOff_inb : ∀ (s : Fin 12) a, semOff s a + S1.size a ≤ S12.size a := by decide +kernel
theorem loOff_inb : ∀ (s : Fin 12) a, loOff s a + S1x256x8192.size a ≤ S12x512x8192.size a := by decide +kernel
theorem hiOff_inb : ∀ (s : Fin 12) a, hiOff s a + S1x256x8192.size a ≤ S12x512x8192.size a := by decide +kernel
theorem slOff_inb : ∀ (s : Fin 12) a, loOff s a + S1x512x8192.size a ≤ S12x512x8192.size a := by decide +kernel
theorem dwOff_inb : ∀ (s : Fin 12) a, loOff s a + S1x512x7168.size a ≤ S12x512x8192.size a := by decide +kernel
theorem gOff_inb (r : ℕ) : ∀ a, gOff r a + S256x8192.size a ≤ S14336x8192.size a := by
  intro a; fin_cases a
  · show min r 14080 + 256 ≤ 14336; omega
  · show 0 + 8192 ≤ 8192; omega
theorem dOff_inb : ∀ (b : Fin 16) a, dOff b a + S512x7168.size a ≤ S8192x7168.size a := by decide +kernel
theorem oOff_inb : ∀ (b : Fin 16) a, oOff b a + S24x512.size a ≤ S24x8192.size a := by decide +kernel

/-! ## The named slices -/

/-- Ring slot `s`'s semaphore. -/
def csm (s : Fin 12) : DmaSems sig S_ := (cc0_scratch11.slice (Rect.unit (s := S12) (semOff s) S1.size (semOff_inb s))).squeeze S_ squeezes_S1_S_
/-- The gate half of ring slot `s`. -/
def loSlot (s : Fin 12) : Memref sig .tc .vmem S256x8192 .fp8e4m3 :=
  (ringM.slice (Rect.unit (s := S12x512x8192) (loOff s) S1x256x8192.size (loOff_inb s)) (fun _ => rfl)).squeeze S256x8192 squeezes_S1x256x8192_S256x8192
/-- The up half of ring slot `s`. -/
def hiSlot (s : Fin 12) : Memref sig .tc .vmem S256x8192 .fp8e4m3 :=
  (ringM.slice (Rect.unit (s := S12x512x8192) (hiOff s) S1x256x8192.size (hiOff_inb s)) (fun _ => rfl)).squeeze S256x8192 squeezes_S1x256x8192_S256x8192
/-- The window of ring slot `s` a down chunk fills. -/
def dSlot (s : Fin 12) : Memref sig .tc .vmem S512x7168 .fp8e4m3 :=
  (ringM.slice (Rect.unit (s := S12x512x8192) (loOff s) S1x512x7168.size (dwOff_inb s)) (fun _ => rfl)).squeeze S512x7168 squeezes_S1x512x7168_S512x7168
/-- The 256 rows of the gate/up weights from row `r` on. -/
def gB (r : ℕ) : Memref sig .tc .hbm S256x8192 .fp8e4m3 :=
  wguM.slice (Rect.unit (s := S14336x8192) (gOff r) S256x8192.size (gOff_inb r)) (fun _ => rfl)
/-- Rows `512 b …` of the down weights. -/
def dB (b : Fin 16) : Memref sig .tc .hbm S512x7168 .fp8e4m3 :=
  wdM.slice (Rect.unit (s := S8192x7168) (dOff b) S512x7168.size (dOff_inb b)) (fun _ => rfl)
/-- Columns `512 b …` of the output buffer in VMEM. -/
def ovB (b : Fin 16) : Memref sig .tc .vmem S24x512 .bf16 :=
  ovM.slice (Rect.unit (s := S24x8192) (oOff b) S24x512.size (oOff_inb b)) (fun _ => rfl)
/-- Columns `512 b …` of the result. -/
def oB (b : Fin 16) : Memref sig .tc .hbm S24x512 .bf16 :=
  outM.slice (Rect.unit (s := S24x8192) (oOff b) S24x512.size (oOff_inb b)) (fun _ => rfl)

instance (s : Fin 12) : ClosedOff (loOff s) := ⟨loOff s, rfl⟩
instance (s : Fin 12) : ClosedOff (hiOff s) := ⟨hiOff s, rfl⟩
instance (r : ℕ) : ClosedOff (gOff r) := ⟨gOff r, rfl⟩
instance (b : Fin 16) : ClosedOff (dOff b) := ⟨dOff b, rfl⟩
instance (b : Fin 16) : ClosedOff (oOff b) := ⟨oOff b, rfl⟩

/-! ## The loops' offsets in closed form -/

theorem off1_eq : ∀ k : Fin k0_t1_loop.trips, k0_off1 k = semOff (Ring.sl 12 k.val) := by decide +kernel
theorem off2_eq : ∀ k : Fin k0_t1_loop.trips, k0_off2 k = loOff (Ring.sl 12 k.val) := by decide +kernel
theorem off3_eq : ∀ k : Fin k0_t1_loop.trips, k0_off3 k = gOff (k.val * 256) := by decide +kernel
theorem off4_eq : ∀ k : Fin k0_t1_loop.trips, k0_off4 k = hiOff (Ring.sl 12 k.val) := by decide +kernel
theorem off5_eq : ∀ k : Fin k0_t1_loop.trips, k0_off5 k = gOff (7168 + k.val * 256) := by decide +kernel
theorem off6_eq : ∀ k : Fin k0_t1_loop.trips, k0_off6 k = loOff (Ring.sl 12 k.val) := by decide +kernel
theorem off7_eq : ∀ k : Fin k0_t1_loop.trips, k0_off7 k = ![0, k.val * 256] := by decide +kernel
theorem off8_eq : ∀ k : Fin k0_t1_loop.trips, k0_off8 k = ![0, 7168 + k.val * 256] := by decide +kernel
theorem off9_eq : ∀ k : Fin k0_t1_loop.trips, k0_off9 k = ![k.val, 0, 0] := by decide +kernel
theorem cond1_iff : ∀ k : Fin k0_t1_loop.trips, k0_cond1 k = 1#1 ↔ k.val < 16 := by decide +kernel
theorem cond2_iff : ∀ k : Fin k0_t1_loop.trips, k0_cond2 k = 1#1 ↔ 16 ≤ k.val := by decide +kernel
theorem off10_eq : ∀ k : Fin k0_t1_loop.trips, k0_off10 k = semOff (Ring.sl 12 k.val) := by decide +kernel
theorem off11_eq : ∀ k : Fin k0_t1_loop.trips, k0_off11 k = loOff (Ring.sl 12 k.val) := by decide +kernel
theorem off12_eq : ∀ k : Fin k0_t1_loop.trips, k.val < 16 → k0_off12 k = gOff ((k.val + 12) * 256) := by decide +kernel
theorem off13_eq : ∀ k : Fin k0_t1_loop.trips, k0_off13 k = hiOff (Ring.sl 12 k.val) := by decide +kernel
theorem off14_eq : ∀ k : Fin k0_t1_loop.trips, k.val < 16 → k0_off14 k = gOff (7168 + (k.val + 12) * 256) := by decide +kernel
theorem off15_eq : ∀ k : Fin k0_t1_loop.trips, k0_off15 k = semOff (Ring.sl 12 k.val) := by decide +kernel
theorem off16_eq : ∀ k : Fin k0_t1_loop.trips, k0_off16 k = loOff (Ring.sl 12 k.val) := by decide +kernel
theorem off17_eq : ∀ k : Fin k0_t1_loop.trips, 16 ≤ k.val → k0_off17 k = dOff (Ring.bk 16 (k.val - 16)) := by decide +kernel
theorem off18_eq : ∀ k : Fin k0_t2_loop.trips, k0_off18 k = semOff (Ring.sl 12 (k.val + 28)) := by decide +kernel
theorem off19_eq : ∀ k : Fin k0_t2_loop.trips, k0_off19 k = loOff (Ring.sl 12 (k.val + 28)) := by decide +kernel
theorem off20_eq : ∀ k : Fin k0_t2_loop.trips, k0_off20 k = dOff (Ring.bk 16 k.val) := by decide +kernel
theorem off21_eq : ∀ k : Fin k0_t2_loop.trips, k0_off21 k = loOff (Ring.sl 12 (k.val + 28)) := by decide +kernel
theorem off22_eq : ∀ k : Fin k0_t2_loop.trips, k0_off22 k = oOff (Ring.bk 16 k.val) := by decide +kernel
theorem off23_eq : ∀ k : Fin k0_t2_loop.trips, k0_off23 k = oOff (Ring.bk 16 k.val) := by decide +kernel
theorem cond3_iff : ∀ k : Fin k0_t2_loop.trips, ¬ k0_cond3 k = 1#1 := by decide +kernel
theorem cond4_iff : ∀ k : Fin k0_t2_loop.trips, k0_cond4 k = 1#1 ↔ k.val < 4 := by decide +kernel
theorem off29_eq : ∀ k : Fin k0_t2_loop.trips, k0_off29 k = semOff (Ring.sl 12 (k.val + 28)) := by decide +kernel
theorem off30_eq : ∀ k : Fin k0_t2_loop.trips, k0_off30 k = loOff (Ring.sl 12 (k.val + 28)) := by decide +kernel
theorem off31_eq : ∀ k : Fin k0_t2_loop.trips, k.val < 4 → k0_off31 k = dOff (Ring.bk 16 (k.val + 12)) := by decide +kernel
theorem off32_eq : ∀ k : Fin k0_t2_loop.trips, k0_off32 k = oOff (Ring.bk 16 k.val) := by decide +kernel
theorem off33_eq : ∀ k : Fin k0_t3_loop.trips, k0_off33 k = oOff (Ring.bk 16 k.val) := by decide +kernel

instance (k : Fin k0_t1_loop.trips) : ClosedOff (k0_off6 k) := ⟨loOff (Ring.sl 12 k.val), off6_eq k⟩
instance (k : Fin k0_t1_loop.trips) : ClosedOff (k0_off7 k) := ⟨![0, k.val * 256], off7_eq k⟩
instance (k : Fin k0_t1_loop.trips) : ClosedOff (k0_off8 k) := ⟨![0, 7168 + k.val * 256], off8_eq k⟩
instance (k : Fin k0_t1_loop.trips) : ClosedOff (k0_off9 k) := ⟨![k.val, 0, 0], off9_eq k⟩
instance (k : Fin k0_t2_loop.trips) : ClosedOff (k0_off21 k) := ⟨loOff (Ring.sl 12 (k.val + 28)), off21_eq k⟩
instance (k : Fin k0_t2_loop.trips) : ClosedOff (k0_off22 k) := ⟨oOff (Ring.bk 16 k.val), off22_eq k⟩
instance (k : Fin k0_t2_loop.trips) : ClosedOff (k0_off23 k) := ⟨oOff (Ring.bk 16 k.val), off23_eq k⟩

/-! ## The kernel's slices are these names -/

theorem csm_congr {off : Fin 1 → Nat} {s : Fin 12} (e : off = semOff s) (hh) :
    (cc0_scratch11.slice (Rect.unit (s := S12) off S1.size hh)).squeeze S_ squeezes_S1_S_ = csm s :=
  congrArg (fun A : DmaSems sig S1 => A.squeeze S_ squeezes_S1_S_) (SemArray.slice_unit_congr _ e _ _)
theorem lo_congr {off : Fin 3 → Nat} {s : Fin 12} (e : off = loOff s) (hh hs) :
    (ringM.slice (Rect.unit (s := S12x512x8192) off S1x256x8192.size hh) hs).squeeze S256x8192 squeezes_S1x256x8192_S256x8192 = loSlot s :=
  congrArg (fun M : Memref sig .tc .vmem S1x256x8192 .fp8e4m3 => M.squeeze S256x8192 squeezes_S1x256x8192_S256x8192) (Memref.slice_unit_congr _ e _ _ _ _)
theorem hi_congr {off : Fin 3 → Nat} {s : Fin 12} (e : off = hiOff s) (hh hs) :
    (ringM.slice (Rect.unit (s := S12x512x8192) off S1x256x8192.size hh) hs).squeeze S256x8192 squeezes_S1x256x8192_S256x8192 = hiSlot s :=
  congrArg (fun M : Memref sig .tc .vmem S1x256x8192 .fp8e4m3 => M.squeeze S256x8192 squeezes_S1x256x8192_S256x8192) (Memref.slice_unit_congr _ e _ _ _ _)
theorem d_congr {off : Fin 3 → Nat} {s : Fin 12} (e : off = loOff s) (hh hs) :
    (ringM.slice (Rect.unit (s := S12x512x8192) off S1x512x7168.size hh) hs).squeeze S512x7168 squeezes_S1x512x7168_S512x7168 = dSlot s :=
  congrArg (fun M : Memref sig .tc .vmem S1x512x7168 .fp8e4m3 => M.squeeze S512x7168 squeezes_S1x512x7168_S512x7168) (Memref.slice_unit_congr _ e _ _ _ _)
theorem gB_congr {off : Fin 2 → Nat} {b : ℕ} (e : off = gOff b) (hh hs) :
    wguM.slice (Rect.unit (s := S14336x8192) off S256x8192.size hh) hs = gB b := Memref.slice_unit_congr _ e _ _ _ (fun _ => rfl)
theorem dB_congr {off : Fin 2 → Nat} {b : Fin 16} (e : off = dOff b) (hh hs) :
    wdM.slice (Rect.unit (s := S8192x7168) off S512x7168.size hh) hs = dB b := Memref.slice_unit_congr _ e _ _ _ (fun _ => rfl)
theorem ovB_congr {off : Fin 2 → Nat} {b : Fin 16} (e : off = oOff b) (hh hs) :
    ovM.slice (Rect.unit (s := S24x8192) off S24x512.size hh) hs = ovB b := Memref.slice_unit_congr _ e _ _ _ (fun _ => rfl)
theorem oB_congr {off : Fin 2 → Nat} {b : Fin 16} (e : off = oOff b) (hh hs) :
    outM.slice (Rect.unit (s := S24x8192) off S24x512.size hh) hs = oB b := Memref.slice_unit_congr _ e _ _ _ (fun _ => rfl)

/-- The prologue's slices, at literal offsets. -/
theorem ofNat_of_inb {n : ℕ} (h : n < 12) : (Fin.ofNat 12 n).val = n := by simp [Fin.ofNat, Nat.mod_eq_of_lt h]
@[sl_canon] theorem cnL (n : ℕ) (hh) : (cc0_scratch11.slice (Rect.unit (s := S12) ![n] S1.size hh)).squeeze S_ squeezes_S1_S_ = csm (Fin.ofNat 12 n) :=
  csm_congr (by have h : n + 1 ≤ 12 := hh 0; rw [semOff, ofNat_of_inb (by omega)]) _
@[sl_canon] theorem cnLlo (n : ℕ) (hh hs) : (ringM.slice (Rect.unit (s := S12x512x8192) ![n, 0, 0] S1x256x8192.size hh) hs).squeeze S256x8192 squeezes_S1x256x8192_S256x8192 = loSlot (Fin.ofNat 12 n) :=
  lo_congr (by have h : n + 1 ≤ 12 := hh 0; rw [loOff, ofNat_of_inb (by omega)]) _ _
@[sl_canon] theorem cnLhi (n : ℕ) (hh hs) : (ringM.slice (Rect.unit (s := S12x512x8192) ![n, 256, 0] S1x256x8192.size hh) hs).squeeze S256x8192 squeezes_S1x256x8192_S256x8192 = hiSlot (Fin.ofNat 12 n) :=
  hi_congr (by have h : n + 1 ≤ 12 := hh 0; rw [hiOff, ofNat_of_inb (by omega)]) _ _
@[sl_canon] theorem cnLg (n : ℕ) (hh hs) : wguM.slice (Rect.unit (s := S14336x8192) ![n, 0] S256x8192.size hh) hs = gB n :=
  gB_congr (by have h : n + 256 ≤ 14336 := hh 0; rw [gOff, Nat.min_eq_left (by omega)]) _ _

section Canon
variable (k : Fin k0_t1_loop.trips) (j : Fin k0_t2_loop.trips) (i : Fin k0_t3_loop.trips)

@[sl_canon] theorem cn1 (hh) : (cc0_scratch11.slice (Rect.unit (s := S12) (k0_off1 k) S1.size hh)).squeeze S_ squeezes_S1_S_ = csm (Ring.sl 12 k.val) := csm_congr (off1_eq k) _
@[sl_canon] theorem cn2 (hh hs) : (ringM.slice (Rect.unit (s := S12x512x8192) (k0_off2 k) S1x256x8192.size hh) hs).squeeze S256x8192 squeezes_S1x256x8192_S256x8192 = loSlot (Ring.sl 12 k.val) := lo_congr (off2_eq k) _ _
@[sl_canon] theorem cn3 (hh hs) : wguM.slice (Rect.unit (s := S14336x8192) (k0_off3 k) S256x8192.size hh) hs = gB (k.val * 256) := gB_congr (off3_eq k) _ _
@[sl_canon] theorem cn4 (hh hs) : (ringM.slice (Rect.unit (s := S12x512x8192) (k0_off4 k) S1x256x8192.size hh) hs).squeeze S256x8192 squeezes_S1x256x8192_S256x8192 = hiSlot (Ring.sl 12 k.val) := hi_congr (off4_eq k) _ _
@[sl_canon] theorem cn5 (hh hs) : wguM.slice (Rect.unit (s := S14336x8192) (k0_off5 k) S256x8192.size hh) hs = gB (7168 + k.val * 256) := gB_congr (off5_eq k) _ _
@[sl_canon] theorem cn10 (hh) : (cc0_scratch11.slice (Rect.unit (s := S12) (k0_off10 k) S1.size hh)).squeeze S_ squeezes_S1_S_ = csm (Ring.sl 12 k.val) := csm_congr (off10_eq k) _
@[sl_canon] theorem cn11 (hh hs) : (ringM.slice (Rect.unit (s := S12x512x8192) (k0_off11 k) S1x256x8192.size hh) hs).squeeze S256x8192 squeezes_S1x256x8192_S256x8192 = loSlot (Ring.sl 12 k.val) := lo_congr (off11_eq k) _ _
@[sl_canon] theorem cn12 (hk : k.val < 16) (hh hs) : wguM.slice (Rect.unit (s := S14336x8192) (k0_off12 k) S256x8192.size hh) hs = gB ((k.val + 12) * 256) := gB_congr (off12_eq k hk) _ _
@[sl_canon] theorem cn13 (hh hs) : (ringM.slice (Rect.unit (s := S12x512x8192) (k0_off13 k) S1x256x8192.size hh) hs).squeeze S256x8192 squeezes_S1x256x8192_S256x8192 = hiSlot (Ring.sl 12 k.val) := hi_congr (off13_eq k) _ _
@[sl_canon] theorem cn14 (hk : k.val < 16) (hh hs) : wguM.slice (Rect.unit (s := S14336x8192) (k0_off14 k) S256x8192.size hh) hs = gB (7168 + (k.val + 12) * 256) := gB_congr (off14_eq k hk) _ _
@[sl_canon] theorem cn15 (hh) : (cc0_scratch11.slice (Rect.unit (s := S12) (k0_off15 k) S1.size hh)).squeeze S_ squeezes_S1_S_ = csm (Ring.sl 12 k.val) := csm_congr (off15_eq k) _
@[sl_canon] theorem cn16 (hh hs) : (ringM.slice (Rect.unit (s := S12x512x8192) (k0_off16 k) S1x512x7168.size hh) hs).squeeze S512x7168 squeezes_S1x512x7168_S512x7168 = dSlot (Ring.sl 12 k.val) := d_congr (off16_eq k) _ _
@[sl_canon] theorem cn17 (hk : 16 ≤ k.val) (hh hs) : wdM.slice (Rect.unit (s := S8192x7168) (k0_off17 k) S512x7168.size hh) hs = dB (Ring.bk 16 (k.val - 16)) := dB_congr (off17_eq k hk) _ _
@[sl_canon] theorem cn18 (hh) : (cc0_scratch11.slice (Rect.unit (s := S12) (k0_off18 j) S1.size hh)).squeeze S_ squeezes_S1_S_ = csm (Ring.sl 12 (j.val + 28)) := csm_congr (off18_eq j) _
@[sl_canon] theorem cn19 (hh hs) : (ringM.slice (Rect.unit (s := S12x512x8192) (k0_off19 j) S1x512x7168.size hh) hs).squeeze S512x7168 squeezes_S1x512x7168_S512x7168 = dSlot (Ring.sl 12 (j.val + 28)) := d_congr (off19_eq j) _ _
@[sl_canon] theorem cn20 (hh hs) : wdM.slice (Rect.unit (s := S8192x7168) (k0_off20 j) S512x7168.size hh) hs = dB (Ring.bk 16 j.val) := dB_congr (off20_eq j) _ _
@[sl_canon] theorem cn29 (hh) : (cc0_scratch11.slice (Rect.unit (s := S12) (k0_off29 j) S1.size hh)).squeeze S_ squeezes_S1_S_ = csm (Ring.sl 12 (j.val + 28)) := csm_congr (off29_eq j) _
@[sl_canon] theorem cn30 (hh hs) : (ringM.slice (Rect.unit (s := S12x512x8192) (k0_off30 j) S1x512x7168.size hh) hs).squeeze S512x7168 squeezes_S1x512x7168_S512x7168 = dSlot (Ring.sl 12 (j.val + 28)) := d_congr (off30_eq j) _ _
@[sl_canon] theorem cn31 (hk : j.val < 4) (hh hs) : wdM.slice (Rect.unit (s := S8192x7168) (k0_off31 j) S512x7168.size hh) hs = dB (Ring.bk 16 (j.val + 12)) := dB_congr (off31_eq j hk) _ _
@[sl_canon] theorem cn32v (hh hs) : ovM.slice (Rect.unit (s := S24x8192) (k0_off32 j) S24x512.size hh) hs = ovB (Ring.bk 16 j.val) := ovB_congr (off32_eq j) _ _
@[sl_canon] theorem cn32 (hh hs) : outM.slice (Rect.unit (s := S24x8192) (k0_off32 j) S24x512.size hh) hs = oB (Ring.bk 16 j.val) := oB_congr (off32_eq j) _ _
@[sl_canon] theorem cn33v (hh hs) : ovM.slice (Rect.unit (s := S24x8192) (k0_off33 i) S24x512.size hh) hs = ovB (Ring.bk 16 i.val) := ovB_congr (off33_eq i) _ _
@[sl_canon] theorem cn33 (hh hs) : outM.slice (Rect.unit (s := S24x8192) (k0_off33 i) S24x512.size hh) hs = oB (Ring.bk 16 i.val) := oB_congr (off33_eq i) _ _

end Canon

end Cert.Proof.Kernel

end
-- ==== Proof.Pieces.lean ====
/-
  The resources of the weight ring: blocks of the weight arrays at home, a slot's two halves, its down window and the
  rest, what a copy leaves in each, and a slot cut and joined.
-/
module

public import proofs.«01_k».proof.Proof.Ring
public import Idealize.ShloMosaic.Lib.ValueLayout
public import Idealize.ShloMosaic.Lib.VecWindow

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) 𝕄 := embL
abbrev 𝒱₀ : Variants := Variants.none

/-- The whole of ring slot `s`, as the body loads it. -/
def slM (s : Fin 12) : Memref sig .tc .vmem S1x512x8192 .fp8e4m3 :=
  ringM.slice (Rect.unit (s := S12x512x8192) (loOff s) S1x512x8192.size (slOff_inb s)) (fun _ => rfl)

/-! ## Contents -/

/-- Gate/up weight row `r`, lane `l`. -/
def wAt (W : S14336x8192.Idx → Elt F .fp8e4m3) (r l : ℕ) : Elt F .fp8e4m3 := W (ix2 (Fin.ofNat 14336 r) (Fin.ofNat 8192 l))
/-- Down weight row `r`, lane `l`. -/
def dAt (D : S8192x7168.Idx → Elt F .fp8e4m3) (r l : ℕ) : Elt F .fp8e4m3 := D (ix2 (Fin.ofNat 8192 r) (Fin.ofNat 7168 l))
/-- Gate/up chunk `k` as a ring slot holds it: 256 gate rows above 256 up rows. -/
def chunkG (W : S14336x8192.Idx → Elt F .fp8e4m3) (k r l : ℕ) : Elt F .fp8e4m3 :=
  if r < 256 then wAt W (k * 256 + r) l else wAt W (7168 + k * 256 + (r - 256)) l
/-- Ring contents agreeing with chunk `k` in every slot. -/
def ringG (W : S14336x8192.Idx → Elt F .fp8e4m3) (k : ℕ) : S12x512x8192.Idx → Elt F .fp8e4m3 := fun y => chunkG W k (y 1).val (y 2).val

section Sets

abbrev loSet (s : Fin 12) : Finset S12x512x8192.Idx := (loSlot s).view.set
abbrev hiSet (s : Fin 12) : Finset S12x512x8192.Idx := (hiSlot s).view.set
abbrev dwSet (s : Fin 12) : Finset S12x512x8192.Idx := (dSlot s).view.set
abbrev slSet (s : Fin 12) : Finset S12x512x8192.Idx := (slM s).view.set
abbrev restSet (s : Fin 12) : Finset S12x512x8192.Idx := slSet s \ dwSet s

theorem lo_set (s : Fin 12) : loSet s = (Rect.unit (s := S12x512x8192) (loOff s) S1x256x8192.size (loOff_inb s)).set :=
  ((View.set_reshape _ _).trans (View.set_slice_whole _ _))
theorem hi_set (s : Fin 12) : hiSet s = (Rect.unit (s := S12x512x8192) (hiOff s) S1x256x8192.size (hiOff_inb s)).set :=
  ((View.set_reshape _ _).trans (View.set_slice_whole _ _))
theorem dw_set (s : Fin 12) : dwSet s = (Rect.unit (s := S12x512x8192) (loOff s) S1x512x7168.size (dwOff_inb s)).set :=
  ((View.set_reshape _ _).trans (View.set_slice_whole _ _))
theorem sl_set (s : Fin 12) : slSet s = (Rect.unit (s := S12x512x8192) (loOff s) S1x512x8192.size (slOff_inb s)).set :=
  View.set_slice_whole _ _

theorem mem_lo (s : Fin 12) (y : S12x512x8192.Idx) : y ∈ loSet s ↔ (y 0).val = s.val ∧ (y 1).val < 256 := by
  have h2 : (y 2).val < 8192 := (y 2).isLt
  refine (iff_of_eq (congrArg (y ∈ ·) (lo_set s))).trans (Rect.mem_set_unit.trans ⟨fun h => ?_, ?_⟩)
  · have := h 0; have := h 1; simp at *; omega
  · rintro ⟨h0, h1⟩ a; fin_cases a <;> simp <;> omega
theorem mem_hi (s : Fin 12) (y : S12x512x8192.Idx) : y ∈ hiSet s ↔ (y 0).val = s.val ∧ 256 ≤ (y 1).val := by
  have h1 : (y 1).val < 512 := (y 1).isLt
  have h2 : (y 2).val < 8192 := (y 2).isLt
  refine (iff_of_eq (congrArg (y ∈ ·) (hi_set s))).trans (Rect.mem_set_unit.trans ⟨fun h => ?_, ?_⟩)
  · have := h 0; have := h 1; simp at *; omega
  · rintro ⟨h0, h1⟩ a; fin_cases a <;> simp <;> omega
theorem mem_dw (s : Fin 12) (y : S12x512x8192.Idx) : y ∈ dwSet s ↔ (y 0).val = s.val ∧ (y 2).val < 7168 := by
  have h1 : (y 1).val < 512 := (y 1).isLt
  refine (iff_of_eq (congrArg (y ∈ ·) (dw_set s))).trans (Rect.mem_set_unit.trans ⟨fun h => ?_, ?_⟩)
  · have := h 0; have := h 2; simp at *; omega
  · rintro ⟨h0, h1⟩ a; fin_cases a <;> simp <;> omega
theorem mem_sl (s : Fin 12) (y : S12x512x8192.Idx) : y ∈ slSet s ↔ (y 0).val = s.val := by
  have h1 : (y 1).val < 512 := (y 1).isLt
  have h2 : (y 2).val < 8192 := (y 2).isLt
  refine (iff_of_eq (congrArg (y ∈ ·) (sl_set s))).trans (Rect.mem_set_unit.trans ⟨fun h => ?_, ?_⟩)
  · have := h 0; simp at *; omega
  · rintro h0 a; fin_cases a <;> simp <;> omega

theorem sl_eq_union (s : Fin 12) : slSet s = loSet s ∪ hiSet s := by
  ext y; rw [Finset.mem_union, mem_sl, mem_lo, mem_hi]; omega
theorem lo_disj_hi (s : Fin 12) : Disjoint (loSet s) (hiSet s) :=
  Finset.disjoint_left.mpr fun y h h' => by rw [mem_lo] at h; rw [mem_hi] at h'; omega
theorem sl_eq_union' (s : Fin 12) : slSet s = dwSet s ∪ restSet s := by
  ext y; rw [Finset.mem_union, Finset.mem_sdiff, mem_sl, mem_dw]; tauto

end Sets

section Pieces
variable (c : Dev nD) (W : Buf (Elt F) (wguM.view.loc (c : Thread nD τ))) (D : Buf (Elt F) (wdM.view.loc (c : Thread nD τ)))

abbrev cellP (s : Fin 12) : sProp 𝕄 := semVal ((c : Thread nD τ), SemLoc.dma (csm s).sem) 0
abbrev loP (s : Fin 12) (f : Buf (Elt F) ((loSlot s).view.loc (c : Thread nD τ))) : sProp 𝕄 := (loSlot s).view.loc (c : Thread nD τ) ↦[(loSlot s).view.set]{fullShare} f
abbrev hiP (s : Fin 12) (f : Buf (Elt F) ((hiSlot s).view.loc (c : Thread nD τ))) : sProp 𝕄 := (hiSlot s).view.loc (c : Thread nD τ) ↦[(hiSlot s).view.set]{fullShare} f
abbrev dwP (s : Fin 12) (f : Buf (Elt F) ((dSlot s).view.loc (c : Thread nD τ))) : sProp 𝕄 := (dSlot s).view.loc (c : Thread nD τ) ↦[(dSlot s).view.set]{fullShare} f
abbrev slP (s : Fin 12) (f : Buf (Elt F) ((slM s).view.loc (c : Thread nD τ))) : sProp 𝕄 := (slM s).view.loc (c : Thread nD τ) ↦[(slM s).view.set]{fullShare} f
abbrev restP (s : Fin 12) (f : Buf (Elt F) ((slM s).view.loc (c : Thread nD τ))) : sProp 𝕄 := (slM s).view.loc (c : Thread nD τ) ↦[restSet s]{fullShare} f
abbrev gP (r : ℕ) : sProp 𝕄 := (gB r).view.loc (c : Thread nD τ) ↦[(gB r).view.set]{fullShare} W
abbrev dP (b : Fin 16) : sProp 𝕄 := (dB b).view.loc (c : Thread nD τ) ↦[(dB b).view.set]{fullShare} D

/-- What a copy of the rows from `r` on leaves in a slot's gate half; -/
abbrev landLo (s : Fin 12) (r : ℕ) : Buf (Elt F) ((loSlot s).view.loc (c : Thread nD τ)) :=
  (loSlot s).view.writes (Elt F) (loSlot s).view.junk [⟨Rect.whole S256x8192, ReadAs.same.apply ((gB r).view.read (Elt F) W)⟩]
/-- in its up half; -/
abbrev landHi (s : Fin 12) (r : ℕ) : Buf (Elt F) ((hiSlot s).view.loc (c : Thread nD τ)) :=
  (hiSlot s).view.writes (Elt F) (hiSlot s).view.junk [⟨Rect.whole S256x8192, ReadAs.same.apply ((gB r).view.read (Elt F) W)⟩]
/-- and a copy of down block `b` in its down window, over `f`. -/
abbrev landD (s : Fin 12) (b : Fin 16) (f : Buf (Elt F) ((dSlot s).view.loc (c : Thread nD τ))) : Buf (Elt F) ((dSlot s).view.loc (c : Thread nD τ)) :=
  (dSlot s).view.writes (Elt F) f [⟨Rect.whole S512x7168, ReadAs.same.apply ((dB b).view.read (Elt F) D)⟩]

/-- The two deliveries of gate/up chunk `k` into slot `s`. -/
abbrev delG (s : Fin 12) (k : ℕ) : Fin 2 → sProp 𝕄
  | ⟨0, _⟩ => iprop(loP c s (landLo c W s (k * 256)) ∗ gP c W (k * 256))
  | ⟨1, _⟩ => iprop(hiP c s (landHi c W s (7168 + k * 256)) ∗ gP c W (7168 + k * 256))
theorem pts_st {cs : Space} {sh : Shape} {e : EltTy} (m : Memref sig .tc cs sh e) (f : Buf (Elt F) (m.view.loc (c : Thread nD τ))) :
    BI.Storable (upEmb : UEmb _ 𝕄) (m.view.loc (c : Thread nD τ) ↦[m.view.set]{fullShare} f) := inferInstance
instance loP_st (s : Fin 12) (f) : BI.Storable (upEmb : UEmb _ 𝕄) (loP (F := F) c s f) := pts_st c (loSlot s) f
instance hiP_st (s : Fin 12) (f) : BI.Storable (upEmb : UEmb _ 𝕄) (hiP (F := F) c s f) := pts_st c (hiSlot s) f
instance gP_st (r : ℕ) : BI.Storable (upEmb : UEmb _ 𝕄) (gP (F := F) c W r) := pts_st c (gB r) W
instance delG_st (s : Fin 12) (k : ℕ) : ∀ t, BI.Storable (upEmb : UEmb _ 𝕄) (delG (F := F) c W s k t)
  | ⟨0, _⟩ => by unfold delG; infer_instance
  | ⟨1, _⟩ => by unfold delG; infer_instance

/-- Slot `s` with gate/up chunk `k` in flight: `j` of its two copies issued, `u` units waited for. -/
abbrev batG (s : Fin 12) (k j u : ℕ) : sProp 𝕄 :=
  Transfers.Batch countersEmb (c : Thread nD τ) (SemLoc.dma (csm s).sem) () 65536 (delG c W s k) j u
/-- Slot `s`'s down window with down block `b` in flight, issued over `f`. -/
abbrev flD (s : Fin 12) (b : Fin 16) (f : Buf (Elt F) ((dSlot s).view.loc (c : Thread nD τ))) : sProp 𝕄 :=
  Transfers.Flight countersEmb (c : Thread nD τ) (SemLoc.dma (csm s).sem) () 114688 iprop(dwP c s (landD c D s b f) ∗ dP c D b)

end Pieces

section Cut
variable (c : Dev nD) (W : Buf (Elt F) (wguM.view.loc (c : Thread nD τ))) (D : Buf (Elt F) (wdM.view.loc (c : Thread nD τ)))

/-- A piece held by a view's own elements is known by what the view reads. -/
theorem pts_of_read {cs : Space} {sh : Shape} {e : EltTy} (m : Memref sig .tc cs sh e) (g g' : Buf (Elt F) (m.view.loc (c : Thread nD τ)))
    (h : m.view.read (Elt F) g = m.view.read (Elt F) g') :
    (m.view.loc (c : Thread nD τ) ↦[m.view.set]{fullShare} g : sProp 𝕄) = m.view.loc (c : Thread nD τ) ↦[m.view.set]{fullShare} g' := by
  have e1 := pointsTo_rep (Ix := Unit) (Name := ℕ) (U := UU nD τ) (Lvl := ℕ) (c : Thread nD τ) m g fullShare
  have e2 := pointsTo_rep (Ix := Unit) (Name := ℕ) (U := UU nD τ) (Lvl := ℕ) (c : Thread nD τ) m g' fullShare
  rw [e1, e2, h]

/-- A slot is its two halves; -/
theorem slot_halves (s : Fin 12) (f) : slP (F := F) c s f = iprop(loP c s f ∗ hiP c s f) := by
  have h := pointsTo_union (Ix := Unit) (Name := ℕ) (U := UU nD τ) (Lvl := ℕ) (ℓ := (slM s).view.loc (c : Thread nD τ)) (q := fullShare) (f := f) (lo_disj_hi s)
  exact (congrArg (fun S => ((slM s).view.loc (c : Thread nD τ) ↦[S]{fullShare} f : sProp 𝕄)) (sl_eq_union s)).trans (equiv_iff.mp ⟨h.1, h.2⟩)
/-- or its down window and the rest. -/
theorem slot_down (s : Fin 12) (f) : slP (F := F) c s f = iprop(dwP c s f ∗ restP c s f) := by
  have h := pointsTo_union (Ix := Unit) (Name := ℕ) (U := UU nD τ) (Lvl := ℕ) (ℓ := (slM s).view.loc (c : Thread nD τ)) (q := fullShare) (f := f)
    (Finset.disjoint_sdiff (s := dwSet s) (t := slSet s))
  exact (congrArg (fun S => ((slM s).view.loc (c : Thread nD τ) ↦[S]{fullShare} f : sProp 𝕄)) (sl_eq_union' s)).trans (equiv_iff.mp ⟨h.1, h.2⟩)

theorem read_lo (s : Fin 12) (f : S12x512x8192.Idx → Elt F .fp8e4m3) (r : Fin 256) (l : Fin 8192) :
    (loSlot s).view.read (Elt F) f (ix2 r l) = f (ix3 s ⟨r.val, by omega⟩ l) := by
  show f ((Rect.unit (s := S12x512x8192) (loOff s) S1x256x8192.size (loOff_inb s)).emb (Shape.reshapeEquiv _ (ix2 r l))) = _
  rw [reshapeEquiv_ix2_1ab]
  congr 1; funext a; apply Fin.ext; fin_cases a <;> simp
theorem read_hi (s : Fin 12) (f : S12x512x8192.Idx → Elt F .fp8e4m3) (r : Fin 256) (l : Fin 8192) :
    (hiSlot s).view.read (Elt F) f (ix2 r l) = f (ix3 s ⟨256 + r.val, by omega⟩ l) := by
  show f ((Rect.unit (s := S12x512x8192) (hiOff s) S1x256x8192.size (hiOff_inb s)).emb (Shape.reshapeEquiv _ (ix2 r l))) = _
  rw [reshapeEquiv_ix2_1ab]
  congr 1; funext a; apply Fin.ext; fin_cases a <;> simp
theorem read_gB (W : S14336x8192.Idx → Elt F .fp8e4m3) (n : ℕ) (hn : n ≤ 14080) (r : Fin 256) (l : Fin 8192) :
    (gB n).view.read (Elt F) W (ix2 r l) = wAt W (n + r.val) l.val := by
  show W ((Rect.unit (s := S14336x8192) (gOff n) S256x8192.size (gOff_inb n)).emb (ix2 r l)) = W _
  congr 1; funext a; apply Fin.ext; fin_cases a
  · show min n 14080 + 1 * r.val = (n + r.val) % 14336
    rw [Nat.min_eq_left hn, Nat.mod_eq_of_lt (by omega)]; omega
  · show 0 + 1 * l.val = l.val % 8192
    rw [Nat.mod_eq_of_lt l.isLt]; omega

/-- A landed gate half holds the chunk's contents; -/
theorem landLo_eq (s : Fin 12) (k : ℕ) (hk : k < 28) :
    loP (F := F) c s (landLo c W s (k * 256)) = loP c s (ringG W k) := by
  refine pts_of_read c (loSlot s) _ _ ((View.read_writes_whole _ _ _).trans (funext fun x => ?_))
  obtain ⟨r, l, rfl⟩ : ∃ (r : Fin 256) (l : Fin 8192), x = ix2 r l := ⟨x 0, x 1, by funext a; fin_cases a <;> rfl⟩
  rw [read_lo]
  show (gB (k * 256)).view.read (Elt F) W (ix2 r l) = _
  rw [read_gB W _ (by omega)]
  show _ = chunkG W k r.val l.val
  rw [chunkG, if_pos r.isLt]
/-- and a landed up half. -/
theorem landHi_eq (s : Fin 12) (k : ℕ) (hk : k < 28) :
    hiP (F := F) c s (landHi c W s (7168 + k * 256)) = hiP c s (ringG W k) := by
  refine pts_of_read c (hiSlot s) _ _ ((View.read_writes_whole _ _ _).trans (funext fun x => ?_))
  obtain ⟨r, l, rfl⟩ : ∃ (r : Fin 256) (l : Fin 8192), x = ix2 r l := ⟨x 0, x 1, by funext a; fin_cases a <;> rfl⟩
  rw [read_hi]
  show (gB (7168 + k * 256)).view.read (Elt F) W (ix2 r l) = _
  rw [read_gB W _ (by omega)]
  show _ = chunkG W k (256 + r.val) l.val
  rw [chunkG, if_neg (by omega)]
  congr 1; omega

/-- Both copies of a chunk landed are the slot at the chunk's contents. -/
theorem slot_landed (s : Fin 12) (k : ℕ) (hk : k < 28) :
    iprop(loP c s (landLo c W s (k * 256)) ∗ hiP c s (landHi c W s (7168 + k * 256))) ⊢ slP (F := F) c s (ringG W k) := by
  rw [landLo_eq c W s k hk, landHi_eq c W s k hk]
  exact (slot_halves c s (ringG W k)).symm ▸ .rfl
theorem slot_halves_ent (s : Fin 12) (f) : slP (F := F) c s f ⊢ iprop(loP c s f ∗ hiP c s f) := (slot_halves c s f) ▸ .rfl
theorem slot_down_ent (s : Fin 12) (f) : slP (F := F) c s f ⊢ iprop(dwP c s f ∗ restP c s f) := (slot_down c s f) ▸ .rfl

end Cut

end Cert.Proof.Kernel

end
-- ==== Proof.Trip1.lean ====
/-
  One trip of the gate/up loop.
-/
module

public import proofs.«01_k».proof.Proof.Pieces

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ (UU nD τ) ℕ

/-! ## The body's buffers -/

abbrev xM : Memref sig .tc .hbm S24x8192 .bf16 := Memref.whole main_v0
abbrev suM : Memref sig .tc .hbm S1x14336 .f32 := Memref.whole main_v1
abbrev sdM : Memref sig .tc .hbm S1x8192 .f32 := Memref.whole main_v2
abbrev xcM : Memref sig .tc .hbm S24x8192 .fp8e4m3 := Memref.whole main_v3_1
abbrev hcM : Memref sig .tc .hbm S24x7168 .fp8e4m3 := Memref.whole main_v3_3
abbrev xvM : Memref sig .tc .vmem S24x8192 .bf16 := Memref.whole cc0_scratch1
abbrev suvM : Memref sig .tc .vmem S1x14336 .f32 := Memref.whole cc0_scratch2
abbrev sdvM : Memref sig .tc .vmem S1x8192 .f32 := Memref.whole cc0_scratch3
abbrev xqM : Memref sig .tc .vmem S32x8192 .fp8e4m3 := Memref.whole cc0_scratch4
abbrev hqM : Memref sig .tc .vmem S32x7168 .fp8e4m3 := Memref.whole cc0_scratch5
abbrev xcvM : Memref sig .tc .vmem S24x8192 .fp8e4m3 := Memref.whole cc0_scratch6
abbrev hcvM : Memref sig .tc .vmem S24x7168 .fp8e4m3 := Memref.whole cc0_scratch7
abbrev hM : Memref sig .tc .vmem S28x24x256 .f32 := Memref.whole cc0_scratch8
abbrev hxM : Memref sig .tc .vmem S24x256 .f32 := Memref.whole cc0_scratch9

/-- A whole buffer held at contents `f`. -/
abbrev at_ (c : Dev nD) {cs : Space} {sh : Shape} {e : EltTy} (m : Memref sig .tc cs sh e) (f : Buf (Elt F) (m.view.loc (c : Thread nD τ))) : sProp 𝕄 :=
  m.view.loc (c : Thread nD τ) ↦[m.view.set]{fullShare} f

section Trip1
variable (c : Dev nD) (W : Buf (Elt F) (wguM.view.loc (c : Thread nD τ))) (D : Buf (Elt F) (wdM.view.loc (c : Thread nD τ)))
  (arg7 : Memref sig .tc .vmem S1x24 .f32) (harg7 : arg7.IsWhole)
  (arg9 : Memref sig .tc .vmem S1x24 .f32) (harg9 : arg9.IsWhole)
  (v269 : FVec F S24x1 .f32) (v552 : FVec F S24x512 .f32) (v553 : FVec F S24x512 .fp8e4m3)

abbrev trip1 (k : Fin k0_t1_loop.trips) : Prog (TpuEff nD τ sig (Elt F) Λ₀ .tc) Unit :=
  k0_t1_body (F := F) xM (Memref.isWhole_whole _) wguM (Memref.isWhole_whole _) suM (Memref.isWhole_whole _) wdM (Memref.isWhole_whole _)
    sdM (Memref.isWhole_whole _) outM (Memref.isWhole_whole _) xcM (Memref.isWhole_whole _) arg7 harg7 hcM (Memref.isWhole_whole _) arg9 harg9
    ringM (Memref.isWhole_whole _) xvM (Memref.isWhole_whole _) suvM (Memref.isWhole_whole _) sdvM (Memref.isWhole_whole _)
    xqM (Memref.isWhole_whole _) hqM (Memref.isWhole_whole _) xcvM (Memref.isWhole_whole _) hcvM (Memref.isWhole_whole _)
    hM (Memref.isWhole_whole _) hxM (Memref.isWhole_whole _) ovM (Memref.isWhole_whole _)
    cc0_scratch11 cc0_scratch12 cc0_scratch13 v269 v552 v553 k ()

theorem trips1_lt (k : Fin k0_t1_loop.trips) : k.val < 28 := lt_of_lt_of_eq k.isLt (by decide)

/-- A ring slot's load, as plain words. -/
def wch (W : S14336x8192.Idx → Elt F .fp8e4m3) (k : ℕ) : FVec F S1x512x8192 .fp8e4m3 := fun x => chunkG W k (x 1).val (x 2).val
/-- 256 gate/up scales from column `n` on. -/
def suAt (SU : S1x14336.Idx → Elt F .f32) (n : ℕ) : FVec F S1x256 .f32 := fun x => SU (ix2 0 (Fin.ofNat 14336 (n + (x 1).val)))

omit [FloatOps F] in
theorem whole_read (b : Ref sig .tc) (f : b.ty.Contents (Elt F)) (y : b.ty.shape.Idx) : (Memref.whole b).view.read (Elt F) f y = f y := rfl
omit [FloatOps F] in
theorem ring_read (k : Fin k0_t1_loop.trips) (n : ℕ) :
    ringM.view.readAt (Elt F) (Rect.unit (s := S12x512x8192) (k0_off6 k) S1x512x8192.size (k0_off6_inb k)).toLoadRect (ringG W n) = wch W n := by
  funext x
  show chunkG W n (k0_off6 k 1 + 1 * (x 1).val) (k0_off6 k 2 + 1 * (x 2).val) = _
  have e1 : k0_off6 k 1 = 0 := congrFun (off6_eq k) 1
  have e2 : k0_off6 k 2 = 0 := congrFun (off6_eq k) 2
  rw [e1, e2, Nat.zero_add, Nat.zero_add, Nat.one_mul, Nat.one_mul]; rfl

omit [FloatOps F] in
theorem su_read {off : Fin 2 → ℕ} {n : ℕ} (e : off = ![0, n]) (inb : ∀ a, off a + S1x256.size a ≤ S1x14336.size a) (SU : Buf (Elt F) (suvM.view.loc (c : Thread nD τ))) :
    suvM.view.readAt (Elt F) (Rect.unit (s := S1x14336) off S1x256.size inb).toLoadRect SU = suAt SU n := by
  subst e
  funext x
  show SU ((Rect.unit (s := S1x14336) ![0, n] S1x256.size inb).emb x) = SU _
  have h1 : n + 256 ≤ 14336 := inb 1
  have h2 : (x 1).val < 256 := (x 1).isLt
  congr 1; funext a; apply Fin.ext; fin_cases a
  · show 0 + 1 * (x 0).val = 0
    have : (x 0).val < 1 := (x 0).isLt
    omega
  · show n + 1 * (x 1).val = (n + (x 1).val) % 14336
    rw [Nat.mod_eq_of_lt (by omega)]; omega

omit [FloatOps F] in
theorem xq_read (XQ : Buf (Elt F) (xqM.view.loc (c : Thread nD τ))) :
    xqM.view.readAt (Elt F) (Rect.unit (s := S32x8192) ![0, 0] S32x8192.size inb_S32x8192_S32x8192_0_0).toLoadRect XQ = XQ :=
  View.readAt_full _ _ _
omit [FloatOps F] in
theorem hx_read (HX : Buf (Elt F) (hxM.view.loc (c : Thread nD τ))) :
    hxM.view.readAt (Elt F) (Rect.unit (s := S24x256) ![0, 0] S24x256.size inb_S24x256_S24x256_0_0).toLoadRect HX = HX :=
  View.readAt_full _ _ _

/-! ## What a trip computes -/

variable (XQ : Buf (Elt F) (xqM.view.loc (c : Thread nD τ))) (SU : Buf (Elt F) (suvM.view.loc (c : Thread nD τ)))

/-- The gate and up products of chunk `k`. -/
abbrev gateV (k : ℕ) : FVec F S24x256 .f32 := k0_pay2 v269 XQ (wch W k) (suAt SU (k * 256))
abbrev upV (k : ℕ) : FVec F S24x256 .f32 := k0_pay3 v269 XQ (wch W k)
/-- The 24 × 256 block of the hidden layer that chunk `k` gives. -/
def hrow (k : ℕ) : FVec F S1x24x256 .f32 := k0_pay73 (gateV c W v269 XQ SU k) (upV c W v269 XQ k) (suAt SU (7168 + k * 256))
/-- The running block of maxima after chunk `k`. -/
def hmx (k : ℕ) (m : FVec F S24x256 .f32) : FVec F S24x256 .f32 := k0_pay74 (gateV c W v269 XQ SU k) (upV c W v269 XQ k) (suAt SU (7168 + k * 256)) m
/-- `H` with block `k` put at `p`. -/
def hput (H : Buf (Elt F) (hM.view.loc (c : Thread nD τ))) (k : ℕ) (p : FVec F S1x24x256 .f32) : Buf (Elt F) (hM.view.loc (c : Thread nD τ)) :=
  fun y : S28x24x256.Idx => if (y 0).val = k then p (ix3 0 (y 1) (y 2)) else H y

omit [FloatOps F] in
theorem hput_eq (H : Buf (Elt F) (hM.view.loc (c : Thread nD τ))) (k : Fin k0_t1_loop.trips) (p : FVec F S1x24x256 .f32) :
    hM.view.writes (Elt F) H [⟨Rect.unit (s := S28x24x256) (k0_off9 k) S1x24x256.size (k0_off9_inb k), p⟩] = hput c H k.val p := by
  refine funext fun y : S28x24x256.Idx => ?_
  refine (whole_read cc0_scratch8 (hM.view.writes (Elt F) H [⟨Rect.unit (s := S28x24x256) (k0_off9 k) S1x24x256.size (k0_off9_inb k), p⟩]) y).symm.trans ?_
  unfold hput
  by_cases h : (y 0).val = k.val
  · rw [if_pos h]
    refine View.read_writes_cons_unit_of_mem hM.view H _ p [] y (ix3 0 (y 1) (y 2)) (off9_eq k) fun a => ?_
    fin_cases a
    · show (y 0).val = k.val + 0; omega
    · show (y 1).val = 0 + (y 1).val; omega
    · show (y 2).val = 0 + (y 2).val; omega
  · rw [if_neg h]
    refine (View.read_writes_cons_unit_of_not_mem hM.view H _ p [] y (off9_eq k) 0 ?_).trans (whole_read cc0_scratch8 H y)
    show (y 0).val < k.val ∨ k.val + 1 ≤ (y 0).val
    omega
omit [FloatOps F] in
theorem hx_put (HX : Buf (Elt F) (hxM.view.loc (c : Thread nD τ))) (p : FVec F S24x256 .f32) :
    hxM.view.writes (Elt F) HX [⟨Rect.unit (s := S24x256) ![0, 0] S24x256.size inb_S24x256_S24x256_0_0, p⟩] = p := by
  refine funext fun y : S24x256.Idx => (whole_read cc0_scratch9 (hxM.view.writes (Elt F) HX [⟨Rect.unit (s := S24x256) ![0, 0] S24x256.size inb_S24x256_S24x256_0_0, p⟩]) y).symm.trans ?_
  refine View.read_writes_cons_unit_of_mem hxM.view HX _ p [] y y rfl fun a => ?_
  fin_cases a
  · show (y 0).val = 0 + (y 0).val; omega
  · show (y 1).val = 0 + (y 1).val; omega

theorem hput_ent (H : Buf (Elt F) (hM.view.loc (c : Thread nD τ))) (k : Fin k0_t1_loop.trips) (p p' : FVec F S1x24x256 .f32) (e : p = p') :
    at_ c hM (hM.view.writes (Elt F) H [⟨Rect.unit (s := S28x24x256) (k0_off9 k) S1x24x256.size (k0_off9_inb k), p⟩]) ⊢ (at_ c hM (hput c H k.val p') : sProp 𝕄) := by
  subst e; rw [hput_eq]
theorem hx_ent (HX : Buf (Elt F) (hxM.view.loc (c : Thread nD τ))) (p p' : FVec F S24x256 .f32) (e : p = p') :
    at_ c hxM (hxM.view.writes (Elt F) HX [⟨Rect.unit (s := S24x256) ![0, 0] S24x256.size inb_S24x256_S24x256_0_0, p⟩]) ⊢ (at_ c hxM p' : sProp 𝕄) := by
  subst e; rw [hx_put]

/-- Before trip `k`, beside the ring: the quantised input, the scales, the hidden blocks and maxima so far. -/
abbrev side1 (H : Buf (Elt F) (hM.view.loc (c : Thread nD τ))) (HX : Buf (Elt F) (hxM.view.loc (c : Thread nD τ))) : sProp 𝕄 :=
  iprop(at_ c xqM XQ ∗ at_ c suvM SU ∗ at_ c hM H ∗ at_ c hxM HX ∗ ∃ Wt, owes (c : Thread nD τ) 0 Wt)

/-- A trip that issues gate/up chunk `k + 12`. -/
theorem trip1_lo (k : Fin k0_t1_loop.trips) (hk : k.val < 16)
    (H : Buf (Elt F) (hM.view.loc (c : Thread nD τ))) (HX : Buf (Elt F) (hxM.view.loc (c : Thread nD τ))) :
    iprop(batG c W (Ring.sl 12 k.val) k.val 2 0 ∗ iprop(gP c W ((k.val + 12) * 256) ∗ gP c W (7168 + (k.val + 12) * 256)) ∗ side1 c XQ SU H HX)
      ⊢ wp frame (wpE (defs₀ (F := F)) 𝒱₀ (c : Thread nD τ) none) Set.univ (trip1 arg7 harg7 arg9 harg9 v269 v552 v553 k)
        (fun _ => iprop(batG c W (Ring.sl 12 k.val) (k.val + 12) 2 0 ∗ gP c W (k.val * 256) ∗ gP c W (7168 + k.val * 256)
          ∗ side1 c XQ SU (hput c H k.val (hrow c W v269 XQ SU k.val)) (hmx c W v269 XQ SU k.val HX))) := by
  have h28 := trips1_lt k
  have e1 := xq_read c XQ
  have e2 := ring_read c W k k.val
  have e3 := su_read c (off7_eq k) (k0_off7_inb k) SU
  have e4 := su_read c (off8_eq k) (k0_off8_inb k) SU
  have e5 := hx_read c HX
  iintro ⟨HB, ⟨HG0, HG1⟩, HXQ, HSU, HH, HHX, ⟨%Wt, HW⟩⟩
  dsimp only [trip1]
  sl_unfold [k0_t1_body]
  sl_exec
  ihave HS := (slot_landed c W (Ring.sl 12 k.val) k.val h28) $$ [HB_dst0 HB_dst1]
  · isplitl [HB_dst0]; · iexact HB_dst0
    iexact HB_dst1
  imod (Transfers.batch_alloc' (Lvl := ℕ) countersEmb (c : Thread nD τ) () 65536 (delG c W (Ring.sl 12 k.val) (k.val + 12)) (sm := SemLoc.dma (csm (Ring.sl 12 k.val)).sem) (E := Set.univ)) $$ HB with HB
  sl_exec
  have h1 : k0_cond1 k = 1#1 := (cond1_iff k).mpr hk
  have h2 : ¬ k0_cond2 k = 1#1 := fun h => by have := (cond2_iff k).mp h; omega
  ihave HS := (slot_halves_ent c (Ring.sl 12 k.val) (ringG W k.val)) $$ HS
  icases HS with ⟨HS0, HS1⟩
  sl_exec
  sl_step
  have er : trip1_lo.sl.r c W v269 XQ SU k = gateV c W v269 XQ SU k.val := by unfold trip1_lo.sl.r; rw [e1]
  have er1 : trip1_lo.sl.r_1 c W v269 XQ k = upV c W v269 XQ k.val := by unfold trip1_lo.sl.r_1; rw [e1]
  ihave HH := (hput_ent c H k (k0_pay73 (trip1_lo.sl.r c W v269 XQ SU k) (trip1_lo.sl.r_1 c W v269 XQ k) (suAt SU (7168 + k.val * 256)))
    (hrow c W v269 XQ SU k.val) (by rw [er, er1]; rfl)) $$ HH
  ihave HHX := (hx_ent c HX (k0_pay74 (trip1_lo.sl.r c W v269 XQ SU k) (trip1_lo.sl.r_1 c W v269 XQ k) (suAt SU (7168 + k.val * 256))
      (hxM.view.readAt (Elt F) (Rect.unit (s := S24x256) ![0, 0] S24x256.size inb_S24x256_S24x256_0_0).toLoadRect HX))
    (hmx c W v269 XQ SU k.val HX) (by rw [er, er1, e5]; rfl)) $$ HHX
  isplitl [HB]; · iexact HB
  isplitl [HB_src0]; · iexact HB_src0
  isplitl [HB_src1]; · iexact HB_src1
  isplitl [HXQ]; · iexact HXQ
  isplitl [HSU]; · iexact HSU
  isplitl [HH]; · iexact HH
  isplitl [HHX]; · iexact HHX
  iexists _; iexact HW

/-- A trip that issues down chunk `k - 16`. -/
theorem trip1_hi (k : Fin k0_t1_loop.trips) (hk : 16 ≤ k.val)
    (H : Buf (Elt F) (hM.view.loc (c : Thread nD τ))) (HX : Buf (Elt F) (hxM.view.loc (c : Thread nD τ))) :
    iprop(batG c W (Ring.sl 12 k.val) k.val 2 0 ∗ dP c D (Ring.bk 16 (k.val - 16)) ∗ side1 c XQ SU H HX)
      ⊢ wp frame (wpE (defs₀ (F := F)) 𝒱₀ (c : Thread nD τ) none) Set.univ (trip1 arg7 harg7 arg9 harg9 v269 v552 v553 k)
        (fun _ => iprop(iprop((∃ f, flD c D (Ring.sl 12 k.val) (Ring.bk 16 (k.val - 16)) f) ∗ ∃ f, restP c (Ring.sl 12 k.val) f) ∗ gP c W (k.val * 256) ∗ gP c W (7168 + k.val * 256)
          ∗ side1 c XQ SU (hput c H k.val (hrow c W v269 XQ SU k.val)) (hmx c W v269 XQ SU k.val HX))) := by
  have h28 := trips1_lt k
  have e1 := xq_read c XQ
  have e2 := ring_read c W k k.val
  have e3 := su_read c (off7_eq k) (k0_off7_inb k) SU
  have e4 := su_read c (off8_eq k) (k0_off8_inb k) SU
  have e5 := hx_read c HX
  iintro ⟨HB, HD, HXQ, HSU, HH, HHX, ⟨%Wt, HW⟩⟩
  dsimp only [trip1]
  sl_unfold [k0_t1_body]
  sl_exec
  ihave HS := (slot_landed c W (Ring.sl 12 k.val) k.val h28) $$ [HB_dst0 HB_dst1]
  · isplitl [HB_dst0]; · iexact HB_dst0
    iexact HB_dst1
  sl_exec
  have h1 : ¬ k0_cond1 k = 1#1 := fun h => by have := (cond1_iff k).mp h; omega
  have h2 : k0_cond2 k = 1#1 := (cond2_iff k).mpr hk
  ihave HS := (slot_down_ent c (Ring.sl 12 k.val) (ringG W k.val)) $$ HS
  icases HS with ⟨HS0, HS1⟩
  sl_exec
  sl_step
  have er : trip1_hi.sl.r c W v269 XQ SU k = gateV c W v269 XQ SU k.val := by unfold trip1_hi.sl.r; rw [e1]
  have er1 : trip1_hi.sl.r_1 c W v269 XQ k = upV c W v269 XQ k.val := by unfold trip1_hi.sl.r_1; rw [e1]
  ihave HH := (hput_ent c H k (k0_pay73 (trip1_hi.sl.r c W v269 XQ SU k) (trip1_hi.sl.r_1 c W v269 XQ k) (suAt SU (7168 + k.val * 256)))
    (hrow c W v269 XQ SU k.val) (by rw [er, er1]; rfl)) $$ HH
  ihave HHX := (hx_ent c HX (k0_pay74 (trip1_hi.sl.r c W v269 XQ SU k) (trip1_hi.sl.r_1 c W v269 XQ k) (suAt SU (7168 + k.val * 256))
      (hxM.view.readAt (Elt F) (Rect.unit (s := S24x256) ![0, 0] S24x256.size inb_S24x256_S24x256_0_0).toLoadRect HX))
    (hmx c W v269 XQ SU k.val HX) (by rw [er, er1, e5]; rfl)) $$ HHX
  isplitl [HB HS1]
  · isplitl [HB]; · iexists (ringG W k.val); iexact HB
    iexists _; iexact HS1
  isplitl [HB_src0]; · iexact HB_src0
  isplitl [HB_src1]; · iexact HB_src1
  isplitl [HXQ]; · iexact HXQ
  isplitl [HSU]; · iexact HSU
  isplitl [HH]; · iexact HH
  isplitl [HHX]; · iexact HHX
  iexists _; iexact HW

end Trip1

end Cert.Proof.Kernel

end
-- ==== Proof.Loop1.lean ====
/-
  The gate/up loop: the ring of twelve slots trip by trip, and the loop's invariant.
-/
module

public import proofs.«01_k».proof.Proof.Trip1
public import Idealize.ShloMosaic.Lib.Ring.Window

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ (UU nD τ) ℕ

section Sets
universe u v
variable {M : Type u} [URA M] {I : Type v} [DecidableEq I]
theorem bigSep_insert' {i : I} {s : Finset I} (h : i ∉ s) {Φ : I → sProp M} : bigSep (insert i s) Φ = iprop(Φ i ∗ bigSep s Φ) := bigSep_insert h
theorem bigSep_erase' {s : Finset I} {i : I} (h : i ∈ s) {Φ : I → sProp M} : bigSep s Φ = iprop(Φ i ∗ bigSep (s.erase i) Φ) := by
  conv_lhs => rw [← Finset.insert_erase h]
  exact bigSep_insert (Finset.notMem_erase i s)
end Sets

section Family
variable (c : Dev nD) (W : Buf (Elt F) (wguM.view.loc (c : Thread nD τ))) (D : Buf (Elt F) (wdM.view.loc (c : Thread nD τ)))

/-- Slot `s` when the next chunk to come out of it is number `m`: a gate/up chunk or a down chunk in flight, or idle
    once the chunks are over. -/
def infl (s : Fin 12) (m : ℕ) : sProp 𝕄 :=
  if m < 28 then batG c W s m 2 0
  else if m < 44 then iprop((∃ f, flD c D s (Ring.bk 16 (m - 28)) f) ∗ ∃ f, restP c s f)
  else iprop(cellP c s ∗ (∃ f, dwP c s f) ∗ ∃ f, restP c s f)

/-- The ring before trip `g`, counting the trips of both loops. -/
def ringAt (g : ℕ) : sProp 𝕄 := bigSep Finset.univ fun s : Fin 12 => infl c W D s (Ring.firstFrom g 12 s)
/-- The ring but for the slot trip `g` uses. -/
def ringBut (g : ℕ) : sProp 𝕄 := bigSep (Finset.univ.erase (Ring.sl 12 g)) fun s : Fin 12 => infl c W D s (Ring.firstFrom g 12 s)

theorem sl_val (g : ℕ) : (Ring.sl 12 g).val = g % 12 := rfl
theorem firstFrom_here (g : ℕ) : Ring.firstFrom g 12 (Ring.sl 12 g) = g := by
  unfold Ring.firstFrom; rw [sl_val]; omega
theorem firstFrom_next (g : ℕ) : Ring.firstFrom (g + 1) 12 (Ring.sl 12 g) = g + 12 := by
  unfold Ring.firstFrom; rw [sl_val]; omega
theorem firstFrom_other (g : ℕ) (s : Fin 12) (h : s ≠ Ring.sl 12 g) : Ring.firstFrom (g + 1) 12 s = Ring.firstFrom g 12 s := by
  have h' : s.val ≠ g % 12 := fun e => h (Fin.ext e)
  have := s.isLt
  unfold Ring.firstFrom; omega

theorem ring_out (g : ℕ) : ringAt (F := F) c W D g = iprop(infl c W D (Ring.sl 12 g) g ∗ ringBut c W D g) := by
  unfold ringAt ringBut
  rw [bigSep_erase' (Finset.mem_univ (Ring.sl 12 g)), firstFrom_here]
theorem ring_in (g : ℕ) : ringAt (F := F) c W D (g + 1) = iprop(infl c W D (Ring.sl 12 g) (g + 12) ∗ ringBut c W D g) := by
  unfold ringAt ringBut
  rw [bigSep_erase' (Finset.mem_univ (Ring.sl 12 g)), firstFrom_next]
  congr 1
  exact bigSep_congr fun s hs => by rw [firstFrom_other g s (Finset.ne_of_mem_erase hs)]

/-- Gate/up chunks at home before trip `g`: those used up and those not yet sent for; -/
def HG (g : ℕ) : Finset (Fin 28) := Finset.univ.filter fun b => b.val < g ∨ g + 12 ≤ b.val
/-- down blocks likewise. -/
def HD (g : ℕ) : Finset (Fin 16) := Finset.univ.filter fun b => b.val + 28 < g ∨ g + 12 ≤ b.val + 28
/-- A gate/up chunk's two row blocks at home. -/
abbrev gPP (b : Fin 28) : sProp 𝕄 := iprop(gP c W (b.val * 256) ∗ gP c W (7168 + b.val * 256))
def homesG (g : ℕ) : sProp 𝕄 := bigSep (HG g) (gPP c W)
def homesD (g : ℕ) : sProp 𝕄 := bigSep (HD g) (dP c D)

theorem homesG_in (g : ℕ) (h : 16 ≤ g) (hg : g < 28) : homesG (F := F) c W (g + 1) = iprop(gPP c W (Ring.bk 28 g) ∗ homesG c W g) := by
  unfold homesG
  have e : HG (g + 1) = insert (Ring.bk 28 g) (HG g) := by
    ext b; simp only [HG, Finset.mem_filter, Finset.mem_univ, true_and, Finset.mem_insert, Fin.ext_iff, Ring.bk_val hg]; omega
  rw [e, bigSep_insert' (by simp only [HG, Finset.mem_filter, Finset.mem_univ, true_and, Ring.bk_val hg]; omega)]
/-- The gate/up homes no trip from `g` on to the next touches. -/
def restG (g : ℕ) : sProp 𝕄 := bigSep ((HG g).erase (Ring.bk 28 (g + 12))) (gPP c W)
theorem homesG_out (g : ℕ) (hg : g < 16) : homesG (F := F) c W g = iprop(gPP c W (Ring.bk 28 (g + 12)) ∗ restG c W g) :=
  bigSep_erase' (by simp only [HG, Finset.mem_filter, Finset.mem_univ, true_and, Ring.bk_val (show g + 12 < 28 by omega)]; omega)
theorem homesG_swap (g : ℕ) (hg : g < 16) : homesG (F := F) c W (g + 1) = iprop(gPP c W (Ring.bk 28 g) ∗ restG c W g) := by
  unfold homesG restG
  have e : HG (g + 1) = insert (Ring.bk 28 g) ((HG g).erase (Ring.bk 28 (g + 12))) := by
    ext b; simp only [HG, Finset.mem_filter, Finset.mem_univ, true_and, Finset.mem_insert, Finset.mem_erase, ne_eq, Fin.ext_iff, Ring.bk_val (show g < 28 by omega), Ring.bk_val (show g + 12 < 28 by omega)]; omega
  rw [e, bigSep_insert' (by simp only [HG, Finset.mem_erase, ne_eq, Fin.ext_iff, Finset.mem_filter, Finset.mem_univ, true_and, Ring.bk_val (show g < 28 by omega), Ring.bk_val (show g + 12 < 28 by omega)]; omega)]

theorem homesD_keep (g : ℕ) (hg : g < 16) : homesD (F := F) c D (g + 1) = homesD c D g := by
  unfold homesD
  have e : HD (g + 1) = HD g := by
    ext b; have := b.isLt; simp only [HD, Finset.mem_filter, Finset.mem_univ, true_and]; omega
  rw [e]
theorem homesD_out (g : ℕ) (h : 16 ≤ g) (hg : g < 28) : homesD (F := F) c D g = iprop(dP c D (Ring.bk 16 (g - 16)) ∗ homesD c D (g + 1)) := by
  unfold homesD
  have e : HD g = insert (Ring.bk 16 (g - 16)) (HD (g + 1)) := by
    ext b; have := b.isLt; simp only [HD, Finset.mem_filter, Finset.mem_univ, true_and, Finset.mem_insert, Fin.ext_iff, Ring.bk_val (show g - 16 < 16 by omega)]; omega
  rw [e, bigSep_insert' (by simp only [HD, Finset.mem_filter, Finset.mem_univ, true_and, Ring.bk_val (show g - 16 < 16 by omega)]; omega)]
/-- The second loop, trip `j`, `g = j + 28`. -/
theorem homesD_in (j : ℕ) (h : 4 ≤ j) (hj : j < 16) : homesD (F := F) c D (j + 28 + 1) = iprop(dP c D (Ring.bk 16 j) ∗ homesD c D (j + 28)) := by
  unfold homesD
  have e : HD (j + 28 + 1) = insert (Ring.bk 16 j) (HD (j + 28)) := by
    ext b; have := b.isLt; simp only [HD, Finset.mem_filter, Finset.mem_univ, true_and, Finset.mem_insert, Fin.ext_iff, Ring.bk_val hj]; omega
  rw [e, bigSep_insert' (by simp only [HD, Finset.mem_filter, Finset.mem_univ, true_and, Ring.bk_val hj]; omega)]
def restD (j : ℕ) : sProp 𝕄 := bigSep ((HD (j + 28)).erase (Ring.bk 16 (j + 12))) (dP c D)
theorem homesD_out' (j : ℕ) (hj : j < 4) : homesD (F := F) c D (j + 28) = iprop(dP c D (Ring.bk 16 (j + 12)) ∗ restD c D j) :=
  bigSep_erase' (by simp only [HD, Finset.mem_filter, Finset.mem_univ, true_and, Ring.bk_val (show j + 12 < 16 by omega)]; omega)
theorem homesD_swap (j : ℕ) (hj : j < 4) : homesD (F := F) c D (j + 28 + 1) = iprop(dP c D (Ring.bk 16 j) ∗ restD c D j) := by
  unfold homesD restD
  have e : HD (j + 28 + 1) = insert (Ring.bk 16 j) ((HD (j + 28)).erase (Ring.bk 16 (j + 12))) := by
    ext b; have := b.isLt; simp only [HD, Finset.mem_filter, Finset.mem_univ, true_and, Finset.mem_insert, Finset.mem_erase, ne_eq, Fin.ext_iff, Ring.bk_val (show j < 16 by omega), Ring.bk_val (show j + 12 < 16 by omega)]; omega
  rw [e, bigSep_insert' (by simp only [HD, Finset.mem_erase, ne_eq, Fin.ext_iff, Finset.mem_filter, Finset.mem_univ, true_and, Ring.bk_val (show j < 16 by omega), Ring.bk_val (show j + 12 < 16 by omega)]; omega)]

end Family

section Loop1
variable (c : Dev nD) (W : Buf (Elt F) (wguM.view.loc (c : Thread nD τ))) (D : Buf (Elt F) (wdM.view.loc (c : Thread nD τ)))
  (arg7 : Memref sig .tc .vmem S1x24 .f32) (harg7 : arg7.IsWhole)
  (arg9 : Memref sig .tc .vmem S1x24 .f32) (harg9 : arg9.IsWhole)
  (v269 : FVec F S24x1 .f32) (v552 : FVec F S24x512 .f32) (v553 : FVec F S24x512 .fp8e4m3)
  (XQ : Buf (Elt F) (xqM.view.loc (c : Thread nD τ))) (SU : Buf (Elt F) (suvM.view.loc (c : Thread nD τ)))

/-- The hidden blocks after `k` trips, over `H`; -/
def hAt (H : Buf (Elt F) (hM.view.loc (c : Thread nD τ))) : ℕ → Buf (Elt F) (hM.view.loc (c : Thread nD τ))
  | 0 => H
  | k + 1 => hput c (hAt H k) k (hrow c W v269 XQ SU k)
/-- and the maxima, from `HX`. -/
def mAt (HX : Buf (Elt F) (hxM.view.loc (c : Thread nD τ))) : ℕ → Buf (Elt F) (hxM.view.loc (c : Thread nD τ))
  | 0 => HX
  | k + 1 => hmx c W v269 XQ SU k (mAt HX k)

def inv1 (H : Buf (Elt F) (hM.view.loc (c : Thread nD τ))) (HX : Buf (Elt F) (hxM.view.loc (c : Thread nD τ))) (k : ℕ) : sProp 𝕄 :=
  iprop(ringAt c W D k ∗ homesG c W k ∗ homesD c D k ∗ side1 c XQ SU (hAt c W v269 XQ SU H k) (mAt c W v269 XQ SU HX k))

theorem step1 (H : Buf (Elt F) (hM.view.loc (c : Thread nD τ))) (HX : Buf (Elt F) (hxM.view.loc (c : Thread nD τ))) (k : Fin k0_t1_loop.trips) :
    inv1 c W D v269 XQ SU H HX k.val
      ⊢ wp frame (wpE (defs₀ (F := F)) 𝒱₀ (c : Thread nD τ) none) Set.univ (trip1 arg7 harg7 arg9 harg9 v269 v552 v553 k)
        (fun _ => inv1 c W D v269 XQ SU H HX (k.val + 1)) := by
  have h28 := trips1_lt k
  have eg : Ring.bk 28 k.val = ⟨k.val, h28⟩ := Fin.ext (Ring.bk_val h28)
  unfold inv1
  rw [ring_out, ring_in]
  rw [show infl (F := F) c W D (Ring.sl 12 k.val) k.val = batG c W (Ring.sl 12 k.val) k.val 2 0 from if_pos h28]
  by_cases hk : k.val < 16
  · have eg' : Ring.bk 28 (k.val + 12) = ⟨k.val + 12, by omega⟩ := Fin.ext (Ring.bk_val (by omega))
    rw [homesG_out c W k.val hk, homesG_swap c W k.val hk, homesD_keep c D k.val hk, eg, eg']
    rw [show infl (F := F) c W D (Ring.sl 12 k.val) (k.val + 12) = batG c W (Ring.sl 12 k.val) (k.val + 12) 2 0 from if_pos (by omega)]
    iintro ⟨⟨HB, HR⟩, ⟨HG, HGR⟩, HD, HS⟩
    iapply (wp_wand_r Idealize.ShloMosaic.frame (wpE (defs₀ (F := F)) 𝒱₀ (c : Thread nD τ) none) Set.univ)
    isplitl [HB HG HS]
    · iapply (trip1_lo c W arg7 harg7 arg9 harg9 v269 v552 v553 XQ SU k hk _ _)
      isplitl [HB]; · iexact HB
      isplitl [HG]; · iexact HG
      iexact HS
    · iintro %_ ⟨HB, HG0, HG1, HS⟩
      isplitl [HB HR]
      · isplitl [HB]; · iexact HB
        iexact HR
      isplitl [HG0 HG1 HGR]
      · isplitl [HG0 HG1]
        · isplitl [HG0]; · iexact HG0
          iexact HG1
        iexact HGR
      isplitl [HD]; · iexact HD
      iexact HS
  · rw [homesG_in c W k.val (by omega) h28, homesD_out c D k.val (by omega) h28, eg]
    rw [show infl (F := F) c W D (Ring.sl 12 k.val) (k.val + 12) = iprop((∃ f, flD c D (Ring.sl 12 k.val) (Ring.bk 16 (k.val - 16)) f) ∗ ∃ f, restP c (Ring.sl 12 k.val) f) from by
      unfold infl
      rw [if_neg (by omega), if_pos (by omega), show k.val + 12 - 28 = k.val - 16 by omega]]
    iintro ⟨⟨HB, HR⟩, HGR, ⟨HD, HDR⟩, HS⟩
    iapply (wp_wand_r Idealize.ShloMosaic.frame (wpE (defs₀ (F := F)) 𝒱₀ (c : Thread nD τ) none) Set.univ)
    isplitl [HB HD HS]
    · iapply (trip1_hi c W D arg7 harg7 arg9 harg9 v269 v552 v553 XQ SU k (by omega) _ _)
      isplitl [HB]; · iexact HB
      isplitl [HD]; · iexact HD
      iexact HS
    · iintro %_ ⟨HB, HG0, HG1, HS⟩
      isplitl [HB HR]
      · isplitl [HB]; · iexact HB
        iexact HR
      isplitl [HG0 HG1 HGR]
      · isplitl [HG0 HG1]
        · isplitl [HG0]; · iexact HG0
          iexact HG1
        iexact HGR
      isplitl [HDR]; · iexact HDR
      iexact HS

end Loop1

end Cert.Proof.Kernel

end
-- ==== Proof.Trip2.lean ====
/-
  One trip of the down loop: a down chunk waited for, its output columns computed and sent out, and in the first
  trips the down chunk twelve ahead sent for.
-/
module

public import proofs.«01_k».proof.Proof.Trip1
public import Idealize.ShloMosaic.Lib.Ring

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ (UU nD τ) ℕ

/-! ## The output cells -/

theorem oCell_inb : ∀ (i : Fin 3) a, (![i.val] : Fin 1 → ℕ) a + S1.size a ≤ S3.size a := by decide +kernel
/-- Cell `i` of the semaphores the results are copied out on. -/
def osm (i : Fin 3) : DmaSems sig S_ := (cc0_scratch13.slice (Rect.unit (s := S3) ![i.val] S1.size (oCell_inb i))).squeeze S_ squeezes_S1_S_
theorem ofNat3_of_inb {n : ℕ} (h : n < 3) : (Fin.ofNat 3 n).val = n := by simp [Fin.ofNat, Nat.mod_eq_of_lt h]
@[sl_canon] theorem cnO (n : ℕ) (hh) : (cc0_scratch13.slice (Rect.unit (s := S3) ![n] S1.size hh)).squeeze S_ squeezes_S1_S_ = osm (Fin.ofNat 3 n) :=
  congrArg (fun A : DmaSems sig S1 => A.squeeze S_ squeezes_S1_S_) (SemArray.slice_unit_congr _ (by have h : n + 1 ≤ 3 := hh 0; rw [ofNat3_of_inb (by omega)]) _ _)

/-- The down window of ring slot `s` as the body loads it. -/
def dlM (s : Fin 12) : Memref sig .tc .vmem S1x512x7168 .fp8e4m3 :=
  ringM.slice (Rect.unit (s := S12x512x8192) (loOff s) S1x512x7168.size (dwOff_inb s)) (fun _ => rfl)

/-- Down block `b`, as plain words: row `r`, lane `l`. -/
def ringD (D : S8192x7168.Idx → Elt F .fp8e4m3) (b : ℕ) : S12x512x8192.Idx → Elt F .fp8e4m3 := fun y => dAt D (b * 512 + (y 1).val) (y 2).val
def dch (D : S8192x7168.Idx → Elt F .fp8e4m3) (b : ℕ) : FVec F S1x512x7168 .fp8e4m3 := fun x => dAt D (b * 512 + (x 1).val) (x 2).val
/-- 512 down scales from column `n` on. -/
def sdAt (SD : S1x8192.Idx → Elt F .f32) (n : ℕ) : FVec F S1x512 .f32 := fun x => SD (ix2 0 (Fin.ofNat 8192 (n + (x 1).val)))

section Trip2
variable (c : Dev nD) (W : Buf (Elt F) (wguM.view.loc (c : Thread nD τ))) (D : Buf (Elt F) (wdM.view.loc (c : Thread nD τ)))
  (arg7 : Memref sig .tc .vmem S1x24 .f32) (harg7 : arg7.IsWhole)
  (arg9 : Memref sig .tc .vmem S1x24 .f32) (harg9 : arg9.IsWhole)
  (v651 : FVec F S24x1 .f32) (v656 : FVec F S24x1 .f32) (v1139 : FVec F S32x256 .fp8e4m3)
  (HQ : Buf (Elt F) (hqM.view.loc (c : Thread nD τ))) (SD : Buf (Elt F) (sdvM.view.loc (c : Thread nD τ)))

abbrev trip2 (j : Fin k0_t2_loop.trips) : Prog (TpuEff nD τ sig (Elt F) Λ₀ .tc) Unit :=
  k0_t2_body (F := F) xM (Memref.isWhole_whole _) wguM (Memref.isWhole_whole _) suM (Memref.isWhole_whole _) wdM (Memref.isWhole_whole _)
    sdM (Memref.isWhole_whole _) outM (Memref.isWhole_whole _) xcM (Memref.isWhole_whole _) arg7 harg7 hcM (Memref.isWhole_whole _) arg9 harg9
    ringM (Memref.isWhole_whole _) xvM (Memref.isWhole_whole _) suvM (Memref.isWhole_whole _) sdvM (Memref.isWhole_whole _)
    xqM (Memref.isWhole_whole _) hqM (Memref.isWhole_whole _) xcvM (Memref.isWhole_whole _) hcvM (Memref.isWhole_whole _)
    hM (Memref.isWhole_whole _) hxM (Memref.isWhole_whole _) ovM (Memref.isWhole_whole _)
    cc0_scratch11 cc0_scratch12 cc0_scratch13 v651 v656 v1139 j ()

theorem trips2_lt (j : Fin k0_t2_loop.trips) : j.val < 16 := lt_of_lt_of_eq j.isLt (by decide)

abbrev dlP (s : Fin 12) (f : Buf (Elt F) ((dlM s).view.loc (c : Thread nD τ))) : sProp 𝕄 := (dlM s).view.loc (c : Thread nD τ) ↦[(dlM s).view.set]{fullShare} f
abbrev ovP (b : Fin 16) (f : Buf (Elt F) ((ovB b).view.loc (c : Thread nD τ))) : sProp 𝕄 := (ovB b).view.loc (c : Thread nD τ) ↦[(ovB b).view.set]{fullShare} f
abbrev oP (b : Fin 16) (f : Buf (Elt F) ((oB b).view.loc (c : Thread nD τ))) : sProp 𝕄 := (oB b).view.loc (c : Thread nD τ) ↦[(oB b).view.set]{fullShare} f

theorem dl_set (s : Fin 12) : dwSet s = (dlM s).view.set := View.set_reshape _ _
theorem dw_eq_dl (s : Fin 12) (f) : dwP (F := F) c s f = dlP c s f :=
  congrArg (fun S => ((dlM s).view.loc (c : Thread nD τ) ↦[S]{fullShare} f : sProp 𝕄)) (dl_set s)
omit [FloatOps F] in
theorem read_dw (s : Fin 12) (f : S12x512x8192.Idx → Elt F .fp8e4m3) (r : Fin 512) (l : Fin 7168) :
    (dSlot s).view.read (Elt F) f (ix2 r l) = f (ix3 s r ⟨l.val, by omega⟩) := by
  show f ((Rect.unit (s := S12x512x8192) (loOff s) S1x512x7168.size (dwOff_inb s)).emb (Shape.reshapeEquiv _ (ix2 r l))) = _
  rw [reshapeEquiv_ix2_1ab]
  congr 1; funext a; apply Fin.ext; fin_cases a <;> simp
omit [FloatOps F] in
theorem read_dB (D : S8192x7168.Idx → Elt F .fp8e4m3) (b : Fin 16) (r : Fin 512) (l : Fin 7168) :
    (dB b).view.read (Elt F) D (ix2 r l) = dAt D (b.val * 512 + r.val) l.val := by
  show D ((Rect.unit (s := S8192x7168) (dOff b) S512x7168.size (dOff_inb b)).emb (ix2 r l)) = D _
  congr 1; funext a; apply Fin.ext; fin_cases a
  · show b.val * 512 + 1 * r.val = (b.val * 512 + r.val) % 8192
    rw [Nat.mod_eq_of_lt (by omega)]; omega
  · show 0 + 1 * l.val = l.val % 7168
    rw [Nat.mod_eq_of_lt l.isLt]; omega
theorem landD_eq (s : Fin 12) (b : Fin 16) (f) : dwP (F := F) c s (landD c D s b f) = dwP c s (ringD D b.val) := by
  refine pts_of_read c (dSlot s) _ _ ((View.read_writes_whole _ _ _).trans (funext fun x => ?_))
  obtain ⟨r, l, rfl⟩ : ∃ (r : Fin 512) (l : Fin 7168), x = ix2 r l := ⟨x 0, x 1, by funext a; fin_cases a <;> rfl⟩
  rw [read_dw]
  show (dB b).view.read (Elt F) D (ix2 r l) = _
  rw [read_dB]
  rfl
theorem landD_ent (s : Fin 12) (j : ℕ) (hj : j < 16) (f) : dwP (F := F) c s (landD c D s (Ring.bk 16 j) f) ⊢ dlP c s (ringD D j) := by
  have e : dwP (F := F) c s (landD c D s (Ring.bk 16 j) f) = dlP c s (ringD D (Ring.bk 16 j).val) := (landD_eq c D s _ f).trans (dw_eq_dl c s _)
  rw [Ring.bk_val hj] at e
  exact Entails.of_eq e
theorem dl_dw_ent (s : Fin 12) (f) : dlP (F := F) c s f ⊢ dwP c s f := Entails.of_eq (dw_eq_dl c s f).symm

omit [FloatOps F] in
theorem dring_read (j : Fin k0_t2_loop.trips) (n : ℕ) :
    ringM.view.readAt (Elt F) (Rect.unit (s := S12x512x8192) (k0_off21 j) S1x512x7168.size (k0_off21_inb j)).toLoadRect (ringD D n) = dch D n := by
  funext x
  show dAt D (n * 512 + (k0_off21 j 1 + 1 * (x 1).val)) (k0_off21 j 2 + 1 * (x 2).val) = _
  have e1 : k0_off21 j 1 = 0 := congrFun (off21_eq j) 1
  have e2 : k0_off21 j 2 = 0 := congrFun (off21_eq j) 2
  rw [e1, e2, Nat.zero_add, Nat.zero_add, Nat.one_mul, Nat.one_mul]; rfl
omit [FloatOps F] in
theorem sd_read {off : Fin 2 → ℕ} {n : ℕ} (e : off = ![0, n]) (inb : ∀ a, off a + S1x512.size a ≤ S1x8192.size a) (SD : Buf (Elt F) (sdvM.view.loc (c : Thread nD τ))) :
    sdvM.view.readAt (Elt F) (Rect.unit (s := S1x8192) off S1x512.size inb).toLoadRect SD = sdAt SD n := by
  subst e
  funext x
  show SD ((Rect.unit (s := S1x8192) ![0, n] S1x512.size inb).emb x) = SD _
  have h1 : n + 512 ≤ 8192 := inb 1
  have h2 : (x 1).val < 512 := (x 1).isLt
  congr 1; funext a; apply Fin.ext; fin_cases a
  · show 0 + 1 * (x 0).val = 0
    have : (x 0).val < 1 := (x 0).isLt
    omega
  · show n + 1 * (x 1).val = (n + (x 1).val) % 8192
    rw [Nat.mod_eq_of_lt (by omega)]; omega
omit [FloatOps F] in
theorem hq_read (HQ : Buf (Elt F) (hqM.view.loc (c : Thread nD τ))) :
    hqM.view.readAt (Elt F) (Rect.unit (s := S32x7168) ![0, 0] S32x7168.size inb_S32x7168_S32x7168_0_0).toLoadRect HQ = HQ :=
  View.readAt_full _ _ _
theorem off22_eq' (j : Fin k0_t2_loop.trips) : k0_off22 j = ![0, j.val * 512] := by
  rw [off22_eq, oOff, Ring.bk_val (trips2_lt j)]

/-- Output columns `512 j …`: what down chunk `j` gives. -/
def orow (j : ℕ) : FVec F S24x512 .bf16 := k0_pay4 v651 HQ (dch D j) (sdAt SD (j * 512))
/-- The output. -/
def OVf : S24x8192.Idx → Elt F .bf16 := fun y => orow c D v651 HQ SD ((y 1).val / 512) (ix2 (y 0) (Fin.ofNat 512 (y 1).val))

theorem read_ovB_OVf (j : ℕ) (hj : j < 16) : (ovB (Ring.bk 16 j)).view.read (Elt F) (OVf c D v651 HQ SD) = orow c D v651 HQ SD j := by
  funext x
  obtain ⟨r, l, rfl⟩ : ∃ (r : Fin 24) (l : Fin 512), x = ix2 r l := ⟨x 0, x 1, by funext a; fin_cases a <;> rfl⟩
  have e : (ovB (Ring.bk 16 j)).view.read (Elt F) (OVf c D v651 HQ SD) (ix2 r l) = OVf c D v651 HQ SD (ix2 r (⟨j * 512 + l.val, by omega⟩ : Fin 8192)) := by
    show OVf c D v651 HQ SD ((Rect.unit (s := S24x8192) (oOff (Ring.bk 16 j)) S24x512.size (oOff_inb _)).emb (ix2 r l)) = _
    congr 1; funext a; apply Fin.ext; fin_cases a
    · show 0 + 1 * r.val = r.val; omega
    · show (Ring.bk 16 j).val * 512 + 1 * l.val = j * 512 + l.val
      rw [Ring.bk_val hj]; omega
  rw [e]
  show orow c D v651 HQ SD ((j * 512 + l.val) / 512) (ix2 r (Fin.ofNat 512 (j * 512 + l.val))) = _
  have e1 : (j * 512 + l.val) / 512 = j := by omega
  have e2 : Fin.ofNat 512 (j * 512 + l.val) = l := Fin.ext (by show (j * 512 + l.val) % 512 = l.val; omega)
  rw [e1, e2]

/-- What a copy of output block `b` leaves in the result. -/
abbrev landO (b : Fin 16) : Buf (Elt F) ((oB b).view.loc (c : Thread nD τ)) :=
  (oB b).view.writes (Elt F) (oB b).view.junk [⟨Rect.whole S24x512, ReadAs.same.apply ((ovB b).view.read (Elt F) (OVf c D v651 HQ SD))⟩]
abbrev delO (t : Fin 16) : sProp 𝕄 := iprop(oP c (Ring.bk 16 t.val) (landO c D v651 HQ SD (Ring.bk 16 t.val)) ∗ ovP c (Ring.bk 16 t.val) (OVf c D v651 HQ SD))
instance oP_st (b : Fin 16) (f) : BI.Storable (upEmb : UEmb _ 𝕄) (oP (F := F) c b f) := pts_st c (oB b) f
instance ovP_st (b : Fin 16) (f) : BI.Storable (upEmb : UEmb _ 𝕄) (ovP (F := F) c b f) := pts_st c (ovB b) f
instance delO_st (t : Fin 16) : BI.Storable (upEmb : UEmb _ 𝕄) (delO c D v651 HQ SD t) := by
  have := oP_st (F := F) c (Ring.bk 16 t.val) (landO c D v651 HQ SD (Ring.bk 16 t.val))
  have := ovP_st (F := F) c (Ring.bk 16 t.val) (OVf c D v651 HQ SD)
  unfold delO; infer_instance
/-- The output copies: `j` of the sixteen issued, `u` units waited for. -/
abbrev batO (j u : ℕ) : sProp 𝕄 :=
  Transfers.Batch countersEmb (c : Thread nD τ) (SemLoc.dma (osm 2).sem) () 768 (delO c D v651 HQ SD) j u

/-- Before trip `j`, beside the ring: the quantised hidden layer, the scales. -/
abbrev side2 : sProp 𝕄 := iprop(at_ c hqM HQ ∗ at_ c sdvM SD ∗ ∃ Wt, owes (c : Thread nD τ) 0 Wt)

theorem ov_ent (j : Fin k0_t2_loop.trips) (g : Buf (Elt F) ((ovB (Ring.bk 16 j.val)).view.loc (c : Thread nD τ))) (g' : Buf (Elt F) ((ovB (Ring.bk 16 j.val)).view.loc (c : Thread nD τ)))
    (e : g' = View.write (Elt F) (ovM.access (Rect.unit (s := S24x8192) (k0_off23 j) S24x512.size (k0_off23_inb j))) g (orow c D v651 HQ SD j.val) Finset.univ) :
    ovP c (Ring.bk 16 j.val) g'
      ⊢ ovP c (Ring.bk 16 j.val) (OVf c D v651 HQ SD) := by
  subst e
  refine Entails.of_eq (pts_of_read c (ovB (Ring.bk 16 j.val)) _ _ (Eq.trans ?_ (read_ovB_OVf c D v651 HQ SD j.val (trips2_lt j)).symm))
  have key : ∀ (off : Fin 2 → ℕ) (h : off = oOff (Ring.bk 16 j.val)) (inb : ∀ a, off a + S24x512.size a ≤ S24x8192.size a),
      (ovB (Ring.bk 16 j.val)).view.read (Elt F) (View.write (Elt F) (ovM.access (Rect.unit (s := S24x8192) off S24x512.size inb)) g (orow c D v651 HQ SD j.val) Finset.univ)
        = orow c D v651 HQ SD j.val := by
    rintro off rfl inb
    exact View.read_write_univ _ _
  exact key _ (off23_eq j) _

/-- A trip that issues down chunk `j + 12`. -/
theorem trip2_lo (j : Fin k0_t2_loop.trips) (hj : j.val < 4) :
    iprop((∃ f, flD c D (Ring.sl 12 (j.val + 28)) (Ring.bk 16 j.val) f) ∗ dP c D (Ring.bk 16 (j.val + 12)) ∗ (∃ g, ovP c (Ring.bk 16 j.val) g) ∗ (∃ g, oP c (Ring.bk 16 j.val) g)
        ∗ batO c D v651 HQ SD j.val 0 ∗ side2 c HQ SD)
      ⊢ wp frame (wpE (defs₀ (F := F)) 𝒱₀ (c : Thread nD τ) none) Set.univ (trip2 arg7 harg7 arg9 harg9 v651 v656 v1139 j)
        (fun _ => iprop((∃ f, flD c D (Ring.sl 12 (j.val + 28)) (Ring.bk 16 (j.val + 12)) f) ∗ dP c D (Ring.bk 16 j.val) ∗ batO c D v651 HQ SD (j.val + 1) 0 ∗ side2 c HQ SD)) := by
  have h16 := trips2_lt j
  have e1 := hq_read c HQ
  have e2 := dring_read c D j j.val
  have e3 := sd_read c (off22_eq' j) (k0_off22_inb j) SD
  have h3 := cond3_iff j
  iintro ⟨⟨%f, HB⟩, HD, ⟨%g, HV⟩, ⟨%g', HO⟩, HBO, HHQ, HSD, ⟨%Wt, HW⟩⟩
  dsimp only [trip2]
  sl_unfold [k0_t2_body]
  set_option sl_exec.maxSteps 3 in sl_exec
  ihave HS := (landD_ent c D (Ring.sl 12 (j.val + 28)) j.val h16 f) $$ HB_dst
  set_option sl_exec.stopBefore "k0_cond4" in sl_exec
  have h4 : k0_cond4 j = 1#1 := (cond4_iff j).mpr hj
  ihave HS := (dl_dw_ent c (Ring.sl 12 (j.val + 28)) (ringD D j.val)) $$ HS
  ihave HV := (ov_ent c D v651 HQ SD j g (trip2_lo.sl.HV_w1 c D v651 HQ SD j g) (by unfold trip2_lo.sl.HV_w1; rw [e1]; rfl)) $$ HV
  sl_exec
  sl_step
  isplitl [HB]; · iexists (ringD D j.val); iexact HB
  isplitl [HB_src]; · iexact HB_src
  isplitl [HBO]; · iexact HBO
  isplitl [HHQ]; · iexact HHQ
  isplitl [HSD]; · iexact HSD
  iexists _; iexact HW

/-- A trip that issues none. -/
theorem trip2_hi (j : Fin k0_t2_loop.trips) (hj : 4 ≤ j.val) :
    iprop((∃ f, flD c D (Ring.sl 12 (j.val + 28)) (Ring.bk 16 j.val) f) ∗ (∃ g, ovP c (Ring.bk 16 j.val) g) ∗ (∃ g, oP c (Ring.bk 16 j.val) g)
        ∗ batO c D v651 HQ SD j.val 0 ∗ side2 c HQ SD)
      ⊢ wp frame (wpE (defs₀ (F := F)) 𝒱₀ (c : Thread nD τ) none) Set.univ (trip2 arg7 harg7 arg9 harg9 v651 v656 v1139 j)
        (fun _ => iprop(iprop(cellP c (Ring.sl 12 (j.val + 28)) ∗ ∃ f, dwP c (Ring.sl 12 (j.val + 28)) f) ∗ dP c D (Ring.bk 16 j.val) ∗ batO c D v651 HQ SD (j.val + 1) 0 ∗ side2 c HQ SD)) := by
  have h16 := trips2_lt j
  have e1 := hq_read c HQ
  have e2 := dring_read c D j j.val
  have e3 := sd_read c (off22_eq' j) (k0_off22_inb j) SD
  have h3 := cond3_iff j
  iintro ⟨⟨%f, HB⟩, ⟨%g, HV⟩, ⟨%g', HO⟩, HBO, HHQ, HSD, ⟨%Wt, HW⟩⟩
  dsimp only [trip2]
  sl_unfold [k0_t2_body]
  set_option sl_exec.maxSteps 3 in sl_exec
  ihave HS := (landD_ent c D (Ring.sl 12 (j.val + 28)) j.val h16 f) $$ HB_dst
  set_option sl_exec.stopBefore "k0_cond4" in sl_exec
  have h4 : ¬ k0_cond4 j = 1#1 := fun h => by have := (cond4_iff j).mp h; omega
  ihave HS := (dl_dw_ent c (Ring.sl 12 (j.val + 28)) (ringD D j.val)) $$ HS
  ihave HV := (ov_ent c D v651 HQ SD j g (trip2_hi.sl.HV_w1 c D v651 HQ SD j g) (by unfold trip2_hi.sl.HV_w1; rw [e1]; rfl)) $$ HV
  sl_exec
  sl_step
  isplitl [HB HS]
  · isplitl [HB]; · iexact HB
    iexists _; iexact HS
  isplitl [HB_src]; · iexact HB_src
  isplitl [HBO]; · iexact HBO
  isplitl [HHQ]; · iexact HHQ
  isplitl [HSD]; · iexact HSD
  iexists _; iexact HW

end Trip2

end Cert.Proof.Kernel

end
-- ==== Proof.Loop2.lean ====
/-
  The down loop and the loop that waits for the output copies: their invariants.
-/
module

public import proofs.«01_k».proof.Proof.Loop1
public import proofs.«01_k».proof.Proof.Trip2

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ (UU nD τ) ℕ

section Loop2
variable (c : Dev nD) (W : Buf (Elt F) (wguM.view.loc (c : Thread nD τ))) (D : Buf (Elt F) (wdM.view.loc (c : Thread nD τ)))
  (arg7 : Memref sig .tc .vmem S1x24 .f32) (harg7 : arg7.IsWhole)
  (arg9 : Memref sig .tc .vmem S1x24 .f32) (harg9 : arg9.IsWhole)
  (v651 : FVec F S24x1 .f32) (v656 : FVec F S24x1 .f32) (v1139 : FVec F S32x256 .fp8e4m3)
  (HQ : Buf (Elt F) (hqM.view.loc (c : Thread nD τ))) (SD : Buf (Elt F) (sdvM.view.loc (c : Thread nD τ)))

/-- Output blocks from `j` on, in VMEM and in HBM, not yet sent out. -/
def ovFrom (j : ℕ) : sProp 𝕄 := bigSep (Ring.rangeSet 16 j 16) fun b => iprop(∃ g, ovP c (Ring.bk 16 b.val) g)
def oFrom (j : ℕ) : sProp 𝕄 := bigSep (Ring.rangeSet 16 j 16) fun b => iprop(∃ g, oP c (Ring.bk 16 b.val) g)
theorem ovFrom_head (j : ℕ) (hj : j < 16) : ovFrom (F := F) c j = iprop((∃ g, ovP c (Ring.bk 16 j) g) ∗ ovFrom c (j + 1)) :=
  Ring.bigSep_rangeSet_head (NB := 16) (Φ := fun b => iprop(∃ g, ovP (F := F) c (Ring.bk 16 b.val) g)) hj hj
theorem oFrom_head (j : ℕ) (hj : j < 16) : oFrom (F := F) c j = iprop((∃ g, oP c (Ring.bk 16 j) g) ∗ oFrom c (j + 1)) :=
  Ring.bigSep_rangeSet_head (NB := 16) (Φ := fun b => iprop(∃ g, oP (F := F) c (Ring.bk 16 b.val) g)) hj hj

def inv2 (j : ℕ) : sProp 𝕄 :=
  iprop(ringAt c W D (j + 28) ∗ homesD c D (j + 28) ∗ ovFrom c j ∗ oFrom c j ∗ batO c D v651 HQ SD j 0 ∗ side2 c HQ SD)

theorem step2 (j : Fin k0_t2_loop.trips) :
    inv2 c W D v651 HQ SD j.val
      ⊢ wp frame (wpE (defs₀ (F := F)) 𝒱₀ (c : Thread nD τ) none) Set.univ (trip2 arg7 harg7 arg9 harg9 v651 v656 v1139 j)
        (fun _ => inv2 c W D v651 HQ SD (j.val + 1)) := by
  have h16 := trips2_lt j
  unfold inv2
  rw [show j.val + 1 + 28 = j.val + 28 + 1 by omega, ring_out, ring_in, ovFrom_head c j.val h16, oFrom_head c j.val h16]
  rw [show infl (F := F) c W D (Ring.sl 12 (j.val + 28)) (j.val + 28) = iprop((∃ f, flD c D (Ring.sl 12 (j.val + 28)) (Ring.bk 16 j.val) f) ∗ ∃ f, restP c (Ring.sl 12 (j.val + 28)) f) from by
    unfold infl
    rw [if_neg (by omega), if_pos (by omega), show j.val + 28 - 28 = j.val by omega]]
  by_cases hj : j.val < 4
  · rw [homesD_out' c D j.val hj, homesD_swap c D j.val hj]
    rw [show infl (F := F) c W D (Ring.sl 12 (j.val + 28)) (j.val + 28 + 12) = iprop((∃ f, flD c D (Ring.sl 12 (j.val + 28)) (Ring.bk 16 (j.val + 12)) f) ∗ ∃ f, restP c (Ring.sl 12 (j.val + 28)) f) from by
      unfold infl
      rw [if_neg (by omega), if_pos (by omega), show j.val + 28 + 12 - 28 = j.val + 12 by omega]]
    iintro ⟨⟨⟨HB, HRest⟩, HR⟩, ⟨HD, HDR⟩, ⟨HV, HVs⟩, ⟨HO, HOs⟩, HBO, HS⟩
    iapply (wp_wand_r Idealize.ShloMosaic.frame (wpE (defs₀ (F := F)) 𝒱₀ (c : Thread nD τ) none) Set.univ)
    isplitl [HB HD HV HO HBO HS]
    · iapply (trip2_lo c D arg7 harg7 arg9 harg9 v651 v656 v1139 HQ SD j hj)
      isplitl [HB]; · iexact HB
      isplitl [HD]; · iexact HD
      isplitl [HV]; · iexact HV
      isplitl [HO]; · iexact HO
      isplitl [HBO]; · iexact HBO
      iexact HS
    · iintro %_ ⟨HB, HD, HBO, HS⟩
      isplitl [HB HRest HR]
      · isplitl [HB HRest]
        · isplitl [HB]; · iexact HB
          iexact HRest
        iexact HR
      isplitl [HD HDR]
      · isplitl [HD]; · iexact HD
        iexact HDR
      isplitl [HVs]; · iexact HVs
      isplitl [HOs]; · iexact HOs
      isplitl [HBO]; · iexact HBO
      iexact HS
  · rw [homesD_in c D j.val (by omega) h16]
    rw [show infl (F := F) c W D (Ring.sl 12 (j.val + 28)) (j.val + 28 + 12) = iprop(cellP c (Ring.sl 12 (j.val + 28)) ∗ (∃ f, dwP c (Ring.sl 12 (j.val + 28)) f) ∗ ∃ f, restP c (Ring.sl 12 (j.val + 28)) f) from by
      unfold infl
      rw [if_neg (by omega), if_neg (by omega)]]
    iintro ⟨⟨⟨HB, HRest⟩, HR⟩, HDR, ⟨HV, HVs⟩, ⟨HO, HOs⟩, HBO, HS⟩
    iapply (wp_wand_r Idealize.ShloMosaic.frame (wpE (defs₀ (F := F)) 𝒱₀ (c : Thread nD τ) none) Set.univ)
    isplitl [HB HV HO HBO HS]
    · iapply (trip2_hi c D arg7 harg7 arg9 harg9 v651 v656 v1139 HQ SD j (by omega))
      isplitl [HB]; · iexact HB
      isplitl [HV]; · iexact HV
      isplitl [HO]; · iexact HO
      isplitl [HBO]; · iexact HBO
      iexact HS
    · iintro %_ ⟨⟨HB, HW⟩, HD, HBO, HS⟩
      isplitl [HB HW HRest HR]
      · isplitl [HB HW HRest]
        · isplitl [HB]; · iexact HB
          isplitl [HW]; · iexact HW
          iexact HRest
        iexact HR
      isplitl [HD HDR]
      · isplitl [HD]; · iexact HD
        iexact HDR
      isplitl [HVs]; · iexact HVs
      isplitl [HOs]; · iexact HOs
      isplitl [HBO]; · iexact HBO
      iexact HS

/-! ## The loop that waits for the output copies -/

theorem trips3_lt (i : Fin k0_t3_loop.trips) : i.val < 16 := lt_of_lt_of_eq i.isLt (by decide)

def inv3 (i : ℕ) : sProp 𝕄 :=
  iprop((∃ Wt, owes (c : Thread nD τ) 0 Wt)
    ∗ if i < 16 then batO c D v651 HQ SD 16 (i * 768)
      else iprop(semVal ((c : Thread nD τ), SemLoc.dma (osm 2).sem) 0 ∗ bigSep Finset.univ (delO c D v651 HQ SD)))

abbrev trip3 (j : Fin k0_t3_loop.trips) : Prog (TpuEff nD τ sig (Elt F) Λ₀ .tc) Unit :=
  k0_t3_body (F := F) xM (Memref.isWhole_whole _) wguM (Memref.isWhole_whole _) suM (Memref.isWhole_whole _) wdM (Memref.isWhole_whole _)
    sdM (Memref.isWhole_whole _) outM (Memref.isWhole_whole _) xcM (Memref.isWhole_whole _) arg7 harg7 hcM (Memref.isWhole_whole _) arg9 harg9
    ringM (Memref.isWhole_whole _) xvM (Memref.isWhole_whole _) suvM (Memref.isWhole_whole _) sdvM (Memref.isWhole_whole _)
    xqM (Memref.isWhole_whole _) hqM (Memref.isWhole_whole _) xcvM (Memref.isWhole_whole _) hcvM (Memref.isWhole_whole _)
    hM (Memref.isWhole_whole _) hxM (Memref.isWhole_whole _) ovM (Memref.isWhole_whole _)
    cc0_scratch11 cc0_scratch12 cc0_scratch13 v651 v656 v1139 j ()

theorem step3 (i : Fin k0_t3_loop.trips) :
    inv3 c D v651 HQ SD i.val
      ⊢ wp frame (wpE (defs₀ (F := F)) 𝒱₀ (c : Thread nD τ) none) Set.univ (trip3 arg7 harg7 arg9 harg9 v651 v656 v1139 i)
        (fun _ => inv3 c D v651 HQ SD (i.val + 1)) := by
  have h16 := trips3_lt i
  unfold inv3
  simp only [if_pos h16]
  rcases Nat.lt_or_ge (i.val + 1) 16 with h1 | h1
  · simp only [if_pos h1]
    iintro ⟨⟨%Wt, HW⟩, HB⟩
    dsimp only [trip3]
    sl_unfold [k0_t3_body]
    sl_exec
    sl_step
    isplitl [HW]; · iexists _; iexact HW
    rw [show (i.val + 1) * 768 = i.val * 768 + 768 by omega]
    iexact HB
  · simp only [if_neg (Nat.not_lt.mpr h1)]
    iintro ⟨⟨%Wt, HW⟩, HB⟩
    dsimp only [trip3]
    sl_unfold [k0_t3_body]
    sl_exec
    sl_step
    isplitl [HW]; · iexists _; iexact HW
    isplitl [HB]; · iexact HB
    iexact HB_all

end Loop2

end Cert.Proof.Kernel

end
-- ==== Proof.Quant.lean ====
module

public import proofs.«01_k».proof.Proof.Loop2

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ (UU nD τ) ℕ

/-! ## Arrays stored block of columns by block of columns -/

/-- The array whose block of `w` columns number `b` is `B b`. -/
def colsOf {A : Type} {R C : ℕ} (w : ℕ) [NeZero w] (B : ℕ → (⟨2, ![R, w]⟩ : Shape).Idx → A) : (⟨2, ![R, C]⟩ : Shape).Idx → A :=
  fun y => B ((y 1).val / w) (ix2 (y 0) (Fin.ofNat w (y 1).val))

section Cols
variable {cs : Space} {e : EltTy} {R C w : ℕ} [NeZero w] (m : Memref sig .tc cs ⟨2, ![R, C]⟩ e) (B : ℕ → (⟨2, ![R, w]⟩ : Shape).Idx → Elt F e)
  (f : m.view.ty.Contents (Elt F))
omit [FloatOps F] in
theorem cols_nil : ∀ y : (⟨2, ![R, C]⟩ : Shape).Idx, (y 1).val < 0 → m.view.read (Elt F) (m.view.writes (Elt F) f []) y = colsOf w B y :=
  fun y h => absurd h (Nat.not_lt_zero _)
omit [FloatOps F] in
/-- One more block stored on the right. -/
theorem cols_step {L : List (View.Piece (Elt F) ⟨2, ![R, C]⟩ e)} (n : ℕ) (hn : n = n / w * w)
    (inb : ∀ a, (![0, n] : Fin 2 → ℕ) a + (![R, w] : Fin 2 → ℕ) a ≤ (⟨2, ![R, C]⟩ : Shape).size a)
    (p : (⟨2, ![R, w]⟩ : Shape).Idx → Elt F e) (hp : p = B (n / w))
    (ih : ∀ y : (⟨2, ![R, C]⟩ : Shape).Idx, (y 1).val < n → m.view.read (Elt F) (m.view.writes (Elt F) f L) y = colsOf w B y) :
    ∀ y : (⟨2, ![R, C]⟩ : Shape).Idx, (y 1).val < n + w →
      m.view.read (Elt F) (m.view.writes (Elt F) f (⟨Rect.unit (s := ⟨2, ![R, C]⟩) ![0, n] ![R, w] inb, p⟩ :: L)) y = colsOf w B y := by
  intro y hy
  by_cases h : (y 1).val < n
  · rw [View.read_writes_cons_unit_of_not_mem m.view f inb p L y rfl 1 (Or.inl h)]
    exact ih y h
  · have hw : 0 < w := Nat.pos_of_ne_zero (NeZero.ne w)
    generalize n / w = b at hn hp
    have e1 : (y 1).val / w = b := by
      rw [Nat.div_eq_of_lt_le]
      · rw [← hn]; omega
      · rw [Nat.succ_mul, ← hn]; omega
    have e2 : (y 1).val % w = (y 1).val - n := by
      have := Nat.div_add_mod (y 1).val w
      rw [e1, Nat.mul_comm, ← hn] at this; omega
    rw [View.read_writes_cons_unit_of_mem m.view f inb p L y (ix2 (y 0) (Fin.ofNat w (y 1).val)) rfl]
    · rw [hp]; show _ = B ((y 1).val / w) _
      rw [e1]
    · intro a; fin_cases a
      · show (y 0).val = 0 + (y 0).val; omega
      · show (y 1).val = n + (y 1).val % w
        rw [e2]; omega
end Cols

/-! ## The activations' codes -/

/-- Block `n` of 512 columns. -/
def xblk (X : S24x8192.Idx → Elt F .bf16) (n : ℕ) : FVec F S24x512 .bf16 := fun z => X (ix2 (z 0) (Fin.ofNat 8192 (n * 512 + (z 1).val)))
omit [FloatOps F] in
theorem x_read (X : S24x8192.Idx → Elt F .bf16) (n m : ℕ) (hm : m = n * 512) (inb : ∀ a, (![0, m] : Fin 2 → ℕ) a + S24x512.size a ≤ S24x8192.size a) :
    xvM.view.readAt (Elt F) (Rect.unit (s := S24x8192) ![0, m] S24x512.size inb).toLoadRect X = xblk X n := by
  subst hm
  funext x
  show X ((Rect.unit (s := S24x8192) ![0, n * 512] S24x512.size inb).emb x) = X _
  have h1 : n * 512 + 512 ≤ 8192 := inb 1
  have h2 : (x 1).val < 512 := (x 1).isLt
  congr 1; funext a; apply Fin.ext; fin_cases a
  · show 0 + 1 * (x 0).val = (x 0).val
    omega
  · show n * 512 + 1 * (x 1).val = (n * 512 + (x 1).val) % 8192
    rw [Nat.mod_eq_of_lt (by omega)]; omega

section XQ
variable (X : S24x8192.Idx → Elt F .bf16)
/-- A row's largest magnitude, over 448. -/
def xy : FVec F S24x1 .f32 :=
  k0_pay6 (k0_pay5 (xblk X 0) (xblk X 1) (xblk X 2) (xblk X 3) (xblk X 4) (xblk X 5) (xblk X 6) (xblk X 7) (xblk X 8))
    (xblk X 9) (xblk X 10) (xblk X 11) (xblk X 12) (xblk X 13) (xblk X 14) (xblk X 15)
def xe : IVec S24x1 32 :=
  k0_pay7 (k0_pay5 (xblk X 0) (xblk X 1) (xblk X 2) (xblk X 3) (xblk X 4) (xblk X 5) (xblk X 6) (xblk X 7) (xblk X 8))
    (xblk X 9) (xblk X 10) (xblk X 11) (xblk X 12) (xblk X 13) (xblk X 14) (xblk X 15)
/-- The activations' scales, -/
def xsc : FVec F S24x1 .f32 := k0_pay12 (xy X) (k0_pay8 (xy X) (xe X) 63#32) (k0_pay9 (xy X) (xe X) 63#32) (k0_pay10 (xy X) (xe X) 63#32)
/-- the scales' inverses, -/
def xinv : FVec F S24x1 .f32 := k0_pay13 (xy X) (k0_pay8 (xy X) (xe X) 63#32) (k0_pay9 (xy X) (xe X) 63#32) (k0_pay10 (xy X) (xe X) 63#32)
/-- the codes, -/
def XCf : S24x8192.Idx → Elt F .fp8e4m3 := colsOf 512 fun n => k0_pay18 (xinv X) (xblk X n)
/-- and the codes with eight rows of zeros under them. -/
def XQf : S32x8192.Idx → Elt F .fp8e4m3 := colsOf 512 fun n => k0_pay19 (xinv X) (xblk X n)
end XQ

section HQ
variable (c : Dev nD) (W : Buf (Elt F) (wguM.view.loc (c : Thread nD τ)))
  (X : S24x8192.Idx → Elt F .bf16) (SU : S1x14336.Idx → Elt F .f32)

/-- Block `k` of the hidden layer. -/
def hblk (k : ℕ) : FVec F S1x24x256 .f32 := hrow c W (xsc X) (XQf X) SU k
theorem h_read (H : Buf (Elt F) (hM.view.loc (c : Thread nD τ))) (k : ℕ) (hk : k < 28) (inb : ∀ a, (![k, 0, 0] : Fin 3 → ℕ) a + S1x24x256.size a ≤ S28x24x256.size a) :
    hM.view.readAt (Elt F) (Rect.unit (s := S28x24x256) ![k, 0, 0] S1x24x256.size inb).toLoadRect (hAt c W (xsc X) (XQf X) SU H 28) = hblk c W X SU k := by
  have gen : ∀ n, k < n → ∀ x : S1x24x256.Idx, hAt c W (xsc X) (XQf X) SU H n ((Rect.unit (s := S28x24x256) ![k, 0, 0] S1x24x256.size inb).emb x) = hblk c W X SU k x := by
    intro n
    induction n with
    | zero => intro h; omega
    | succ n ih =>
      intro h x
      have h0 : (x 0).val < 1 := (x 0).isLt
      show (if ((Rect.unit (s := S28x24x256) ![k, 0, 0] S1x24x256.size inb).emb x 0).val = n then _ else _) = _
      have e0 : ((Rect.unit (s := S28x24x256) ![k, 0, 0] S1x24x256.size inb).emb x 0).val = k := by
        show k + 1 * (x 0).val = k; omega
      rw [e0]
      by_cases hn : k = n
      · rw [if_pos hn]; subst hn
        refine congrArg (hrow c W (xsc X) (XQf X) SU k) ?_
        funext a; apply Fin.ext; fin_cases a
        · show 0 = (x 0).val; omega
        · show 0 + 1 * (x 1).val = (x 1).val; omega
        · show 0 + 1 * (x 2).val = (x 2).val; omega
      · rw [if_neg hn]; exact ih (by omega) x
  funext x
  exact gen 28 hk x

/-- The 24 × 256 maxima of the hidden layer's magnitudes over its 28 blocks. -/
def hmxAll : FVec F S24x256 .f32 := mAt c W (xsc X) (XQf X) SU (k0_pay71 (F := F)) 28
def hy : FVec F S24x1 .f32 := k0_pay75 (hmxAll c W X SU)
/-- The hidden layer's scales, -/
def hsc : FVec F S24x1 .f32 := k0_pay82 (hy c W X SU) (k0_pay79 (hy c W X SU) k0_pay76 k0_pay77 k0_pay78) (k0_pay80 (hy c W X SU) k0_pay76 k0_pay77 k0_pay78)
/-- the scales' inverses, -/
def hinv : FVec F S24x1 .f32 := k0_pay83 (hy c W X SU) (k0_pay79 (hy c W X SU) k0_pay76 k0_pay77 k0_pay78) (k0_pay80 (hy c W X SU) k0_pay76 k0_pay77 k0_pay78)
/-- the codes, -/
def HCf : S24x7168.Idx → Elt F .fp8e4m3 := colsOf 256 fun k => k0_pay89 (hinv c W X SU) (hblk c W X SU k)
/-- and the codes with eight rows of zeros under them. -/
def HQf : S32x7168.Idx → Elt F .fp8e4m3 := colsOf 256 fun k => k0_pay90 (hinv c W X SU) (hblk c W X SU k)
end HQ

omit [FloatOps F] in
/-- A store of a whole buffer leaves what was stored. -/
theorem whole_writes (b : Ref sig .tc) (f : b.ty.Contents (Elt F)) (x : b.ty.shape.Idx → Elt F b.ty.elt) :
    (Memref.whole b).view.writes (Elt F) f [⟨Rect.whole _, x⟩] = x :=
  funext fun y => congrFun (View.read_writes_whole (Memref.whole b).view f x) y

/-- A buffer's contents under a name. -/
theorem name_contents (c : Dev nD) {cs : Space} {sh : Shape} {e : EltTy} (m : Memref sig .tc cs sh e) (f : Buf (Elt F) (m.view.loc (c : Thread nD τ))) :
    at_ (F := F) c m f ⊢ iprop(∃ g, ⌜g = f⌝ ∗ at_ c m g) := by
  iintro H
  iexists f
  isplitr; · ipureintro; rfl
  iexact H

end Cert.Proof.Kernel
-- ==== Proof.Body.lean ====
module

public import proofs.«01_k».proof.Proof.Quant

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ (UU nD τ) ℕ

section Body
variable (c : Dev nD) (W : Buf (Elt F) (wguM.view.loc (c : Thread nD τ))) (D : Buf (Elt F) (wdM.view.loc (c : Thread nD τ)))

/-- A semaphore of the three the inputs' copies use. -/
def ism (i : Fin 3) : DmaSems sig S_ := (cc0_scratch12.slice (Rect.unit (s := S3) ![i.val] S1.size (fun a => by fin_cases a; have := i.isLt; show i.val + 1 ≤ 3; omega))).squeeze S_ squeezes_S1_S_
@[sl_canon] theorem cnI (n : ℕ) (hh) : (cc0_scratch12.slice (Rect.unit (s := S3) ![n] S1.size hh)).squeeze S_ squeezes_S1_S_ = ism (Fin.ofNat 3 n) := by
  have h : n + 1 ≤ 3 := hh 0
  have e : n % 3 = n := Nat.mod_eq_of_lt (by omega)
  unfold ism
  congr 2
  simp only [Fin.ofNat, e]

/-- Slot `s` of the ring, empty and idle. -/
abbrev idleP (s : Fin 12) : sProp 𝕄 := iprop(cellP c s ∗ ∃ f, slP c s f)
/-- Slot `s` ready for its first chunk. -/
abbrev readyP (s : Fin 12) : sProp 𝕄 := iprop(batG c W s s.val 0 0 ∗ (∃ f, loP c s f) ∗ (∃ f, hiP c s f) ∗ gPP c W (Ring.bk 28 s.val))

theorem ready_slot (s : Fin 12) : iprop(idleP c s ∗ gPP c W (Ring.bk 28 s.val)) ⊢ |={Set.univ}=> readyP (F := F) c W s := by
  iintro ⟨⟨Hc, %f, Hs⟩, Hg⟩
  imod (Transfers.batch_alloc' (Lvl := ℕ) countersEmb (c : Thread nD τ) () 65536 (delG c W s s.val) (sm := SemLoc.dma (csm s).sem) (E := Set.univ)) $$ Hc with HB
  imodintro
  ihave Hs := (slot_halves_ent c s f) $$ Hs
  icases Hs with ⟨Hl, Hh⟩
  isplitl [HB]; · iexact HB
  isplitl [Hl]; · iexists _; iexact Hl
  isplitl [Hh]; · iexists _; iexact Hh
  iexact Hg

theorem over12 (Φ : Fin 12 → sProp 𝕄) : bigSep Finset.univ Φ = iprop(Φ (Fin.ofNat 12 0) ∗ Φ (Fin.ofNat 12 1) ∗ Φ (Fin.ofNat 12 2) ∗ Φ (Fin.ofNat 12 3) ∗ Φ (Fin.ofNat 12 4) ∗ Φ (Fin.ofNat 12 5) ∗ Φ (Fin.ofNat 12 6) ∗ Φ (Fin.ofNat 12 7) ∗ Φ (Fin.ofNat 12 8) ∗ Φ (Fin.ofNat 12 9) ∗ Φ (Fin.ofNat 12 10) ∗ Φ (Fin.ofNat 12 11)) := by
  rw [bigSep_univ_eq_bigSepL [Fin.ofNat 12 0, Fin.ofNat 12 1, Fin.ofNat 12 2, Fin.ofNat 12 3, Fin.ofNat 12 4, Fin.ofNat 12 5, Fin.ofNat 12 6, Fin.ofNat 12 7, Fin.ofNat 12 8, Fin.ofNat 12 9, Fin.ofNat 12 10, Fin.ofNat 12 11] (by decide) (by decide) Φ]
  rfl
theorem zip2 {I : Type} [DecidableEq I] (S : Finset I) (Φ Ψ : I → sProp 𝕄) : iprop((bigSep S Φ) ∗ (bigSep S Ψ)) ⊢ bigSep S fun s => iprop(Φ s ∗ Ψ s) :=
  Entails.of_eq (bigSep_sep S Φ Ψ).symm

theorem infl_start (s : Fin 12) : infl (F := F) c W D s (Ring.firstFrom 0 12 s) = batG c W s s.val 2 0 := by
  have e : Ring.firstFrom 0 12 s = s.val := by revert s; decide
  rw [e, infl, if_pos (by have := s.isLt; omega)]
theorem ring_start : (bigSep Finset.univ fun s : Fin 12 => batG (F := F) c W s s.val 2 0) ⊢ ringAt c W D 0 := by
  unfold ringAt
  exact bigSep_mono fun s _ => Entails.of_eq (infl_start c W D s).symm

theorem batO_start (v651 : FVec F S24x1 .f32) (HQ : Buf (Elt F) (hqM.view.loc (c : Thread nD τ))) (SD : Buf (Elt F) (sdvM.view.loc (c : Thread nD τ))) :
    (semVal ((c : Thread nD τ), SemLoc.dma (osm (Fin.ofNat 3 2)).sem) 0 : sProp 𝕄) ⊢ |={Set.univ}=> batO c D v651 HQ SD 0 0 := by
  have hst : ∀ t : Fin 16, BI.Storable (upEmb : UEmb _ 𝕄) (delO c D v651 HQ SD t) := fun t => delO_st c D v651 HQ SD t
  exact Transfers.batch_alloc' (Lvl := ℕ) countersEmb (c : Thread nD τ) () 768 (delO c D v651 HQ SD) (sm := SemLoc.dma (osm 2).sem) (E := Set.univ)

theorem inv3_end (v651 : FVec F S24x1 .f32) (HQ : Buf (Elt F) (hqM.view.loc (c : Thread nD τ))) (SD : Buf (Elt F) (sdvM.view.loc (c : Thread nD τ))) :
    inv3 (F := F) c D v651 HQ SD 16 ⊢ iprop((∃ Wt, owes (c : Thread nD τ) 0 Wt) ∗ semVal ((c : Thread nD τ), SemLoc.dma (osm (Fin.ofNat 3 2)).sem) 0 ∗ bigSep Finset.univ (delO c D v651 HQ SD)) := by
  unfold inv3
  rw [if_neg (Nat.lt_irrefl 16)]
  exact Entails.of_eq rfl

variable (arg7 : Memref sig .tc .vmem S1x24 .f32) (harg7 : arg7.IsWhole) (arg9 : Memref sig .tc .vmem S1x24 .f32) (harg9 : arg9.IsWhole)

/-- The body over its two windowed results. -/
abbrev bodyG : Prog (TpuEff nD τ sig (Elt F) Λ₀ .tc) PUnit :=
  cc0__body (F := F) xM (Memref.isWhole_whole _) wguM (Memref.isWhole_whole _) suM (Memref.isWhole_whole _) wdM (Memref.isWhole_whole _)
    sdM (Memref.isWhole_whole _) outM (Memref.isWhole_whole _) xcM (Memref.isWhole_whole _) arg7 harg7 hcM (Memref.isWhole_whole _) arg9 harg9
    ringM (Memref.isWhole_whole _) xvM (Memref.isWhole_whole _) suvM (Memref.isWhole_whole _) sdvM (Memref.isWhole_whole _)
    xqM (Memref.isWhole_whole _) hqM (Memref.isWhole_whole _) xcvM (Memref.isWhole_whole _) hcvM (Memref.isWhole_whole _)
    hM (Memref.isWhole_whole _) hxM (Memref.isWhole_whole _) ovM (Memref.isWhole_whole _)
    cc0_scratch11 cc0_scratch12 cc0_scratch13

abbrev iCell (i : Fin 3) : sProp 𝕄 := semVal ((c : Thread nD τ), SemLoc.dma (ism i).sem) 0
abbrev oCell (i : Fin 3) : sProp 𝕄 := semVal ((c : Thread nD τ), SemLoc.dma (osm i).sem) 0

variable (X : Buf (Elt F) (xM.view.loc (c : Thread nD τ))) (SU : Buf (Elt F) (suM.view.loc (c : Thread nD τ))) (SD : Buf (Elt F) (sdM.view.loc (c : Thread nD τ)))

/-- A buffer of the core's own memory, holding anything. -/
abbrev any_ {cs : Space} {sh : Shape} {e : EltTy} (m : Memref sig .tc cs sh e) : sProp 𝕄 := iprop(∃ f, at_ (F := F) c m f)

/-- What the core holds before the body, but for the two windowed results. -/
def PREΦ : sProp 𝕄 := iprop(at_ c xM X ∗ at_ c suM SU ∗ at_ c sdM SD ∗ (bigSep Finset.univ fun s : Fin 12 => gPP c W (Ring.bk 28 s.val)) ∗ homesG c W 0 ∗ homesD c D 0
  ∗ ovFrom c 0 ∗ oFrom c 0 ∗ any_ c xcM ∗ any_ c hcM
  ∗ (bigSep Finset.univ fun s : Fin 12 => idleP c s)
  ∗ (any_ c xvM ∗ any_ c suvM ∗ any_ c sdvM ∗ any_ c xqM ∗ any_ c hqM ∗ any_ c xcvM ∗ any_ c hcvM ∗ any_ c hM ∗ any_ c hxM)
  ∗ (iCell c (Fin.ofNat 3 0) ∗ iCell c (Fin.ofNat 3 1) ∗ iCell c (Fin.ofNat 3 2)) ∗ (oCell c (Fin.ofNat 3 0) ∗ oCell c (Fin.ofNat 3 1) ∗ oCell c (Fin.ofNat 3 2)))
/-- What it holds after. -/
def POSTΦ : sProp 𝕄 := iprop(at_ c xM X ∗ at_ c suM SU ∗ at_ c sdM SD ∗ homesG c W 28 ∗ homesD c D 44
  ∗ bigSep Finset.univ (delO c D (hsc c W X SU) (HQf c W X SU) SD) ∗ at_ c xcM (XCf X) ∗ at_ c hcM (HCf c W X SU)
  ∗ ringAt c W D 44
  ∗ (any_ c xvM ∗ any_ c suvM ∗ any_ c sdvM ∗ any_ c xqM ∗ any_ c hqM ∗ any_ c xcvM ∗ any_ c hcvM ∗ any_ c hM ∗ any_ c hxM)
  ∗ (iCell c (Fin.ofNat 3 0) ∗ iCell c (Fin.ofNat 3 1) ∗ iCell c (Fin.ofNat 3 2)) ∗ (oCell c (Fin.ofNat 3 0) ∗ oCell c (Fin.ofNat 3 1) ∗ oCell c (Fin.ofNat 3 2)))
/-- A scales window holding `p`. -/
abbrev scW (a : Memref sig .tc .vmem S1x24 .f32) (p : FVec F S1x24 .f32) : Buf (Elt F) (a.view.loc (c : Thread nD τ)) :=
  a.view.writes (Elt F) a.view.junk [⟨Rect.unit (s := S1x24) ![0, 0] S1x24.size inb_S1x24_S1x24_0_0, p⟩]
def PRE : sProp 𝕄 := iprop(PREΦ c W D X SU SD ∗ any_ c arg7 ∗ any_ c arg9 ∗ ∃ Wt, owes (c : Thread nD τ) 0 Wt)
def POST : sProp 𝕄 := iprop(POSTΦ c W D X SU SD ∗ at_ c arg7 (scW c arg7 (k0_pay70 (xsc X))) ∗ at_ c arg9 (scW c arg9 (k0_pay182 (hsc c W X SU))) ∗ ∃ Wt, owes (c : Thread nD τ) 0 Wt)

set_option maxHeartbeats 4000000 in
theorem bodyRun (Q : PUnit → sProp 𝕄) :
    iprop(PRE c W D arg7 arg9 X SU SD ∗ (POST c W D arg7 arg9 X SU SD -∗ Q ⟨⟩)) ⊢ wp frame (wpE (defs₀ (F := F)) 𝒱₀ (c : Thread nD τ) none) Set.univ (bodyG arg7 harg7 arg9 harg9) Q := by
  unfold PRE PREΦ
  iintro ⟨⟨⟨Hx, Hsu, Hsd, Hgs, HGh, HDh, Hov, Ho, ⟨%fxc, Hxc⟩, ⟨%fhc, Hhc⟩, Hsl,
    ⟨⟨%fxv, Hxv⟩, ⟨%fsuv, Hsuv⟩, ⟨%fsdv, Hsdv⟩, ⟨%fxq, Hxq⟩, ⟨%fhq, Hhq⟩, ⟨%fxcv, Hxcv⟩, ⟨%fhcv, Hhcv⟩, ⟨%fh, Hh⟩, ⟨%fhx, Hhx⟩⟩,
    ⟨Hi0, Hi1, Hi2⟩, ⟨Ho0, Ho1, Ho2⟩⟩, ⟨%f7, H7⟩, ⟨%f9, H9⟩, ⟨%Wt, HW⟩⟩, Hk⟩
  ihave Hr := (zip2 Finset.univ (fun s : Fin 12 => idleP (F := F) c s) (fun s => gPP c W (Ring.bk 28 s.val))) $$ [Hsl Hgs]
  · isplitl [Hsl]; · iexact Hsl
    iexact Hgs
  imod (BI.BIBase.Entails.trans (bigSep_mono (fun s _ => ready_slot c W s)) (bigSep_fupd Finset.univ _)) $$ Hr with Hr
  ihave Hr := (Entails.of_eq (over12 _)) $$ Hr
  icases Hr with ⟨⟨HB0, ⟨%l0, HL0⟩, ⟨%h0, HH0⟩, HG0, HU0⟩, ⟨HB1, ⟨%l1, HL1⟩, ⟨%h1, HH1⟩, HG1, HU1⟩, ⟨HB2, ⟨%l2, HL2⟩, ⟨%h2, HH2⟩, HG2, HU2⟩,
    ⟨HB3, ⟨%l3, HL3⟩, ⟨%h3, HH3⟩, HG3, HU3⟩, ⟨HB4, ⟨%l4, HL4⟩, ⟨%h4, HH4⟩, HG4, HU4⟩, ⟨HB5, ⟨%l5, HL5⟩, ⟨%h5, HH5⟩, HG5, HU5⟩,
    ⟨HB6, ⟨%l6, HL6⟩, ⟨%h6, HH6⟩, HG6, HU6⟩, ⟨HB7, ⟨%l7, HL7⟩, ⟨%h7, HH7⟩, HG7, HU7⟩, ⟨HB8, ⟨%l8, HL8⟩, ⟨%h8, HH8⟩, HG8, HU8⟩,
    ⟨HB9, ⟨%l9, HL9⟩, ⟨%h9, HH9⟩, HG9, HU9⟩, ⟨HB10, ⟨%l10, HL10⟩, ⟨%h10, HH10⟩, HG10, HU10⟩, ⟨HB11, ⟨%l11, HL11⟩, ⟨%h11, HH11⟩, HG11, HU11⟩⟩
  set_option sl_exec.stopBefore "k0_part8" in sl_exec
  ihave HR := (ring_start c W D) $$ [HB0 HB1 HB2 HB3 HB4 HB5 HB6 HB7 HB8 HB9 HB10 HB11]
  · rw [over12]
    iframe
  -- the activations have arrived
  set_option sl_exec.maxSteps 3 in sl_exec
  ihave Hxv := (name_contents c xvM _) $$ Hxv
  icases Hxv with ⟨%X', %eX, Hxv⟩
  replace eX : X' = X := eX.trans (whole_writes cc0_scratch1 fxv (bodyRun.sl.dma0 c X))
  subst X'
  have f0 := x_read (F := F) X 0 0 (by norm_num) inb_S24x8192_S24x512_0_0
  have f1 := x_read (F := F) X 1 512 (by norm_num) inb_S24x8192_S24x512_0_512
  have f2 := x_read (F := F) X 2 1024 (by norm_num) inb_S24x8192_S24x512_0_1024
  have f3 := x_read (F := F) X 3 1536 (by norm_num) inb_S24x8192_S24x512_0_1536
  have f4 := x_read (F := F) X 4 2048 (by norm_num) inb_S24x8192_S24x512_0_2048
  have f5 := x_read (F := F) X 5 2560 (by norm_num) inb_S24x8192_S24x512_0_2560
  have f6 := x_read (F := F) X 6 3072 (by norm_num) inb_S24x8192_S24x512_0_3072
  have f7 := x_read (F := F) X 7 3584 (by norm_num) inb_S24x8192_S24x512_0_3584
  have f8 := x_read (F := F) X 8 4096 (by norm_num) inb_S24x8192_S24x512_0_4096
  have f9 := x_read (F := F) X 9 4608 (by norm_num) inb_S24x8192_S24x512_0_4608
  have f10 := x_read (F := F) X 10 5120 (by norm_num) inb_S24x8192_S24x512_0_5120
  have f11 := x_read (F := F) X 11 5632 (by norm_num) inb_S24x8192_S24x512_0_5632
  have f12 := x_read (F := F) X 12 6144 (by norm_num) inb_S24x8192_S24x512_0_6144
  have f13 := x_read (F := F) X 13 6656 (by norm_num) inb_S24x8192_S24x512_0_6656
  have f14 := x_read (F := F) X 14 7168 (by norm_num) inb_S24x8192_S24x512_0_7168
  have f15 := x_read (F := F) X 15 7680 (by norm_num) inb_S24x8192_S24x512_0_7680
  set_option sl_exec.stopBefore "k0_part19" in sl_exec
  set_option sl_exec.maxSteps 6 in sl_exec
  -- the codes are in place
  ihave Hxq := (name_contents c xqM _) $$ Hxq
  icases Hxq with ⟨%XQ, %eXQ, Hxq⟩
  replace eXQ : XQ = XQf X := by
    refine eXQ.trans (funext fun y => ?_)
    refine (whole_read cc0_scratch4 _ y).symm.trans ?_
    refine cols_step (w := 512) xqM (fun n => k0_pay19 (xinv X) (xblk X n)) fxq 7680 rfl _ _ rfl ?_ y (y 1).isLt
    iterate 15 refine cols_step (w := 512) xqM (fun n => k0_pay19 (xinv X) (xblk X n)) fxq _ rfl _ _ rfl ?_
    exact cols_nil _ _ _
  subst XQ
  ihave Hxcv := (name_contents c xcvM _) $$ Hxcv
  icases Hxcv with ⟨%XC, %eXC, Hxcv⟩
  replace eXC : XC = XCf X := by
    refine eXC.trans (funext fun y => ?_)
    refine (whole_read cc0_scratch6 _ y).symm.trans ?_
    refine cols_step (w := 512) xcvM (fun n => k0_pay18 (xinv X) (xblk X n)) fxcv 7680 rfl _ _ rfl ?_ y (y 1).isLt
    iterate 15 refine cols_step (w := 512) xcvM (fun n => k0_pay18 (xinv X) (xblk X n)) fxcv _ rfl _ _ rfl ?_
    exact cols_nil _ _ _
  subst XC
  set_option sl_exec.maxSteps 6 in sl_exec
  ihave Hsuv := (name_contents c suvM _) $$ Hsuv
  icases Hsuv with ⟨%SU', %eSU, Hsuv⟩
  replace eSU : SU' = SU := eSU.trans (whole_writes cc0_scratch2 fsuv (bodyRun.sl.dma0_1 c SU))
  subst SU'
  ihave Hhx := (hx_ent c fhx (k0_pay71 (F := F)) (k0_pay71 (F := F)) rfl) $$ Hhx
  -- the gate/up loop
  set_option sl_exec.maxSteps 1 in sl_exec
  sl_for (fun k _ => inv1 c W D (bodyRun.sl.r_6 c X) (XQf X) SU fh (k0_pay71 (F := F)) k) $$ [HR HGh HDh Hxq Hsuv Hh Hhx HW]
  case region =>
    intro k acc
    cases acc
    exact step1 c W D arg7 harg7 arg9 harg9 _ _ _ _ _ _ _ k
  · unfold inv1
    isplitl [HR]; · iexact HR
    isplitl [HGh]; · iexact HGh
    isplitl [HDh]; · iexact HDh
    isplitl [Hxq]; · iexact Hxq
    isplitl [Hsuv]; · iexact Hsuv
    isplitl [Hh]; · iexact Hh
    isplitl [Hhx]; · iexact Hhx
    iexists _; iexact HW
  iintro %acc HI
  cases acc
  rw [show (Scf.trips k0_t1_loop.lb k0_t1_loop.ub k0_t1_loop.st) = 28 by decide]
  unfold inv1
  icases HI with ⟨HR, HGh, HDh, Hxq, Hsuv, Hh, Hhx, %Wt1, HW⟩
  clear f0 f1 f2 f3 f4 f5 f6 f7 f8 f9 f10 f11 f12 f13 f14 f15
  ihave Hhx := (name_contents c hxM _) $$ Hhx
  icases Hhx with ⟨%HX, %eHX, Hhx⟩
  replace eHX : HX = hmxAll c W X SU := eHX
  subst HX
  have e5 := hx_read (F := F) c (hmxAll c W X SU)
  ihave Hh := (name_contents c hM _) $$ Hh
  icases Hh with ⟨%HH, %eHH, Hh⟩
  replace eHH : HH = hAt c W (xsc X) (XQf X) SU fh 28 := eHH
  subst HH
  have g0 := h_read (F := F) c W X SU fh 0 (by norm_num) inb_S28x24x256_S1x24x256_0_0_0
  have g1 := h_read (F := F) c W X SU fh 1 (by norm_num) inb_S28x24x256_S1x24x256_1_0_0
  have g2 := h_read (F := F) c W X SU fh 2 (by norm_num) inb_S28x24x256_S1x24x256_2_0_0
  have g3 := h_read (F := F) c W X SU fh 3 (by norm_num) inb_S28x24x256_S1x24x256_3_0_0
  have g4 := h_read (F := F) c W X SU fh 4 (by norm_num) inb_S28x24x256_S1x24x256_4_0_0
  have g5 := h_read (F := F) c W X SU fh 5 (by norm_num) inb_S28x24x256_S1x24x256_5_0_0
  have g6 := h_read (F := F) c W X SU fh 6 (by norm_num) inb_S28x24x256_S1x24x256_6_0_0
  have g7 := h_read (F := F) c W X SU fh 7 (by norm_num) inb_S28x24x256_S1x24x256_7_0_0
  have g8 := h_read (F := F) c W X SU fh 8 (by norm_num) inb_S28x24x256_S1x24x256_8_0_0
  have g9 := h_read (F := F) c W X SU fh 9 (by norm_num) inb_S28x24x256_S1x24x256_9_0_0
  have g10 := h_read (F := F) c W X SU fh 10 (by norm_num) inb_S28x24x256_S1x24x256_10_0_0
  have g11 := h_read (F := F) c W X SU fh 11 (by norm_num) inb_S28x24x256_S1x24x256_11_0_0
  have g12 := h_read (F := F) c W X SU fh 12 (by norm_num) inb_S28x24x256_S1x24x256_12_0_0
  have g13 := h_read (F := F) c W X SU fh 13 (by norm_num) inb_S28x24x256_S1x24x256_13_0_0
  have g14 := h_read (F := F) c W X SU fh 14 (by norm_num) inb_S28x24x256_S1x24x256_14_0_0
  have g15 := h_read (F := F) c W X SU fh 15 (by norm_num) inb_S28x24x256_S1x24x256_15_0_0
  have g16 := h_read (F := F) c W X SU fh 16 (by norm_num) inb_S28x24x256_S1x24x256_16_0_0
  have g17 := h_read (F := F) c W X SU fh 17 (by norm_num) inb_S28x24x256_S1x24x256_17_0_0
  have g18 := h_read (F := F) c W X SU fh 18 (by norm_num) inb_S28x24x256_S1x24x256_18_0_0
  have g19 := h_read (F := F) c W X SU fh 19 (by norm_num) inb_S28x24x256_S1x24x256_19_0_0
  have g20 := h_read (F := F) c W X SU fh 20 (by norm_num) inb_S28x24x256_S1x24x256_20_0_0
  have g21 := h_read (F := F) c W X SU fh 21 (by norm_num) inb_S28x24x256_S1x24x256_21_0_0
  have g22 := h_read (F := F) c W X SU fh 22 (by norm_num) inb_S28x24x256_S1x24x256_22_0_0
  have g23 := h_read (F := F) c W X SU fh 23 (by norm_num) inb_S28x24x256_S1x24x256_23_0_0
  have g24 := h_read (F := F) c W X SU fh 24 (by norm_num) inb_S28x24x256_S1x24x256_24_0_0
  have g25 := h_read (F := F) c W X SU fh 25 (by norm_num) inb_S28x24x256_S1x24x256_25_0_0
  have g26 := h_read (F := F) c W X SU fh 26 (by norm_num) inb_S28x24x256_S1x24x256_26_0_0
  have g27 := h_read (F := F) c W X SU fh 27 (by norm_num) inb_S28x24x256_S1x24x256_27_0_0
  set_option sl_exec.stopBefore "k0_part35" in sl_exec
  set_option sl_exec.maxSteps 9 in sl_exec
  -- the hidden layer's codes are in place
  ihave Hhq := (name_contents c hqM _) $$ Hhq
  icases Hhq with ⟨%HQ, %eHQ, Hhq⟩
  replace eHQ : HQ = HQf c W X SU := by
    refine eHQ.trans (funext fun y => ?_)
    refine (whole_read cc0_scratch5 _ y).symm.trans ?_
    refine cols_step (w := 256) hqM (fun n => k0_pay90 (hinv c W X SU) (hblk c W X SU n)) fhq 6912 rfl _ _ rfl ?_ y (y 1).isLt
    iterate 27 refine cols_step (w := 256) hqM (fun n => k0_pay90 (hinv c W X SU) (hblk c W X SU n)) fhq _ rfl _ _ rfl ?_
    exact cols_nil _ _ _
  subst HQ
  ihave Hhcv := (name_contents c hcvM _) $$ Hhcv
  icases Hhcv with ⟨%HC, %eHC, Hhcv⟩
  replace eHC : HC = HCf c W X SU := by
    refine eHC.trans (funext fun y => ?_)
    refine (whole_read cc0_scratch7 _ y).symm.trans ?_
    refine cols_step (w := 256) hcvM (fun n => k0_pay89 (hinv c W X SU) (hblk c W X SU n)) fhcv 6912 rfl _ _ rfl ?_ y (y 1).isLt
    iterate 27 refine cols_step (w := 256) hcvM (fun n => k0_pay89 (hinv c W X SU) (hblk c W X SU n)) fhcv _ rfl _ _ rfl ?_
    exact cols_nil _ _ _
  subst HC
  clear g0 g1 g2 g3 g4 g5 g6 g7 g8 g9 g10 g11 g12 g13 g14 g15 g16 g17 g18 g19 g20 g21 g22 g23 g24 g25 g26 g27 e5
  set_option sl_exec.maxSteps 6 in sl_exec
  ihave Hsdv := (name_contents c sdvM _) $$ Hsdv
  icases Hsdv with ⟨%SD', %eSD, Hsdv⟩
  replace eSD : SD' = SD := eSD.trans (whole_writes cc0_scratch3 _ (bodyRun.sl.dma0_2 c SD))
  subst SD'
  imod (batO_start c D (bodyRun.sl.r_20 c W X SU) (HQf c W X SU) SD) $$ Ho2 with HBO
  -- the down loop
  sl_for (fun k _ => inv2 c W D (bodyRun.sl.r_20 c W X SU) (HQf c W X SU) SD k) $$ [HR HDh Hov Ho HBO Hhq Hsdv HW]
  case region =>
    intro k acc
    cases acc
    exact step2 c W D arg7 harg7 arg9 harg9 _ _ _ _ _ k
  · unfold inv2
    isplitl [HR]; · iexact HR
    isplitl [HDh]; · iexact HDh
    isplitl [Hov]; · iexact Hov
    isplitl [Ho]; · iexact Ho
    isplitl [HBO]; · iexact HBO
    isplitl [Hhq]; · iexact Hhq
    isplitl [Hsdv]; · iexact Hsdv
    iexists _; iexact HW
  iintro %acc HI
  cases acc
  rw [show (Scf.trips k0_t2_loop.lb k0_t2_loop.ub k0_t2_loop.st) = 16 by decide]
  unfold inv2
  icases HI with ⟨HR, HDh, Hov, Ho, HBO, Hhq, Hsdv, %Wt2, HW⟩
  sl_exec
  sl_for (fun k _ => inv3 c D (bodyRun.sl.r_20 c W X SU) (HQf c W X SU) SD k) $$ [HBO HW]
  case region =>
    intro k acc
    cases acc
    exact step3 c D arg7 harg7 arg9 harg9 _ _ _ _ _ k
  · unfold inv3
    isplitl [HW]; · iexists _; iexact HW
    rw [if_pos (by norm_num), Nat.zero_mul]
    iexact HBO
  iintro %acc HI
  cases acc
  rw [show (Scf.trips k0_t3_loop.lb k0_t3_loop.ub k0_t3_loop.st) = 16 by decide]
  ihave HI := (inv3_end c D (bodyRun.sl.r_20 c W X SU) (HQf c W X SU) SD) $$ HI
  icases HI with ⟨⟨%Wt3, HW⟩, Ho2, HO⟩
  sl_exec
  sl_step
  ihave Hxc := (name_contents c xcM _) $$ Hxc
  icases Hxc with ⟨%XC, %eXC, Hxc⟩
  replace eXC : XC = XCf X := eXC.trans (whole_writes main_v3_1 _ (bodyRun.sl.dma0_3 c X))
  subst XC
  ihave Hhc := (name_contents c hcM _) $$ Hhc
  icases Hhc with ⟨%HC, %eHC, Hhc⟩
  replace eHC : HC = HCf c W X SU := eHC.trans (whole_writes main_v3_3 _ (bodyRun.sl.dma0_4 c W X SU))
  subst HC
  iapply Hk
  unfold POST POSTΦ
  isplitr [H7 H9 HW]
  · isplitl [Hx]; · iexact Hx
    isplitl [Hsu]; · iexact Hsu
    isplitl [Hsd]; · iexact Hsd
    isplitl [HGh]; · iexact HGh
    isplitl [HDh]; · iexact HDh
    isplitl [HO]; · iexact HO
    isplitl [Hxc]; · iexact Hxc
    isplitl [Hhc]; · iexact Hhc
    isplitl [HR]; · iexact HR
    isplitl [Hxv Hsuv Hsdv Hxq Hhq Hxcv Hhcv Hh Hhx]
    · isplitl [Hxv]; · iexists _; iexact Hxv
      isplitl [Hsuv]; · iexists _; iexact Hsuv
      isplitl [Hsdv]; · iexists _; iexact Hsdv
      isplitl [Hxq]; · iexists _; iexact Hxq
      isplitl [Hhq]; · iexists _; iexact Hhq
      isplitl [Hxcv]; · iexists _; iexact Hxcv
      isplitl [Hhcv]; · iexists _; iexact Hhcv
      isplitl [Hh]; · iexists _; iexact Hh
      iexists _; iexact Hhx
    isplitl [Hi0 Hi1 Hi2]
    · isplitl [Hi0]; · iexact Hi0
      isplitl [Hi1]; · iexact Hi1
      iexact Hi2
    isplitl [Ho0]; · iexact Ho0
    isplitl [Ho1]; · iexact Ho1
    iexact Ho2
  isplitl [H7]; · iexact H7
  isplitl [H9]; · iexact H9
  iexists _; iexact HW
end Body

end Cert.Proof.Kernel
-- ==== Proof.Join.lean ====
module

public import proofs.«01_k».proof.Proof.Quant

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ (UU nD τ) ℕ

section Sets
universe u
variable {M : Type u} [URA M]
theorem bigSep_image' {I J : Type} [DecidableEq I] [DecidableEq J] {f : I → J} {s : Finset I} (h : Set.InjOn f s) (Φ : J → sProp M) :
    bigSep (s.image f) Φ = bigSep s fun a => Φ (f a) := by
  induction s using Finset.induction_on with
  | empty => rw [Finset.image_empty, bigSep_empty, bigSep_empty]
  | insert a s ha ih =>
    rw [Finset.image_insert, bigSep_insert, bigSep_insert ha, ih (h.mono (by simp))]
    intro hm
    obtain ⟨b, hb, e⟩ := Finset.mem_image.mp hm
    have := h (Finset.mem_coe.mpr (Finset.mem_insert_of_mem hb)) (Finset.mem_coe.mpr (Finset.mem_insert_self a s)) e
    exact ha (this ▸ hb)
end Sets

section Join
variable (c : Dev nD) (W : Buf (Elt F) (wguM.view.loc (c : Thread nD τ))) (D : Buf (Elt F) (wdM.view.loc (c : Thread nD τ)))

/-- A whole buffer of the core. -/
abbrev buf_ (b : Ref sig .tc) (f : Buf (Elt F) ((c : Thread nD τ).loc b)) : sProp 𝕄 := ((c : Thread nD τ).loc b) ↦{fullShare} f

theorem at_whole (b : Ref sig .tc) (f : Buf (Elt F) ((c : Thread nD τ).loc b)) : at_ (F := F) c (Memref.whole b) f = buf_ c b f :=
  congrArg (fun S => (((c : Thread nD τ).loc b) ↦[S]{fullShare} f : sProp 𝕄)) (View.set_whole b)

/-! ## The weights -/

abbrev gRow (r : ℕ) : Finset S14336x8192.Idx := (gB r).view.set
theorem gRow_eq (r : ℕ) : gRow r = (Rect.unit (s := S14336x8192) (gOff r) S256x8192.size (gOff_inb r)).set := View.set_slice_whole _ _
theorem mem_gB (r : ℕ) (hr : r ≤ 14080) (y : S14336x8192.Idx) : y ∈ gRow r ↔ r ≤ (y 0).val ∧ (y 0).val < r + 256 := by
  have h1 : (y 1).val < 8192 := (y 1).isLt
  refine (iff_of_eq (congrArg (y ∈ ·) (gRow_eq r))).trans (Rect.mem_set_unit.trans ⟨fun h => ?_, fun h a => ?_⟩)
  · have a0 : min r 14080 ≤ (y 0).val ∧ (y 0).val < min r 14080 + 256 := h 0
    omega
  · fin_cases a
    · show min r 14080 ≤ (y 0).val ∧ (y 0).val < min r 14080 + 256; omega
    · show 0 ≤ (y 1).val ∧ (y 1).val < 0 + 8192; omega
/-- A gate/up chunk's rows. -/
def gSet (b : Fin 28) : Finset S14336x8192.Idx := gRow (b.val * 256) ∪ gRow (7168 + b.val * 256)
theorem mem_gSet (b : Fin 28) (y : S14336x8192.Idx) : y ∈ gSet b ↔ (y 0).val / 256 % 28 = b.val := by
  have h := b.isLt
  have h0 : (y 0).val < 14336 := (y 0).isLt
  refine Finset.mem_union.trans ?_
  rw [mem_gB _ (by omega), mem_gB _ (by omega)]; omega
theorem g_disj (b : Fin 28) : Disjoint (gRow (b.val * 256)) (gRow (7168 + b.val * 256)) :=
  Finset.disjoint_left.mpr fun y h h' => by
    have hb := b.isLt
    have h := (mem_gB _ (by omega) y).mp h
    have h' := (mem_gB _ (by omega) y).mp h'
    omega
theorem gPP_eq (b : Fin 28) : gPP (F := F) c W b = (((c : Thread nD τ).loc main_arg1) ↦[gSet b]{fullShare} W : sProp 𝕄) := by
  have h := pointsTo_union (Ix := Unit) (Name := ℕ) (U := UU nD τ) (Lvl := ℕ) (ℓ := (c : Thread nD τ).loc main_arg1) (q := fullShare) (f := W) (g_disj b)
  exact (equiv_iff.mp ⟨h.1, h.2⟩).symm
theorem gSet_disj (b b' : Fin 28) (h : b ≠ b') : Disjoint (gSet b) (gSet b') :=
  Finset.disjoint_left.mpr fun y hy hy' => by rw [mem_gSet] at hy hy'; exact h (Fin.ext (hy.symm.trans hy'))
theorem gSet_cover : (Finset.univ : Finset (Fin 28)).biUnion gSet = Finset.univ := by
  ext y; simp only [Finset.mem_biUnion, Finset.mem_univ, true_and, iff_true]
  exact ⟨⟨(y 0).val / 256 % 28, Nat.mod_lt _ (by decide)⟩, by rw [mem_gSet]⟩
theorem wgu_homes : buf_ (F := F) c main_arg1 W = bigSep Finset.univ (gPP c W) := by
  rw [show buf_ (F := F) c main_arg1 W = _ from Ring.pointsTo_blocks (ℓ := (c : Thread nD τ).loc main_arg1) gSet gSet_disj gSet_cover W]
  exact bigSep_congr fun b _ => (gPP_eq c W b).symm
theorem homes_first : bigSep Finset.univ (gPP (F := F) c W) = iprop((bigSep Finset.univ fun s : Fin 12 => gPP c W (Ring.bk 28 s.val)) ∗ homesG c W 0) := by
  have e : (Finset.univ : Finset (Fin 28)) = (Finset.univ.image fun s : Fin 12 => Ring.bk 28 s.val) ∪ HG 0 := by decide
  have d : Disjoint (Finset.univ.image fun s : Fin 12 => Ring.bk 28 s.val) (HG 0) := by decide
  have i : Set.InjOn (fun s : Fin 12 => Ring.bk 28 s.val) (Finset.univ : Finset (Fin 12)) := fun s _ s' _ h => by
    revert s s'; decide
  rw [e, bigSep_union d, bigSep_image' i]; rfl
theorem homesG_last : homesG (F := F) c W 28 = bigSep Finset.univ (gPP c W) := by
  unfold homesG; rw [show HG 28 = Finset.univ by decide]
theorem homesD_first : homesD (F := F) c D 0 = bigSep Finset.univ (dP c D) := by
  unfold homesD; rw [show HD 0 = Finset.univ by decide]
theorem homesD_last : homesD (F := F) c D 44 = bigSep Finset.univ (dP c D) := by
  unfold homesD; rw [show HD 44 = Finset.univ by decide]

theorem dOff_0 (b : Fin 16) : dOff b 0 = b.val * 512 := by revert b; decide
theorem dOff_1 (b : Fin 16) : dOff b 1 = 0 := by revert b; decide
def dSet (b : Fin 16) : Finset S8192x7168.Idx := (dB b).view.set
theorem dSet_eq (b : Fin 16) : dSet b = (Rect.unit (s := S8192x7168) (dOff b) S512x7168.size (dOff_inb b)).set := View.set_slice_whole _ _
theorem mem_dB (b : Fin 16) (y : S8192x7168.Idx) : y ∈ dSet b ↔ (y 0).val / 512 = b.val := by
  have h1 : (y 1).val < 7168 := (y 1).isLt
  have o0 := dOff_0 b
  have o1 := dOff_1 b
  refine (iff_of_eq (congrArg (y ∈ ·) (dSet_eq b))).trans (Rect.mem_set_unit.trans ⟨fun h => ?_, fun h a => ?_⟩)
  · have a0 : dOff b 0 ≤ (y 0).val ∧ (y 0).val < dOff b 0 + 512 := h 0
    omega
  · fin_cases a
    · show dOff b 0 ≤ (y 0).val ∧ (y 0).val < dOff b 0 + 512; omega
    · show dOff b 1 ≤ (y 1).val ∧ (y 1).val < dOff b 1 + 7168; omega
theorem dSet_disj (b b' : Fin 16) (h : b ≠ b') : Disjoint (dSet b) (dSet b') :=
  Finset.disjoint_left.mpr fun y hy hy' => h (Fin.ext (((mem_dB b y).mp hy).symm.trans ((mem_dB b' y).mp hy')))
theorem dSet_cover : (Finset.univ : Finset (Fin 16)).biUnion dSet = Finset.univ := by
  ext y; simp only [Finset.mem_biUnion, Finset.mem_univ, true_and, iff_true]
  have h0 : (y 0).val < 8192 := (y 0).isLt
  exact Exists.intro (⟨(y 0).val / 512, by omega⟩ : Fin 16) ((mem_dB _ y).mpr rfl)
theorem wd_homes : buf_ (F := F) c main_arg3 D = bigSep Finset.univ (dP c D) :=
  Ring.pointsTo_blocks (ℓ := (c : Thread nD τ).loc main_arg3) dSet dSet_disj dSet_cover D

/-! ## The result -/

theorem bk16 (b : Fin 16) : Ring.bk 16 b.val = b := by revert b; decide
theorem oOff_0 (b : Fin 16) : oOff b 0 = 0 := by revert b; decide
theorem oOff_1 (b : Fin 16) : oOff b 1 = b.val * 512 := by revert b; decide
theorem mem_oRect (b : Fin 16) (y : S24x8192.Idx) : y ∈ (Rect.unit (s := S24x8192) (oOff b) S24x512.size (oOff_inb b)).set ↔ (y 1).val / 512 = b.val := by
  have h0 : (y 0).val < 24 := (y 0).isLt
  have o0 := oOff_0 b
  have o1 := oOff_1 b
  refine Rect.mem_set_unit.trans ⟨fun h => ?_, fun h a => ?_⟩
  · have a0 : oOff b 1 ≤ (y 1).val ∧ (y 1).val < oOff b 1 + 512 := h 1
    omega
  · fin_cases a
    · show oOff b 0 ≤ (y 0).val ∧ (y 0).val < oOff b 0 + 24; omega
    · show oOff b 1 ≤ (y 1).val ∧ (y 1).val < oOff b 1 + 512; omega
abbrev oSet (b : Fin 16) : Finset S24x8192.Idx := (oB b).view.set
abbrev ovSet (b : Fin 16) : Finset S24x8192.Idx := (ovB b).view.set
theorem oSet_eq (b : Fin 16) : oSet b = (Rect.unit (s := S24x8192) (oOff b) S24x512.size (oOff_inb b)).set := View.set_slice_whole _ _
theorem ovSet_eq (b : Fin 16) : ovSet b = (Rect.unit (s := S24x8192) (oOff b) S24x512.size (oOff_inb b)).set := View.set_slice_whole _ _
theorem mem_oB (b : Fin 16) (y : S24x8192.Idx) : y ∈ oSet b ↔ (y 1).val / 512 = b.val :=
  (iff_of_eq (congrArg (y ∈ ·) (oSet_eq b))).trans (mem_oRect b y)
theorem mem_ovB (b : Fin 16) (y : S24x8192.Idx) : y ∈ ovSet b ↔ (y 1).val / 512 = b.val :=
  (iff_of_eq (congrArg (y ∈ ·) (ovSet_eq b))).trans (mem_oRect b y)
theorem cols_cover (K : Fin 16 → Finset S24x8192.Idx) (h : ∀ b y, y ∈ K b ↔ (y 1).val / 512 = b.val) : Finset.univ.biUnion K = Finset.univ := by
  ext y; simp only [Finset.mem_biUnion, Finset.mem_univ, true_and, iff_true]
  have h0 : (y 1).val < 8192 := (y 1).isLt
  exact Exists.intro (⟨(y 1).val / 512, by omega⟩ : Fin 16) ((h _ y).mpr rfl)
theorem cols_disj (K : Fin 16 → Finset S24x8192.Idx) (h : ∀ b y, y ∈ K b ↔ (y 1).val / 512 = b.val) (b b' : Fin 16) (hb : b ≠ b') : Disjoint (K b) (K b') :=
  Finset.disjoint_left.mpr fun y hy hy' => by rw [h] at hy hy'; exact hb (Fin.ext (hy.symm.trans hy'))
theorem out_blocks (f : Buf (Elt F) ((c : Thread nD τ).loc main_v3_0)) : buf_ (F := F) c main_v3_0 f = bigSep Finset.univ fun b : Fin 16 => oP c b f :=
  Ring.pointsTo_blocks (ℓ := (c : Thread nD τ).loc main_v3_0) oSet (cols_disj _ mem_oB) (cols_cover _ mem_oB) f
theorem ov_blocks (f : Buf (Elt F) ((c : Thread nD τ).loc cc0_scratch10)) : buf_ (F := F) c cc0_scratch10 f = bigSep Finset.univ fun b : Fin 16 => ovP c b f :=
  Ring.pointsTo_blocks (ℓ := (c : Thread nD τ).loc cc0_scratch10) ovSet (cols_disj _ mem_ovB) (cols_cover _ mem_ovB) f
theorem out_start (f : Buf (Elt F) ((c : Thread nD τ).loc main_v3_0)) : buf_ (F := F) c main_v3_0 f ⊢ oFrom c 0 := by
  rw [out_blocks]; unfold oFrom; rw [Ring.rangeSet_univ]
  refine bigSep_mono fun b _ => ?_
  rw [bk16]
  show (oP (F := F) c b f : sProp 𝕄) ⊢ iprop(∃ g, oP c b g)
  iintro H; iexists _; iexact H
theorem ov_start (f : Buf (Elt F) ((c : Thread nD τ).loc cc0_scratch10)) : buf_ (F := F) c cc0_scratch10 f ⊢ ovFrom c 0 := by
  rw [ov_blocks]; unfold ovFrom; rw [Ring.rangeSet_univ]
  refine bigSep_mono fun b _ => ?_
  rw [bk16]
  show (ovP (F := F) c b f : sProp 𝕄) ⊢ iprop(∃ g, ovP c b g)
  iintro H; iexists _; iexact H
theorem landO_end (v651 : FVec F S24x1 .f32) (HQ : Buf (Elt F) (hqM.view.loc (c : Thread nD τ))) (SD : Buf (Elt F) (sdvM.view.loc (c : Thread nD τ))) (b : Fin 16) :
    oP c b (landO c D v651 HQ SD b) = oP (F := F) c b (OVf c D v651 HQ SD) :=
  pts_of_read c (oB b) _ _ ((View.read_writes_whole (oB b).view _ _).trans rfl)
theorem delO_end (v651 : FVec F S24x1 .f32) (HQ : Buf (Elt F) (hqM.view.loc (c : Thread nD τ))) (SD : Buf (Elt F) (sdvM.view.loc (c : Thread nD τ))) (b : Fin 16) :
    delO c D v651 HQ SD b ⊢ iprop(oP (F := F) c b (OVf c D v651 HQ SD) ∗ ovP c b (OVf c D v651 HQ SD)) := by
  unfold delO
  rw [bk16, landO_end]
theorem out_end (v651 : FVec F S24x1 .f32) (HQ : Buf (Elt F) (hqM.view.loc (c : Thread nD τ))) (SD : Buf (Elt F) (sdvM.view.loc (c : Thread nD τ))) :
    bigSep Finset.univ (delO c D v651 HQ SD) ⊢ iprop(buf_ c main_v3_0 (OVf c D v651 HQ SD) ∗ buf_ c cc0_scratch10 (OVf c D v651 HQ SD)) := by
  rw [out_blocks, ov_blocks]
  refine BI.BIBase.Entails.trans (bigSep_mono fun b _ => ?_) (Entails.of_eq (bigSep_sep _ _ _))
  exact delO_end c D v651 HQ SD b

/-! ## The ring -/

theorem slSet_disj (b b' : Fin 12) (h : b ≠ b') : Disjoint (slSet b) (slSet b') :=
  Finset.disjoint_left.mpr fun y hy hy' => h (Fin.ext (((mem_sl b y).mp hy).symm.trans ((mem_sl b' y).mp hy')))
theorem slSet_cover : (Finset.univ : Finset (Fin 12)).biUnion slSet = Finset.univ := by
  ext y; simp only [Finset.mem_biUnion, Finset.mem_univ, true_and, iff_true]
  have h0 : (y 0).val < 12 := (y 0).isLt
  exact Exists.intro (⟨(y 0).val, h0⟩ : Fin 12) ((mem_sl _ y).mpr rfl)
theorem ring_split (f : Buf (Elt F) ((c : Thread nD τ).loc cc0_scratch0)) : buf_ (F := F) c cc0_scratch0 f = bigSep Finset.univ fun s : Fin 12 => slP c s f :=
  Ring.pointsTo_blocks (ℓ := (c : Thread nD τ).loc cc0_scratch0) slSet slSet_disj slSet_cover f
theorem ring_slots : iprop(∃ f, buf_ (F := F) c cc0_scratch0 f) ⊢ bigSep Finset.univ fun s : Fin 12 => iprop(∃ f, slP (F := F) c s f) := by
  iintro ⟨%f, H⟩
  ihave H := (BI.BIBase.Entails.trans (Entails.of_eq (ring_split c f)) (bigSep_mono fun s _ => show slP c s f ⊢ iprop(∃ f, slP (F := F) c s f) by iintro H; iexists _; iexact H)) $$ H
  iexact H
theorem idle_end (s : Fin 12) : infl (F := F) c W D s (Ring.firstFrom 44 12 s) ⊢ iprop(cellP c s ∗ ∃ f, slP c s f) := by
  have e : 44 ≤ Ring.firstFrom 44 12 s := by revert s; decide
  unfold infl
  rw [if_neg (by omega), if_neg (by omega)]
  iintro ⟨Hc, ⟨%f, Hd⟩, ⟨%g, Hr⟩⟩
  isplitl [Hc]; · iexact Hc
  iexists (restSet s).piecewise g f
  have h := pointsTo_join (Ix := Unit) (Name := ℕ) (U := UU nD τ) (Lvl := ℕ) (ℓ := (slM s).view.loc (c : Thread nD τ)) (q := fullShare) (f := f) (g := g) (I := dwSet s) (J := restSet s) Finset.disjoint_sdiff
  iapply (h.trans (Entails.of_eq (congrArg (fun S => ((slM s).view.loc (c : Thread nD τ) ↦[S]{fullShare} (restSet s).piecewise g f : sProp 𝕄)) (sl_eq_union' s).symm)))
  isplitl [Hd]; · iexact Hd
  iexact Hr
theorem ring_idle : ringAt (F := F) c W D 44 ⊢ bigSep Finset.univ fun s : Fin 12 => iprop(cellP c s ∗ ∃ f, slP c s f) := by
  unfold ringAt
  exact bigSep_mono fun s _ => idle_end c W D s
theorem ring_join : (bigSep Finset.univ fun s : Fin 12 => iprop(∃ f, slP (F := F) c s f)) ⊢ iprop(∃ f, buf_ (F := F) c cc0_scratch0 f) :=
  Ring.pointsTo_blocks_join_exists (ℓ := (c : Thread nD τ).loc cc0_scratch0) slSet slSet_disj slSet_cover
    (ringM.view.junk)

end Join

end Cert.Proof.Kernel
-- ==== Proof.Launch.lean ====
module

public import proofs.«01_k».proof.Proof.Body
public import proofs.«01_k».proof.Proof.Join
public import proofs.«01_k».proof.Proof.Gen.Kernel.Frame
public import proofs.«01_k».proof.Proof.Gen.Kernel.Points
public import proofs.«01_k».proof.Proof.Gen.Kernel.Launch
public import Idealize.ShloMosaic.Adequacy
public import Idealize.ShloMosaic.Init

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

open Idealize.ShloMosaic.Pipeline (Dat Cfg Window BodyObligation cellOf)

local notation "𝕄" => MT nD τ sig Unit (Elt F) ℕ (UU nD τ) ℕ

section Launch
variable (m : (ℓ : Loc nD τ sig) → Buf (Elt F) ℓ) (ρ : Dev nD → PrngReg)

/-! ## What the region finds -/

abbrev Xm (c : Dev nD) : Buf (Elt F) (xM.view.loc (c : Thread nD τ)) := V m c main_v0
abbrev Wm (c : Dev nD) : Buf (Elt F) (wguM.view.loc (c : Thread nD τ)) := V m c main_arg1
abbrev SUm (c : Dev nD) : Buf (Elt F) (suM.view.loc (c : Thread nD τ)) := V m c main_v1
abbrev Dm (c : Dev nD) : Buf (Elt F) (wdM.view.loc (c : Thread nD τ)) := V m c main_arg3
abbrev SDm (c : Dev nD) : Buf (Elt F) (sdM.view.loc (c : Thread nD τ)) := V m c main_v2

/-! ## The kernel's own semaphores -/

abbrev osem : Fin 18 → SemLoc sig := fun i =>
  if i.val < 12 then .dma (csm (Fin.ofNat 12 i.val)).sem else if i.val < 15 then .dma (ism (Fin.ofNat 3 (i.val - 12))).sem else .dma (osm (Fin.ofNat 3 (i.val - 15))).sem
theorem ownSemFacts : Pipeline.OwnSemFacts spec0 osem := by decide
theorem ownSems0_eq (c : Dev nD) : (Pipeline.ownSems0 (Ix := Unit) (Name := ℕ) (U := UU nD τ) (Lvl := ℕ) (Val := Elt F) (τ := τ) osem c : sProp 𝕄)
    = iprop(cellP c (Fin.ofNat 12 0) ∗ cellP c (Fin.ofNat 12 1) ∗ cellP c (Fin.ofNat 12 2) ∗ cellP c (Fin.ofNat 12 3) ∗ cellP c (Fin.ofNat 12 4) ∗ cellP c (Fin.ofNat 12 5) ∗ cellP c (Fin.ofNat 12 6) ∗ cellP c (Fin.ofNat 12 7) ∗ cellP c (Fin.ofNat 12 8) ∗ cellP c (Fin.ofNat 12 9) ∗ cellP c (Fin.ofNat 12 10) ∗ cellP c (Fin.ofNat 12 11) ∗ iCell c (Fin.ofNat 3 0) ∗ iCell c (Fin.ofNat 3 1) ∗ iCell c (Fin.ofNat 3 2) ∗ oCell c (Fin.ofNat 3 0) ∗ oCell c (Fin.ofNat 3 1) ∗ oCell c (Fin.ofNat 3 2)) := by
  unfold Pipeline.ownSems0
  rw [bigSep_univ_eq_bigSepL [(⟨0, by decide⟩ : Fin 18), (⟨1, by decide⟩ : Fin 18), (⟨2, by decide⟩ : Fin 18), (⟨3, by decide⟩ : Fin 18), (⟨4, by decide⟩ : Fin 18), (⟨5, by decide⟩ : Fin 18), (⟨6, by decide⟩ : Fin 18), (⟨7, by decide⟩ : Fin 18), (⟨8, by decide⟩ : Fin 18), (⟨9, by decide⟩ : Fin 18), (⟨10, by decide⟩ : Fin 18), (⟨11, by decide⟩ : Fin 18), (⟨12, by decide⟩ : Fin 18), (⟨13, by decide⟩ : Fin 18), (⟨14, by decide⟩ : Fin 18), (⟨15, by decide⟩ : Fin 18), (⟨16, by decide⟩ : Fin 18), (⟨17, by decide⟩ : Fin 18)] (by decide) (by decide)]
  rfl

theorem unzip2 {I : Type} [DecidableEq I] (S : Finset I) (Φ Ψ : I → sProp 𝕄) : (bigSep S fun s => iprop(Φ s ∗ Ψ s)) ⊢ iprop((bigSep S Φ) ∗ (bigSep S Ψ)) :=
  Entails.of_eq (bigSep_sep S Φ Ψ)

theorem any_of (c : Dev nD) (b : Ref sig .tc) : iprop(∃ f, buf_ (F := F) c b f) ⊢ any_ c (Memref.whole b) := by
  iintro ⟨%f, H⟩; iexists f; iapply (Entails.of_eq (at_whole c b f).symm); iexact H
theorem of_any (c : Dev nD) (b : Ref sig .tc) : any_ c (Memref.whole b) ⊢ iprop(∃ f, buf_ (F := F) c b f) := by
  iintro ⟨%f, H⟩; iexists f; iapply (Entails.of_eq (at_whole c b f)); iexact H

/-! ## The pipeline's proof data -/

abbrev stA (t : Fin cfg0.N) : Memref sig .tc .vmem S1x24 .f32 := win0_0.stage (cfg0.slots t 0)
abbrev stB (t : Fin cfg0.N) : Memref sig .tc .vmem S1x24 .f32 := win0_1.stage (cfg0.slots t 1)

/-- The hidden layer's scales of the launch. -/
abbrev hscm (c : Dev nD) : FVec F S24x1 .f32 := hsc c (Wm m c) (Xm m c) (SUm m c)
/-- What the run leaves in the result. -/
abbrev outm (c : Dev nD) : Buf (Elt F) ((c : Thread nD τ).loc main_v3_0) := OVf c (Dm m c) (hscm m c) (HQf c (Wm m c) (Xm m c) (SUm m c)) (SDm m c)

/-- What the core holds beside the windows before point `n`. -/
def atPoint (c : Dev nD) : ℕ → sProp 𝕄
  | 0 => PREΦ c (Wm m c) (Dm m c) (Xm m c) (SUm m c) (SDm m c)
  | _ + 1 => POSTΦ c (Wm m c) (Dm m c) (Xm m c) (SUm m c) (SDm m c)

def dats (_ : Fin 1) (c : Dev nD) : Dat τ (Elt F) Unit ℕ (UU nD τ) ℕ cfg0 c where
  A w := V m c (Pipeline.arrRef spec0 w)
  after w t := match w with
    | ⟨0, _⟩ => (stA t).view.read (Elt F) (scW c (stA t) (k0_pay70 (xsc (Xm m c))))
    | ⟨1, _⟩ => (stB t).view.read (Elt F) (scW c (stB t) (k0_pay182 (hscm m c)))
  Φ t := atPoint m c t.val
  q _ := fullShare
  owed _ := 0

theorem after_w0 (c : Dev nD) (t : Fin cfg0.N) : (dats m 0 c).after 0 t = (stA t).view.read (Elt F) (scW c (stA t) (k0_pay70 (xsc (Xm m c)))) := by dsimp only [dats]
theorem after_w1 (c : Dev nD) (t : Fin cfg0.N) : (dats m 0 c).after 1 t = (stB t).view.read (Elt F) (scW c (stB t) (k0_pay182 (hscm m c))) := by dsimp only [dats]
theorem point_zero (t : Fin cfg0.N) : t.val = 0 := by
  have h : t.val < 1 := lt_of_lt_of_eq t.isLt (by decide)
  omega
theorem Φ_pre (c : Dev nD) (t : Fin cfg0.N) : (dats m 0 c).Φ t.castSucc = PREΦ c (Wm m c) (Dm m c) (Xm m c) (SUm m c) (SDm m c) := by
  show atPoint m c t.val = _; rw [point_zero t]; rfl
theorem Φ_post (c : Dev nD) (t : Fin cfg0.N) : (dats m 0 c).Φ t.succ = POSTΦ c (Wm m c) (Dm m c) (Xm m c) (SUm m c) (SDm m c) := by
  show atPoint m c (t.val + 1) = _; rfl
theorem Φ_first (c : Dev nD) : (dats m 0 c).Φ 0 = PREΦ c (Wm m c) (Dm m c) (Xm m c) (SUm m c) (SDm m c) := by
  show atPoint m c 0 = _; rfl
theorem Φ_last (c : Dev nD) : (dats m 0 c).Φ (Fin.last cfg0.N) = POSTΦ c (Wm m c) (Dm m c) (Xm m c) (SUm m c) (SDm m c) := by
  show atPoint m c cfg0.N = _; rw [show cfg0.N = 1 from by decide]; rfl

theorem defs_tc : (defs₀ (F := F)) .tc cfg0.body
    = fun a => bodyG (win0_0.stage (a.2 0)) (hstage0_0 0) (win0_1.stage (a.2 1)) (hstage0_1 0) := rfl
theorem prog_eq (t : Fin cfg0.N) : (defs₀ (F := F)) .tc cfg0.body (cfg0.bodyArgs t (cfg0.slots t)) = bodyG (stA t) (hstage0_0 0) (stB t) (hstage0_1 0) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [after_w0, after_w1]
  rw [Φ_pre, Φ_post]
  unfold Dat.owesAt Pipeline.owesWithin
  rw [show (dats m 0 c).owed t.castSucc = 0 from rfl, show (dats m 0 c).owed t.succ = 0 from rfl]
  unfold owns
  iintro ⟨HΦ, ⟨%Wt, -, HW⟩, ⟨%d0, %g0, -, HA⟩, ⟨%d1, %g1, -, HB⟩⟩
  sl_rw [prog_eq t]
  iapply (bodyRun c (Wm m c) (Dm m c) (stA t) (hstage0_0 0) (stB t) (hstage0_1 0) (Xm m c) (SUm m c) (SDm m c))
  unfold PRE POST
  isplitl [HΦ HW HA HB]
  · isplitl [HΦ]; · iexact HΦ
    isplitl [HA]; · iexists g0; iexact HA
    isplitl [HB]; · iexists g1; iexact HB
    iexists Wt; iexact HW
  · iintro ⟨HΦ, HA, HB, ⟨%W', HW⟩⟩
    isplitl [HΦ]; · iexact HΦ
    isplitl [HW]
    · iexists W'; isplitr; · ipureintro; exact fun _ _ => Or.inl trivial
      iexact HW
    isplitl [HA]
    · iexists _; isplitr; · ipureintro; rfl
      iexact HA
    iexists _; isplitr; · ipureintro; rfl
    iexact HB

/-! ## The run -/

def intoΦ (c : Dev nD) : sProp 𝕄 := iprop(Pipeline.ownSems0 osem c ∗ buf_ c main_arg1 (V m c main_arg1) ∗ buf_ c main_arg3 (V m c main_arg3)
  ∗ buf_ c main_v0 (V m c main_v0) ∗ buf_ c main_v1 (V m c main_v1) ∗ buf_ c main_v2 (V m c main_v2)
  ∗ buf_ c main_v3_0 (V m c main_v3_0) ∗ buf_ c main_v3_1 (V m c main_v3_1) ∗ buf_ c main_v3_3 (V m c main_v3_3))
def pastΦ (c : Dev nD) : sProp 𝕄 := iprop(buf_ c main_arg0 (V m c main_arg0) ∗ buf_ c main_arg2 (V m c main_arg2) ∗ buf_ c main_arg4 (V m c main_arg4))
def outOfΦ (c : Dev nD) : sProp 𝕄 := iprop(buf_ c main_arg1 (V m c main_arg1) ∗ buf_ c main_arg3 (V m c main_arg3)
  ∗ buf_ c main_v3_0 (outm m c) ∗ buf_ c main_v3_1 (XCf (Xm m c)) ∗ buf_ c main_v3_3 (HCf c (Wm m c) (Xm m c) (SUm m c)))
def u₀ : UU nD τ := (initOf (Pipeline.cells cfgs Cert.Kernel.Gen.cellOf_inj) (Pipeline.launchToks cfgs Cert.Kernel.Gen.cellOf_inj), 1)
/-- What the run leaves outside the two windows' arrays. -/
def QY (c : Dev nD) (s : MemSt nD τ sig (Elt F)) : Prop :=
  (s.mem ((c : Thread nD τ).loc main_arg0) = V m c main_arg0 ∧ s.mem ((c : Thread nD τ).loc main_arg1) = V m c main_arg1 ∧ s.mem ((c : Thread nD τ).loc main_arg2) = V m c main_arg2
    ∧ s.mem ((c : Thread nD τ).loc main_arg3) = V m c main_arg3 ∧ s.mem ((c : Thread nD τ).loc main_arg4) = V m c main_arg4)
  ∧ s.mem ((c : Thread nD τ).loc main_v3_0) = outm m c ∧ s.mem ((c : Thread nD τ).loc main_v3_1) = XCf (Xm m c)
  ∧ s.mem ((c : Thread nD τ).loc main_v3_3) = HCf c (Wm m c) (Xm m c) (SUm m c)
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

theorem into_pre (c : Dev nD) : iprop(intoΦ m c ∗ Pipeline.scopedRest (Ix := Unit) (Name := ℕ) (U := UU nD τ) (Lvl := ℕ) (Val := Elt F) spec0 c) ⊢ PREΦ c (Wm m c) (Dm m c) (Xm m c) (SUm m c) (SDm m c) := by
  rw [scopedRest0_eq]
  unfold intoΦ PREΦ
  rw [ownSems0_eq, wgu_homes c (V m c main_arg1), wd_homes c (V m c main_arg3), homes_first, homesD_first]
  iintro ⟨⟨⟨C0, C1, C2, C3, C4, C5, C6, C7, C8, C9, C10, C11, I0, I1, I2, O0, O1, O2⟩, ⟨Hgs, HGh⟩, HDh, Hx, Hsu, Hsd, Ho, Hxc, Hhc⟩, S0, S1, S2, S3, S4, S5, S6, S7, S8, S9, ⟨%f10, S10⟩⟩
  ihave Hx := (Entails.of_eq (at_whole c main_v0 (V m c main_v0)).symm) $$ Hx
  ihave Hsu := (Entails.of_eq (at_whole c main_v1 (V m c main_v1)).symm) $$ Hsu
  ihave Hsd := (Entails.of_eq (at_whole c main_v2 (V m c main_v2)).symm) $$ Hsd
  ihave Hxc := (Entails.of_eq (at_whole c main_v3_1 (V m c main_v3_1)).symm) $$ Hxc
  ihave Hhc := (Entails.of_eq (at_whole c main_v3_3 (V m c main_v3_3)).symm) $$ Hhc
  ihave Ho := (out_start c (V m c main_v3_0)) $$ Ho
  ihave Hov := (ov_start c f10) $$ S10
  ihave S0 := (ring_slots c) $$ S0
  ihave Hc := (Entails.of_eq (over12 (fun s : Fin 12 => (cellP c s : sProp 𝕄))).symm) $$ [C0 C1 C2 C3 C4 C5 C6 C7 C8 C9 C10 C11]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    iexact C11
  ihave Hsl := (zip2 Finset.univ (fun s : Fin 12 => (cellP c s : sProp 𝕄)) (fun s => iprop(∃ f, slP (F := F) c s f))) $$ [Hc S0]
  · isplitl [Hc]; · iexact Hc
    iexact S0
  ihave S1 := (any_of c cc0_scratch1) $$ S1
  ihave S2 := (any_of c cc0_scratch2) $$ S2
  ihave S3 := (any_of c cc0_scratch3) $$ S3
  ihave S4 := (any_of c cc0_scratch4) $$ S4
  ihave S5 := (any_of c cc0_scratch5) $$ S5
  ihave S6 := (any_of c cc0_scratch6) $$ S6
  ihave S7 := (any_of c cc0_scratch7) $$ S7
  ihave S8 := (any_of c cc0_scratch8) $$ S8
  ihave S9 := (any_of c cc0_scratch9) $$ S9
  isplitl [Hx]; · iexact Hx
  isplitl [Hsu]; · iexact Hsu
  isplitl [Hsd]; · iexact Hsd
  isplitl [Hgs]; · iexact Hgs
  isplitl [HGh]; · iexact HGh
  isplitl [HDh]; · iexact HDh
  isplitl [Hov]; · iexact Hov
  isplitl [Ho]; · iexact Ho
  isplitl [Hxc]; · iexists _; iexact Hxc
  isplitl [Hhc]; · iexists _; iexact Hhc
  isplitl [Hsl]; · iexact Hsl
  isplitl [S1 S2 S3 S4 S5 S6 S7 S8 S9]
  · isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  isplitl [I0 I1 I2]
  · isplitl [I0]; · iexact I0
    isplitl [I1]; · iexact I1
    iexact I2
  isplitl [O0]; · iexact O0
  isplitl [O1]; · iexact O1
  iexact O2

theorem post_out (c : Dev nD) : POSTΦ c (Wm m c) (Dm m c) (Xm m c) (SUm m c) (SDm m c) ⊢ iprop(outOfΦ m c ∗ Pipeline.ownSems0 osem c ∗ Pipeline.scopedRest (Ix := Unit) (Name := ℕ) (U := UU nD τ) (Lvl := ℕ) (Val := Elt F) spec0 c) := by
  rw [scopedRest0_eq]
  unfold outOfΦ POSTΦ
  rw [ownSems0_eq, wgu_homes c (V m c main_arg1), wd_homes c (V m c main_arg3), homesG_last, homesD_last]
  iintro ⟨-, -, -, HG, HD, HO, Hxc, Hhc, HR, ⟨S1, S2, S3, S4, S5, S6, S7, S8, S9⟩, ⟨I0, I1, I2⟩, ⟨O0, O1, O2⟩⟩
  ihave HO := (out_end c (Dm m c) (hscm m c) (HQf c (Wm m c) (Xm m c) (SUm m c)) (SDm m c)) $$ HO
  icases HO with ⟨HO, S10⟩
  ihave Hxc := (Entails.of_eq (at_whole c main_v3_1 (XCf (Xm m c)))) $$ Hxc
  ihave Hhc := (Entails.of_eq (at_whole c main_v3_3 (HCf c (Wm m c) (Xm m c) (SUm m c)))) $$ Hhc
  ihave HR := (BI.BIBase.Entails.trans (ring_idle c (Wm m c) (Dm m c)) (unzip2 Finset.univ (fun s : Fin 12 => (cellP c s : sProp 𝕄)) (fun s => iprop(∃ f, slP (F := F) c s f)))) $$ HR
  icases HR with ⟨HC, S0⟩
  ihave HC := (Entails.of_eq (over12 (fun s : Fin 12 => (cellP c s : sProp 𝕄)))) $$ HC
  icases HC with ⟨C0, C1, C2, C3, C4, C5, C6, C7, C8, C9, C10, C11⟩
  ihave S0 := (ring_join c) $$ S0
  ihave S1 := (of_any c cc0_scratch1) $$ S1
  ihave S2 := (of_any c cc0_scratch2) $$ S2
  ihave S3 := (of_any c cc0_scratch3) $$ S3
  ihave S4 := (of_any c cc0_scratch4) $$ S4
  ihave S5 := (of_any c cc0_scratch5) $$ S5
  ihave S6 := (of_any c cc0_scratch6) $$ S6
  ihave S7 := (of_any c cc0_scratch7) $$ S7
  ihave S8 := (of_any c cc0_scratch8) $$ S8
  ihave S9 := (of_any c cc0_scratch9) $$ S9
  isplitl [HG HD HO Hxc Hhc]
  · isplitl [HG]; · iexact HG
    isplitl [HD]; · iexact HD
    isplitl [HO]; · iexact HO
    isplitl [Hxc]; · iexact Hxc
    iexact Hhc
  isplitl [C0 C1 C2 C3 C4 C5 C6 C7 C8 C9 C10 C11 I0 I1 I2 O0 O1 O2]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [I0]; · iexact I0
    isplitl [I1]; · iexact I1
    isplitl [I2]; · iexact I2
    isplitl [O0]; · iexact O0
    isplitl [O1]; · iexact O1
    iexact O2
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iexists _; iexact S10

set_option backward.isDefEq.respectTransparency.types false in
/-- From any memory with zero counters every weakly fair execution of @main ends, with the results at the contents
    named above, the arguments unchanged and every counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := pastΦ m)
    (hX := fun c => by
      rw [unscopedRest0_eq]
      unfold intoΦ pastΦ
      iintro ⟨⟨A0, A1, A2, A3, A4, B0, B1, B2, R0, R1, R3⟩, HS, -, -, -⟩; imodintro
      isplitl [A1 A3 B0 B1 B2 R0 R1 R3 HS]
      · isplitl [HS]; · iexact HS
        isplitl [A1]; · iexact A1
        isplitl [A3]; · iexact A3
        isplitl [B0]; · iexact B0
        isplitl [B1]; · iexact B1
        isplitl [B2]; · iexact B2
        isplitl [R0]; · iexact R0
        isplitl [R1]; · iexact R1
        iexact R3
      isplitl [A0]; · iexact A0
      isplitl [A2]; · iexact A2
      iexact A4)
    (hin := fun c => by rw [Φ_first]; exact into_pre m c)
    (hout := fun c => by rw [Φ_last]; exact post_out m c)
    (QY := QY m)
    (hY := fun c s' => by
      unfold outOfΦ pastΦ
      iintro ⟨⟨A1, A3, R0, R1, R3⟩, ⟨A0, A2, A4⟩, HSI⟩
      icombine HSI A0 gives %h0
      icombine HSI A1 gives %h1
      icombine HSI A2 gives %h2
      icombine HSI A3 gives %h3
      icombine HSI A4 gives %h4
      icombine HSI R0 gives %r0
      icombine HSI R1 gives %r1
      icombine HSI R3 gives %r3
      imodintro
      isplitr
      · ipureintro
        exact ⟨⟨Buf.eq_of_forall_mem_univ h0, Buf.eq_of_forall_mem_univ h1, Buf.eq_of_forall_mem_univ h2, Buf.eq_of_forall_mem_univ h3, Buf.eq_of_forall_mem_univ h4⟩,
          Buf.eq_of_forall_mem_univ r0, Buf.eq_of_forall_mem_univ r1, Buf.eq_of_forall_mem_univ r3⟩
      iexact HSI)
    (hQ := fun _ hh hz => ⟨hh, hz⟩)

/-- The arguments are unchanged. -/
theorem args_kept {s : MemSt nD τ sig (Elt F)} {c : Dev nD} (h : QY m c s) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4) :=
  ⟨h.1.1.trans (V_main_arg0 m c), h.1.2.1.trans (V_main_arg1 m c), h.1.2.2.1.trans (V_main_arg2 m c), h.1.2.2.2.1.trans (V_main_arg3 m c), h.1.2.2.2.2.trans (V_main_arg4 m c)⟩

end Launch

end Cert.Proof.Kernel
-- ==== Proof.Ideal.Ring.lean ====
/-
  The names the kernel's proof speaks in: the twelve slots of the weight ring (each in two halves for a gate/up
  chunk, or in one wide window for a down chunk), the blocks of the two weight arrays the chunks come from, the
  ring's semaphore cells, and the equations that turn the kernel's printed slices into these names.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Ring
public import Idealize.ShloMosaic.Lib.Affine
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The buffers -/

abbrev wguM : Memref sig .tc .hbm S14336x8192 .fp8e4m3 := Memref.whole main_arg1
abbrev wdM : Memref sig .tc .hbm S8192x7168 .fp8e4m3 := Memref.whole main_arg3
abbrev ringM : Memref sig .tc .vmem S12x512x8192 .fp8e4m3 := Memref.whole cc0_scratch0
abbrev outM : Memref sig .tc .hbm S24x8192 .bf16 := Memref.whole main_v3_0
abbrev ovM : Memref sig .tc .vmem S24x8192 .bf16 := Memref.whole cc0_scratch10

/-! ## Offsets -/

abbrev semOff (s : Fin 12) : Fin 1 → Nat := ![s.val]
abbrev loOff (s : Fin 12) : Fin 3 → Nat := ![s.val, 0, 0]
abbrev hiOff (s : Fin 12) : Fin 3 → Nat := ![s.val, 256, 0]
abbrev gOff (r : ℕ) : Fin 2 → Nat := ![min r 14080, 0]
abbrev dOff (b : Fin 16) : Fin 2 → Nat := ![b.val * 512, 0]
abbrev oOff (b : Fin 16) : Fin 2 → Nat := ![0, b.val * 512]
theorem semOff_inb : ∀ (s : Fin 12) a, semOff s a + S1.size a ≤ S12.size a := by decide +kernel
theorem loOff_inb : ∀ (s : Fin 12) a, loOff s a + S1x256x8192.size a ≤ S12x512x8192.size a := by decide +kernel
theorem hiOff_inb : ∀ (s : Fin 12) a, hiOff s a + S1x256x8192.size a ≤ S12x512x8192.size a := by decide +kernel
theorem slOff_inb : ∀ (s : Fin 12) a, loOff s a + S1x512x8192.size a ≤ S12x512x8192.size a := by decide +kernel
theorem dwOff_inb : ∀ (s : Fin 12) a, loOff s a + S1x512x7168.size a ≤ S12x512x8192.size a := by decide +kernel
theorem gOff_inb (r : ℕ) : ∀ a, gOff r a + S256x8192.size a ≤ S14336x8192.size a := by
  intro a; fin_cases a
  · show min r 14080 + 256 ≤ 14336; omega
  · show 0 + 8192 ≤ 8192; omega
theorem dOff_inb : ∀ (b : Fin 16) a, dOff b a + S512x7168.size a ≤ S8192x7168.size a := by decide +kernel
theorem oOff_inb : ∀ (b : Fin 16) a, oOff b a + S24x512.size a ≤ S24x8192.size a := by decide +kernel

/-! ## The named slices -/

/-- Ring slot `s`'s semaphore. -/
def csm (s : Fin 12) : DmaSems sig S_ := (cc0_scratch11.slice (Rect.unit (s := S12) (semOff s) S1.size (semOff_inb s))).squeeze S_ squeezes_S1_S_
/-- The gate half of ring slot `s`. -/
def loSlot (s : Fin 12) : Memref sig .tc .vmem S256x8192 .fp8e4m3 :=
  (ringM.slice (Rect.unit (s := S12x512x8192) (loOff s) S1x256x8192.size (loOff_inb s)) (fun _ => rfl)).squeeze S256x8192 squeezes_S1x256x8192_S256x8192
/-- The up half of ring slot `s`. -/
def hiSlot (s : Fin 12) : Memref sig .tc .vmem S256x8192 .fp8e4m3 :=
  (ringM.slice (Rect.unit (s := S12x512x8192) (hiOff s) S1x256x8192.size (hiOff_inb s)) (fun _ => rfl)).squeeze S256x8192 squeezes_S1x256x8192_S256x8192
/-- The window of ring slot `s` a down chunk fills. -/
def dSlot (s : Fin 12) : Memref sig .tc .vmem S512x7168 .fp8e4m3 :=
  (ringM.slice (Rect.unit (s := S12x512x8192) (loOff s) S1x512x7168.size (dwOff_inb s)) (fun _ => rfl)).squeeze S512x7168 squeezes_S1x512x7168_S512x7168
/-- The 256 rows of the gate/up weights from row `r` on. -/
def gB (r : ℕ) : Memref sig .tc .hbm S256x8192 .fp8e4m3 :=
  wguM.slice (Rect.unit (s := S14336x8192) (gOff r) S256x8192.size (gOff_inb r)) (fun _ => rfl)
/-- Rows `512 b …` of the down weights. -/
def dB (b : Fin 16) : Memref sig .tc .hbm S512x7168 .fp8e4m3 :=
  wdM.slice (Rect.unit (s := S8192x7168) (dOff b) S512x7168.size (dOff_inb b)) (fun _ => rfl)
/-- Columns `512 b …` of the output buffer in VMEM. -/
def ovB (b : Fin 16) : Memref sig .tc .vmem S24x512 .bf16 :=
  ovM.slice (Rect.unit (s := S24x8192) (oOff b) S24x512.size (oOff_inb b)) (fun _ => rfl)
/-- Columns `512 b …` of the result. -/
def oB (b : Fin 16) : Memref sig .tc .hbm S24x512 .bf16 :=
  outM.slice (Rect.unit (s := S24x8192) (oOff b) S24x512.size (oOff_inb b)) (fun _ => rfl)

instance (s : Fin 12) : ClosedOff (loOff s) := ⟨loOff s, rfl⟩
instance (s : Fin 12) : ClosedOff (hiOff s) := ⟨hiOff s, rfl⟩
instance (r : ℕ) : ClosedOff (gOff r) := ⟨gOff r, rfl⟩
instance (b : Fin 16) : ClosedOff (dOff b) := ⟨dOff b, rfl⟩
instance (b : Fin 16) : ClosedOff (oOff b) := ⟨oOff b, rfl⟩

/-! ## The loops' offsets in closed form -/

theorem off1_eq : ∀ k : Fin k0_t1_loop.trips, k0_off1 k = semOff (Ring.sl 12 k.val) := by decide +kernel
theorem off2_eq : ∀ k : Fin k0_t1_loop.trips, k0_off2 k = loOff (Ring.sl 12 k.val) := by decide +kernel
theorem off3_eq : ∀ k : Fin k0_t1_loop.trips, k0_off3 k = gOff (k.val * 256) := by decide +kernel
theorem off4_eq : ∀ k : Fin k0_t1_loop.trips, k0_off4 k = hiOff (Ring.sl 12 k.val) := by decide +kernel
theorem off5_eq : ∀ k : Fin k0_t1_loop.trips, k0_off5 k = gOff (7168 + k.val * 256) := by decide +kernel
theorem off6_eq : ∀ k : Fin k0_t1_loop.trips, k0_off6 k = loOff (Ring.sl 12 k.val) := by decide +kernel
theorem off7_eq : ∀ k : Fin k0_t1_loop.trips, k0_off7 k = ![0, k.val * 256] := by decide +kernel
theorem off8_eq : ∀ k : Fin k0_t1_loop.trips, k0_off8 k = ![0, 7168 + k.val * 256] := by decide +kernel
theorem off9_eq : ∀ k : Fin k0_t1_loop.trips, k0_off9 k = ![k.val, 0, 0] := by decide +kernel
theorem cond1_iff : ∀ k : Fin k0_t1_loop.trips, k0_cond1 k = 1#1 ↔ k.val < 16 := by decide +kernel
theorem cond2_iff : ∀ k : Fin k0_t1_loop.trips, k0_cond2 k = 1#1 ↔ 16 ≤ k.val := by decide +kernel
theorem off10_eq : ∀ k : Fin k0_t1_loop.trips, k0_off10 k = semOff (Ring.sl 12 k.val) := by decide +kernel
theorem off11_eq : ∀ k : Fin k0_t1_loop.trips, k0_off11 k = loOff (Ring.sl 12 k.val) := by decide +kernel
theorem off12_eq : ∀ k : Fin k0_t1_loop.trips, k.val < 16 → k0_off12 k = gOff ((k.val + 12) * 256) := by decide +kernel
theorem off13_eq : ∀ k : Fin k0_t1_loop.trips, k0_off13 k = hiOff (Ring.sl 12 k.val) := by decide +kernel
theorem off14_eq : ∀ k : Fin k0_t1_loop.trips, k.val < 16 → k0_off14 k = gOff (7168 + (k.val + 12) * 256) := by decide +kernel
theorem off15_eq : ∀ k : Fin k0_t1_loop.trips, k0_off15 k = semOff (Ring.sl 12 k.val) := by decide +kernel
theorem off16_eq : ∀ k : Fin k0_t1_loop.trips, k0_off16 k = loOff (Ring.sl 12 k.val) := by decide +kernel
theorem off17_eq : ∀ k : Fin k0_t1_loop.trips, 16 ≤ k.val → k0_off17 k = dOff (Ring.bk 16 (k.val - 16)) := by decide +kernel
theorem off18_eq : ∀ k : Fin k0_t2_loop.trips, k0_off18 k = semOff (Ring.sl 12 (k.val + 28)) := by decide +kernel
theorem off19_eq : ∀ k : Fin k0_t2_loop.trips, k0_off19 k = loOff (Ring.sl 12 (k.val + 28)) := by decide +kernel
theorem off20_eq : ∀ k : Fin k0_t2_loop.trips, k0_off20 k = dOff (Ring.bk 16 k.val) := by decide +kernel
theorem off21_eq : ∀ k : Fin k0_t2_loop.trips, k0_off21 k = loOff (Ring.sl 12 (k.val + 28)) := by decide +kernel
theorem off22_eq : ∀ k : Fin k0_t2_loop.trips, k0_off22 k = oOff (Ring.bk 16 k.val) := by decide +kernel
theorem off23_eq : ∀ k : Fin k0_t2_loop.trips, k0_off23 k = oOff (Ring.bk 16 k.val) := by decide +kernel
theorem cond3_iff : ∀ k : Fin k0_t2_loop.trips, ¬ k0_cond3 k = 1#1 := by decide +kernel
theorem cond4_iff : ∀ k : Fin k0_t2_loop.trips, k0_cond4 k = 1#1 ↔ k.val < 4 := by decide +kernel
theorem off29_eq : ∀ k : Fin k0_t2_loop.trips, k0_off29 k = semOff (Ring.sl 12 (k.val + 28)) := by decide +kernel
theorem off30_eq : ∀ k : Fin k0_t2_loop.trips, k0_off30 k = loOff (Ring.sl 12 (k.val + 28)) := by decide +kernel
theorem off31_eq : ∀ k : Fin k0_t2_loop.trips, k.val < 4 → k0_off31 k = dOff (Ring.bk 16 (k.val + 12)) := by decide +kernel
theorem off32_eq : ∀ k : Fin k0_t2_loop.trips, k0_off32 k = oOff (Ring.bk 16 k.val) := by decide +kernel
theorem off33_eq : ∀ k : Fin k0_t3_loop.trips, k0_off33 k = oOff (Ring.bk 16 k.val) := by decide +kernel

instance (k : Fin k0_t1_loop.trips) : ClosedOff (k0_off6 k) := ⟨loOff (Ring.sl 12 k.val), off6_eq k⟩
instance (k : Fin k0_t1_loop.trips) : ClosedOff (k0_off7 k) := ⟨![0, k.val * 256], off7_eq k⟩
instance (k : Fin k0_t1_loop.trips) : ClosedOff (k0_off8 k) := ⟨![0, 7168 + k.val * 256], off8_eq k⟩
instance (k : Fin k0_t1_loop.trips) : ClosedOff (k0_off9 k) := ⟨![k.val, 0, 0], off9_eq k⟩
instance (k : Fin k0_t2_loop.trips) : ClosedOff (k0_off21 k) := ⟨loOff (Ring.sl 12 (k.val + 28)), off21_eq k⟩
instance (k : Fin k0_t2_loop.trips) : ClosedOff (k0_off22 k) := ⟨oOff (Ring.bk 16 k.val), off22_eq k⟩
instance (k : Fin k0_t2_loop.trips) : ClosedOff (k0_off23 k) := ⟨oOff (Ring.bk 16 k.val), off23_eq k⟩

/-! ## The kernel's slices are these names -/

theorem csm_congr {off : Fin 1 → Nat} {s : Fin 12} (e : off = semOff s) (hh) :
    (cc0_scratch11.slice (Rect.unit (s := S12) off S1.size hh)).squeeze S_ squeezes_S1_S_ = csm s :=
  congrArg (fun A : DmaSems sig S1 => A.squeeze S_ squeezes_S1_S_) (SemArray.slice_unit_congr _ e _ _)
theorem lo_congr {off : Fin 3 → Nat} {s : Fin 12} (e : off = loOff s) (hh hs) :
    (ringM.slice (Rect.unit (s := S12x512x8192) off S1x256x8192.size hh) hs).squeeze S256x8192 squeezes_S1x256x8192_S256x8192 = loSlot s :=
  congrArg (fun M : Memref sig .tc .vmem S1x256x8192 .fp8e4m3 => M.squeeze S256x8192 squeezes_S1x256x8192_S256x8192) (Memref.slice_unit_congr _ e _ _ _ _)
theorem hi_congr {off : Fin 3 → Nat} {s : Fin 12} (e : off = hiOff s) (hh hs) :
    (ringM.slice (Rect.unit (s := S12x512x8192) off S1x256x8192.size hh) hs).squeeze S256x8192 squeezes_S1x256x8192_S256x8192 = hiSlot s :=
  congrArg (fun M : Memref sig .tc .vmem S1x256x8192 .fp8e4m3 => M.squeeze S256x8192 squeezes_S1x256x8192_S256x8192) (Memref.slice_unit_congr _ e _ _ _ _)
theorem d_congr {off : Fin 3 → Nat} {s : Fin 12} (e : off = loOff s) (hh hs) :
    (ringM.slice (Rect.unit (s := S12x512x8192) off S1x512x7168.size hh) hs).squeeze S512x7168 squeezes_S1x512x7168_S512x7168 = dSlot s :=
  congrArg (fun M : Memref sig .tc .vmem S1x512x7168 .fp8e4m3 => M.squeeze S512x7168 squeezes_S1x512x7168_S512x7168) (Memref.slice_unit_congr _ e _ _ _ _)
theorem gB_congr {off : Fin 2 → Nat} {b : ℕ} (e : off = gOff b) (hh hs) :
    wguM.slice (Rect.unit (s := S14336x8192) off S256x8192.size hh) hs = gB b := Memref.slice_unit_congr _ e _ _ _ (fun _ => rfl)
theorem dB_congr {off : Fin 2 → Nat} {b : Fin 16} (e : off = dOff b) (hh hs) :
    wdM.slice (Rect.unit (s := S8192x7168) off S512x7168.size hh) hs = dB b := Memref.slice_unit_congr _ e _ _ _ (fun _ => rfl)
theorem ovB_congr {off : Fin 2 → Nat} {b : Fin 16} (e : off = oOff b) (hh hs) :
    ovM.slice (Rect.unit (s := S24x8192) off S24x512.size hh) hs = ovB b := Memref.slice_unit_congr _ e _ _ _ (fun _ => rfl)
theorem oB_congr {off : Fin 2 → Nat} {b : Fin 16} (e : off = oOff b) (hh hs) :
    outM.slice (Rect.unit (s := S24x8192) off S24x512.size hh) hs = oB b := Memref.slice_unit_congr _ e _ _ _ (fun _ => rfl)

/-- The prologue's slices, at literal offsets. -/
theorem ofNat_of_inb {n : ℕ} (h : n < 12) : (Fin.ofNat 12 n).val = n := by simp [Fin.ofNat, Nat.mod_eq_of_lt h]
@[sl_canon] theorem cnL (n : ℕ) (hh) : (cc0_scratch11.slice (Rect.unit (s := S12) ![n] S1.size hh)).squeeze S_ squeezes_S1_S_ = csm (Fin.ofNat 12 n) :=
  csm_congr (by have h : n + 1 ≤ 12 := hh 0; rw [semOff, ofNat_of_inb (by omega)]) _
@[sl_canon] theorem cnLlo (n : ℕ) (hh hs) : (ringM.slice (Rect.unit (s := S12x512x8192) ![n, 0, 0] S1x256x8192.size hh) hs).squeeze S256x8192 squeezes_S1x256x8192_S256x8192 = loSlot (Fin.ofNat 12 n) :=
  lo_congr (by have h : n + 1 ≤ 12 := hh 0; rw [loOff, ofNat_of_inb (by omega)]) _ _
@[sl_canon] theorem cnLhi (n : ℕ) (hh hs) : (ringM.slice (Rect.unit (s := S12x512x8192) ![n, 256, 0] S1x256x8192.size hh) hs).squeeze S256x8192 squeezes_S1x256x8192_S256x8192 = hiSlot (Fin.ofNat 12 n) :=
  hi_congr (by have h : n + 1 ≤ 12 := hh 0; rw [hiOff, ofNat_of_inb (by omega)]) _ _
@[sl_canon] theorem cnLg (n : ℕ) (hh hs) : wguM.slice (Rect.unit (s := S14336x8192) ![n, 0] S256x8192.size hh) hs = gB n :=
  gB_congr (by have h : n + 256 ≤ 14336 := hh 0; rw [gOff, Nat.min_eq_left (by omega)]) _ _

section Canon
variable (k : Fin k0_t1_loop.trips) (j : Fin k0_t2_loop.trips) (i : Fin k0_t3_loop.trips)

@[sl_canon] theorem cn1 (hh) : (cc0_scratch11.slice (Rect.unit (s := S12) (k0_off1 k) S1.size hh)).squeeze S_ squeezes_S1_S_ = csm (Ring.sl 12 k.val) := csm_congr (off1_eq k) _
@[sl_canon] theorem cn2 (hh hs) : (ringM.slice (Rect.unit (s := S12x512x8192) (k0_off2 k) S1x256x8192.size hh) hs).squeeze S256x8192 squeezes_S1x256x8192_S256x8192 = loSlot (Ring.sl 12 k.val) := lo_congr (off2_eq k) _ _
@[sl_canon] theorem cn3 (hh hs) : wguM.slice (Rect.unit (s := S14336x8192) (k0_off3 k) S256x8192.size hh) hs = gB (k.val * 256) := gB_congr (off3_eq k) _ _
@[sl_canon] theorem cn4 (hh hs) : (ringM.slice (Rect.unit (s := S12x512x8192) (k0_off4 k) S1x256x8192.size hh) hs).squeeze S256x8192 squeezes_S1x256x8192_S256x8192 = hiSlot (Ring.sl 12 k.val) := hi_congr (off4_eq k) _ _
@[sl_canon] theorem cn5 (hh hs) : wguM.slice (Rect.unit (s := S14336x8192) (k0_off5 k) S256x8192.size hh) hs = gB (7168 + k.val * 256) := gB_congr (off5_eq k) _ _
@[sl_canon] theorem cn10 (hh) : (cc0_scratch11.slice (Rect.unit (s := S12) (k0_off10 k) S1.size hh)).squeeze S_ squeezes_S1_S_ = csm (Ring.sl 12 k.val) := csm_congr (off10_eq k) _
@[sl_canon] theorem cn11 (hh hs) : (ringM.slice (Rect.unit (s := S12x512x8192) (k0_off11 k) S1x256x8192.size hh) hs).squeeze S256x8192 squeezes_S1x256x8192_S256x8192 = loSlot (Ring.sl 12 k.val) := lo_congr (off11_eq k) _ _
@[sl_canon] theorem cn12 (hk : k.val < 16) (hh hs) : wguM.slice (Rect.unit (s := S14336x8192) (k0_off12 k) S256x8192.size hh) hs = gB ((k.val + 12) * 256) := gB_congr (off12_eq k hk) _ _
@[sl_canon] theorem cn13 (hh hs) : (ringM.slice (Rect.unit (s := S12x512x8192) (k0_off13 k) S1x256x8192.size hh) hs).squeeze S256x8192 squeezes_S1x256x8192_S256x8192 = hiSlot (Ring.sl 12 k.val) := hi_congr (off13_eq k) _ _
@[sl_canon] theorem cn14 (hk : k.val < 16) (hh hs) : wguM.slice (Rect.unit (s := S14336x8192) (k0_off14 k) S256x8192.size hh) hs = gB (7168 + (k.val + 12) * 256) := gB_congr (off14_eq k hk) _ _
@[sl_canon] theorem cn15 (hh) : (cc0_scratch11.slice (Rect.unit (s := S12) (k0_off15 k) S1.size hh)).squeeze S_ squeezes_S1_S_ = csm (Ring.sl 12 k.val) := csm_congr (off15_eq k) _
@[sl_canon] theorem cn16 (hh hs) : (ringM.slice (Rect.unit (s := S12x512x8192) (k0_off16 k) S1x512x7168.size hh) hs).squeeze S512x7168 squeezes_S1x512x7168_S512x7168 = dSlot (Ring.sl 12 k.val) := d_congr (off16_eq k) _ _
@[sl_canon] theorem cn17 (hk : 16 ≤ k.val) (hh hs) : wdM.slice (Rect.unit (s := S8192x7168) (k0_off17 k) S512x7168.size hh) hs = dB (Ring.bk 16 (k.val - 16)) := dB_congr (off17_eq k hk) _ _
@[sl_canon] theorem cn18 (hh) : (cc0_scratch11.slice (Rect.unit (s := S12) (k0_off18 j) S1.size hh)).squeeze S_ squeezes_S1_S_ = csm (Ring.sl 12 (j.val + 28)) := csm_congr (off18_eq j) _
@[sl_canon] theorem cn19 (hh hs) : (ringM.slice (Rect.unit (s := S12x512x8192) (k0_off19 j) S1x512x7168.size hh) hs).squeeze S512x7168 squeezes_S1x512x7168_S512x7168 = dSlot (Ring.sl 12 (j.val + 28)) := d_congr (off19_eq j) _ _
@[sl_canon] theorem cn20 (hh hs) : wdM.slice (Rect.unit (s := S8192x7168) (k0_off20 j) S512x7168.size hh) hs = dB (Ring.bk 16 j.val) := dB_congr (off20_eq j) _ _
@[sl_canon] theorem cn29 (hh) : (cc0_scratch11.slice (Rect.unit (s := S12) (k0_off29 j) S1.size hh)).squeeze S_ squeezes_S1_S_ = csm (Ring.sl 12 (j.val + 28)) := csm_congr (off29_eq j) _
@[sl_canon] theorem cn30 (hh hs) : (ringM.slice (Rect.unit (s := S12x512x8192) (k0_off30 j) S1x512x7168.size hh) hs).squeeze S512x7168 squeezes_S1x512x7168_S512x7168 = dSlot (Ring.sl 12 (j.val + 28)) := d_congr (off30_eq j) _ _
@[sl_canon] theorem cn31 (hk : j.val < 4) (hh hs) : wdM.slice (Rect.unit (s := S8192x7168) (k0_off31 j) S512x7168.size hh) hs = dB (Ring.bk 16 (j.val + 12)) := dB_congr (off31_eq j hk) _ _
@[sl_canon] theorem cn32v (hh hs) : ovM.slice (Rect.unit (s := S24x8192) (k0_off32 j) S24x512.size hh) hs = ovB (Ring.bk 16 j.val) := ovB_congr (off32_eq j) _ _
@[sl_canon] theorem cn32 (hh hs) : outM.slice (Rect.unit (s := S24x8192) (k0_off32 j) S24x512.size hh) hs = oB (Ring.bk 16 j.val) := oB_congr (off32_eq j) _ _
@[sl_canon] theorem cn33v (hh hs) : ovM.slice (Rect.unit (s := S24x8192) (k0_off33 i) S24x512.size hh) hs = ovB (Ring.bk 16 i.val) := ovB_congr (off33_eq i) _ _
@[sl_canon] theorem cn33 (hh hs) : outM.slice (Rect.unit (s := S24x8192) (k0_off33 i) S24x512.size hh) hs = oB (Ring.bk 16 i.val) := oB_congr (off33_eq i) _ _

end Canon

end Cert.Proof.KernelIdeal

end
-- ==== Proof.Ideal.Pieces.lean ====
/-
  The resources of the weight ring: blocks of the weight arrays at home, a slot's two halves, its down window and the
  rest, what a copy leaves in each, and a slot cut and joined.
-/
module

public import proofs.«01_k».proof.Proof.Ideal.Ring
public import Idealize.ShloMosaic.Lib.ValueLayout
public import Idealize.ShloMosaic.Lib.VecWindow

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

abbrev UU (nD : Nat) (τ : Topo) : Type := UR sig nD τ × Counters
local notation "𝕄" => MT nD τ sig Unit (Elt F) ℕ (UU nD τ) ℕ
abbrev EP : Emb (UR sig nD τ) 𝕄 := embL
abbrev 𝒱₀ : Variants := Variants.none

/-- The whole of ring slot `s`, as the body loads it. -/
def slM (s : Fin 12) : Memref sig .tc .vmem S1x512x8192 .fp8e4m3 :=
  ringM.slice (Rect.unit (s := S12x512x8192) (loOff s) S1x512x8192.size (slOff_inb s)) (fun _ => rfl)

/-! ## Contents -/

/-- Gate/up weight row `r`, lane `l`. -/
def wAt (W : S14336x8192.Idx → Elt F .fp8e4m3) (r l : ℕ) : Elt F .fp8e4m3 := W (ix2 (Fin.ofNat 14336 r) (Fin.ofNat 8192 l))
/-- Down weight row `r`, lane `l`. -/
def dAt (D : S8192x7168.Idx → Elt F .fp8e4m3) (r l : ℕ) : Elt F .fp8e4m3 := D (ix2 (Fin.ofNat 8192 r) (Fin.ofNat 7168 l))
/-- Gate/up chunk `k` as a ring slot holds it: 256 gate rows above 256 up rows. -/
def chunkG (W : S14336x8192.Idx → Elt F .fp8e4m3) (k r l : ℕ) : Elt F .fp8e4m3 :=
  if r < 256 then wAt W (k * 256 + r) l else wAt W (7168 + k * 256 + (r - 256)) l
/-- Ring contents agreeing with chunk `k` in every slot. -/
def ringG (W : S14336x8192.Idx → Elt F .fp8e4m3) (k : ℕ) : S12x512x8192.Idx → Elt F .fp8e4m3 := fun y => chunkG W k (y 1).val (y 2).val

section Sets

abbrev loSet (s : Fin 12) : Finset S12x512x8192.Idx := (loSlot s).view.set
abbrev hiSet (s : Fin 12) : Finset S12x512x8192.Idx := (hiSlot s).view.set
abbrev dwSet (s : Fin 12) : Finset S12x512x8192.Idx := (dSlot s).view.set
abbrev slSet (s : Fin 12) : Finset S12x512x8192.Idx := (slM s).view.set
abbrev restSet (s : Fin 12) : Finset S12x512x8192.Idx := slSet s \ dwSet s

theorem lo_set (s : Fin 12) : loSet s = (Rect.unit (s := S12x512x8192) (loOff s) S1x256x8192.size (loOff_inb s)).set :=
  ((View.set_reshape _ _).trans (View.set_slice_whole _ _))
theorem hi_set (s : Fin 12) : hiSet s = (Rect.unit (s := S12x512x8192) (hiOff s) S1x256x8192.size (hiOff_inb s)).set :=
  ((View.set_reshape _ _).trans (View.set_slice_whole _ _))
theorem dw_set (s : Fin 12) : dwSet s = (Rect.unit (s := S12x512x8192) (loOff s) S1x512x7168.size (dwOff_inb s)).set :=
  ((View.set_reshape _ _).trans (View.set_slice_whole _ _))
theorem sl_set (s : Fin 12) : slSet s = (Rect.unit (s := S12x512x8192) (loOff s) S1x512x8192.size (slOff_inb s)).set :=
  View.set_slice_whole _ _

theorem mem_lo (s : Fin 12) (y : S12x512x8192.Idx) : y ∈ loSet s ↔ (y 0).val = s.val ∧ (y 1).val < 256 := by
  have h2 : (y 2).val < 8192 := (y 2).isLt
  refine (iff_of_eq (congrArg (y ∈ ·) (lo_set s))).trans (Rect.mem_set_unit.trans ⟨fun h => ?_, ?_⟩)
  · have := h 0; have := h 1; simp at *; omega
  · rintro ⟨h0, h1⟩ a; fin_cases a <;> simp <;> omega
theorem mem_hi (s : Fin 12) (y : S12x512x8192.Idx) : y ∈ hiSet s ↔ (y 0).val = s.val ∧ 256 ≤ (y 1).val := by
  have h1 : (y 1).val < 512 := (y 1).isLt
  have h2 : (y 2).val < 8192 := (y 2).isLt
  refine (iff_of_eq (congrArg (y ∈ ·) (hi_set s))).trans (Rect.mem_set_unit.trans ⟨fun h => ?_, ?_⟩)
  · have := h 0; have := h 1; simp at *; omega
  · rintro ⟨h0, h1⟩ a; fin_cases a <;> simp <;> omega
theorem mem_dw (s : Fin 12) (y : S12x512x8192.Idx) : y ∈ dwSet s ↔ (y 0).val = s.val ∧ (y 2).val < 7168 := by
  have h1 : (y 1).val < 512 := (y 1).isLt
  refine (iff_of_eq (congrArg (y ∈ ·) (dw_set s))).trans (Rect.mem_set_unit.trans ⟨fun h => ?_, ?_⟩)
  · have := h 0; have := h 2; simp at *; omega
  · rintro ⟨h0, h1⟩ a; fin_cases a <;> simp <;> omega
theorem mem_sl (s : Fin 12) (y : S12x512x8192.Idx) : y ∈ slSet s ↔ (y 0).val = s.val := by
  have h1 : (y 1).val < 512 := (y 1).isLt
  have h2 : (y 2).val < 8192 := (y 2).isLt
  refine (iff_of_eq (congrArg (y ∈ ·) (sl_set s))).trans (Rect.mem_set_unit.trans ⟨fun h => ?_, ?_⟩)
  · have := h 0; simp at *; omega
  · rintro h0 a; fin_cases a <;> simp <;> omega

theorem sl_eq_union (s : Fin 12) : slSet s = loSet s ∪ hiSet s := by
  ext y; rw [Finset.mem_union, mem_sl, mem_lo, mem_hi]; omega
theorem lo_disj_hi (s : Fin 12) : Disjoint (loSet s) (hiSet s) :=
  Finset.disjoint_left.mpr fun y h h' => by rw [mem_lo] at h; rw [mem_hi] at h'; omega
theorem sl_eq_union' (s : Fin 12) : slSet s = dwSet s ∪ restSet s := by
  ext y; rw [Finset.mem_union, Finset.mem_sdiff, mem_sl, mem_dw]; tauto

end Sets

section Pieces
variable (c : Dev nD) (W : Buf (Elt F) (wguM.view.loc (c : Thread nD τ))) (D : Buf (Elt F) (wdM.view.loc (c : Thread nD τ)))

abbrev cellP (s : Fin 12) : sProp 𝕄 := semVal ((c : Thread nD τ), SemLoc.dma (csm s).sem) 0
abbrev loP (s : Fin 12) (f : Buf (Elt F) ((loSlot s).view.loc (c : Thread nD τ))) : sProp 𝕄 := (loSlot s).view.loc (c : Thread nD τ) ↦[(loSlot s).view.set]{fullShare} f
abbrev hiP (s : Fin 12) (f : Buf (Elt F) ((hiSlot s).view.loc (c : Thread nD τ))) : sProp 𝕄 := (hiSlot s).view.loc (c : Thread nD τ) ↦[(hiSlot s).view.set]{fullShare} f
abbrev dwP (s : Fin 12) (f : Buf (Elt F) ((dSlot s).view.loc (c : Thread nD τ))) : sProp 𝕄 := (dSlot s).view.loc (c : Thread nD τ) ↦[(dSlot s).view.set]{fullShare} f
abbrev slP (s : Fin 12) (f : Buf (Elt F) ((slM s).view.loc (c : Thread nD τ))) : sProp 𝕄 := (slM s).view.loc (c : Thread nD τ) ↦[(slM s).view.set]{fullShare} f
abbrev restP (s : Fin 12) (f : Buf (Elt F) ((slM s).view.loc (c : Thread nD τ))) : sProp 𝕄 := (slM s).view.loc (c : Thread nD τ) ↦[restSet s]{fullShare} f
abbrev gP (r : ℕ) : sProp 𝕄 := (gB r).view.loc (c : Thread nD τ) ↦[(gB r).view.set]{fullShare} W
abbrev dP (b : Fin 16) : sProp 𝕄 := (dB b).view.loc (c : Thread nD τ) ↦[(dB b).view.set]{fullShare} D

/-- What a copy of the rows from `r` on leaves in a slot's gate half; -/
abbrev landLo (s : Fin 12) (r : ℕ) : Buf (Elt F) ((loSlot s).view.loc (c : Thread nD τ)) :=
  (loSlot s).view.writes (Elt F) (loSlot s).view.junk [⟨Rect.whole S256x8192, ReadAs.same.apply ((gB r).view.read (Elt F) W)⟩]
/-- in its up half; -/
abbrev landHi (s : Fin 12) (r : ℕ) : Buf (Elt F) ((hiSlot s).view.loc (c : Thread nD τ)) :=
  (hiSlot s).view.writes (Elt F) (hiSlot s).view.junk [⟨Rect.whole S256x8192, ReadAs.same.apply ((gB r).view.read (Elt F) W)⟩]
/-- and a copy of down block `b` in its down window, over `f`. -/
abbrev landD (s : Fin 12) (b : Fin 16) (f : Buf (Elt F) ((dSlot s).view.loc (c : Thread nD τ))) : Buf (Elt F) ((dSlot s).view.loc (c : Thread nD τ)) :=
  (dSlot s).view.writes (Elt F) f [⟨Rect.whole S512x7168, ReadAs.same.apply ((dB b).view.read (Elt F) D)⟩]

/-- The two deliveries of gate/up chunk `k` into slot `s`. -/
abbrev delG (s : Fin 12) (k : ℕ) : Fin 2 → sProp 𝕄
  | ⟨0, _⟩ => iprop(loP c s (landLo c W s (k * 256)) ∗ gP c W (k * 256))
  | ⟨1, _⟩ => iprop(hiP c s (landHi c W s (7168 + k * 256)) ∗ gP c W (7168 + k * 256))
theorem pts_st {cs : Space} {sh : Shape} {e : EltTy} (m : Memref sig .tc cs sh e) (f : Buf (Elt F) (m.view.loc (c : Thread nD τ))) :
    BI.Storable (upEmb : UEmb _ 𝕄) (m.view.loc (c : Thread nD τ) ↦[m.view.set]{fullShare} f) := inferInstance
instance loP_st (s : Fin 12) (f) : BI.Storable (upEmb : UEmb _ 𝕄) (loP (F := F) c s f) := pts_st c (loSlot s) f
instance hiP_st (s : Fin 12) (f) : BI.Storable (upEmb : UEmb _ 𝕄) (hiP (F := F) c s f) := pts_st c (hiSlot s) f
instance gP_st (r : ℕ) : BI.Storable (upEmb : UEmb _ 𝕄) (gP (F := F) c W r) := pts_st c (gB r) W
instance delG_st (s : Fin 12) (k : ℕ) : ∀ t, BI.Storable (upEmb : UEmb _ 𝕄) (delG (F := F) c W s k t)
  | ⟨0, _⟩ => by unfold delG; infer_instance
  | ⟨1, _⟩ => by unfold delG; infer_instance

/-- Slot `s` with gate/up chunk `k` in flight: `j` of its two copies issued, `u` units waited for. -/
abbrev batG (s : Fin 12) (k j u : ℕ) : sProp 𝕄 :=
  Transfers.Batch countersEmb (c : Thread nD τ) (SemLoc.dma (csm s).sem) () 65536 (delG c W s k) j u
/-- Slot `s`'s down window with down block `b` in flight, issued over `f`. -/
abbrev flD (s : Fin 12) (b : Fin 16) (f : Buf (Elt F) ((dSlot s).view.loc (c : Thread nD τ))) : sProp 𝕄 :=
  Transfers.Flight countersEmb (c : Thread nD τ) (SemLoc.dma (csm s).sem) () 114688 iprop(dwP c s (landD c D s b f) ∗ dP c D b)

end Pieces

section Cut
variable (c : Dev nD) (W : Buf (Elt F) (wguM.view.loc (c : Thread nD τ))) (D : Buf (Elt F) (wdM.view.loc (c : Thread nD τ)))

/-- A piece held by a view's own elements is known by what the view reads. -/
theorem pts_of_read {cs : Space} {sh : Shape} {e : EltTy} (m : Memref sig .tc cs sh e) (g g' : Buf (Elt F) (m.view.loc (c : Thread nD τ)))
    (h : m.view.read (Elt F) g = m.view.read (Elt F) g') :
    (m.view.loc (c : Thread nD τ) ↦[m.view.set]{fullShare} g : sProp 𝕄) = m.view.loc (c : Thread nD τ) ↦[m.view.set]{fullShare} g' := by
  have e1 := pointsTo_rep (Ix := Unit) (Name := ℕ) (U := UU nD τ) (Lvl := ℕ) (c : Thread nD τ) m g fullShare
  have e2 := pointsTo_rep (Ix := Unit) (Name := ℕ) (U := UU nD τ) (Lvl := ℕ) (c : Thread nD τ) m g' fullShare
  rw [e1, e2, h]

/-- A slot is its two halves; -/
theorem slot_halves (s : Fin 12) (f) : slP (F := F) c s f = iprop(loP c s f ∗ hiP c s f) := by
  have h := pointsTo_union (Ix := Unit) (Name := ℕ) (U := UU nD τ) (Lvl := ℕ) (ℓ := (slM s).view.loc (c : Thread nD τ)) (q := fullShare) (f := f) (lo_disj_hi s)
  exact (congrArg (fun S => ((slM s).view.loc (c : Thread nD τ) ↦[S]{fullShare} f : sProp 𝕄)) (sl_eq_union s)).trans (equiv_iff.mp ⟨h.1, h.2⟩)
/-- or its down window and the rest. -/
theorem slot_down (s : Fin 12) (f) : slP (F := F) c s f = iprop(dwP c s f ∗ restP c s f) := by
  have h := pointsTo_union (Ix := Unit) (Name := ℕ) (U := UU nD τ) (Lvl := ℕ) (ℓ := (slM s).view.loc (c : Thread nD τ)) (q := fullShare) (f := f)
    (Finset.disjoint_sdiff (s := dwSet s) (t := slSet s))
  exact (congrArg (fun S => ((slM s).view.loc (c : Thread nD τ) ↦[S]{fullShare} f : sProp 𝕄)) (sl_eq_union' s)).trans (equiv_iff.mp ⟨h.1, h.2⟩)

theorem read_lo (s : Fin 12) (f : S12x512x8192.Idx → Elt F .fp8e4m3) (r : Fin 256) (l : Fin 8192) :
    (loSlot s).view.read (Elt F) f (ix2 r l) = f (ix3 s ⟨r.val, by omega⟩ l) := by
  show f ((Rect.unit (s := S12x512x8192) (loOff s) S1x256x8192.size (loOff_inb s)).emb (Shape.reshapeEquiv _ (ix2 r l))) = _
  rw [reshapeEquiv_ix2_1ab]
  congr 1; funext a; apply Fin.ext; fin_cases a <;> simp
theorem read_hi (s : Fin 12) (f : S12x512x8192.Idx → Elt F .fp8e4m3) (r : Fin 256) (l : Fin 8192) :
    (hiSlot s).view.read (Elt F) f (ix2 r l) = f (ix3 s ⟨256 + r.val, by omega⟩ l) := by
  show f ((Rect.unit (s := S12x512x8192) (hiOff s) S1x256x8192.size (hiOff_inb s)).emb (Shape.reshapeEquiv _ (ix2 r l))) = _
  rw [reshapeEquiv_ix2_1ab]
  congr 1; funext a; apply Fin.ext; fin_cases a <;> simp
theorem read_gB (W : S14336x8192.Idx → Elt F .fp8e4m3) (n : ℕ) (hn : n ≤ 14080) (r : Fin 256) (l : Fin 8192) :
    (gB n).view.read (Elt F) W (ix2 r l) = wAt W (n + r.val) l.val := by
  show W ((Rect.unit (s := S14336x8192) (gOff n) S256x8192.size (gOff_inb n)).emb (ix2 r l)) = W _
  congr 1; funext a; apply Fin.ext; fin_cases a
  · show min n 14080 + 1 * r.val = (n + r.val) % 14336
    rw [Nat.min_eq_left hn, Nat.mod_eq_of_lt (by omega)]; omega
  · show 0 + 1 * l.val = l.val % 8192
    rw [Nat.mod_eq_of_lt l.isLt]; omega

/-- A landed gate half holds the chunk's contents; -/
theorem landLo_eq (s : Fin 12) (k : ℕ) (hk : k < 28) :
    loP (F := F) c s (landLo c W s (k * 256)) = loP c s (ringG W k) := by
  refine pts_of_read c (loSlot s) _ _ ((View.read_writes_whole _ _ _).trans (funext fun x => ?_))
  obtain ⟨r, l, rfl⟩ : ∃ (r : Fin 256) (l : Fin 8192), x = ix2 r l := ⟨x 0, x 1, by funext a; fin_cases a <;> rfl⟩
  rw [read_lo]
  show (gB (k * 256)).view.read (Elt F) W (ix2 r l) = _
  rw [read_gB W _ (by omega)]
  show _ = chunkG W k r.val l.val
  rw [chunkG, if_pos r.isLt]
/-- and a landed up half. -/
theorem landHi_eq (s : Fin 12) (k : ℕ) (hk : k < 28) :
    hiP (F := F) c s (landHi c W s (7168 + k * 256)) = hiP c s (ringG W k) := by
  refine pts_of_read c (hiSlot s) _ _ ((View.read_writes_whole _ _ _).trans (funext fun x => ?_))
  obtain ⟨r, l, rfl⟩ : ∃ (r : Fin 256) (l : Fin 8192), x = ix2 r l := ⟨x 0, x 1, by funext a; fin_cases a <;> rfl⟩
  rw [read_hi]
  show (gB (7168 + k * 256)).view.read (Elt F) W (ix2 r l) = _
  rw [read_gB W _ (by omega)]
  show _ = chunkG W k (256 + r.val) l.val
  rw [chunkG, if_neg (by omega)]
  congr 1; omega

/-- Both copies of a chunk landed are the slot at the chunk's contents. -/
theorem slot_landed (s : Fin 12) (k : ℕ) (hk : k < 28) :
    iprop(loP c s (landLo c W s (k * 256)) ∗ hiP c s (landHi c W s (7168 + k * 256))) ⊢ slP (F := F) c s (ringG W k) := by
  rw [landLo_eq c W s k hk, landHi_eq c W s k hk]
  exact (slot_halves c s (ringG W k)).symm ▸ .rfl
theorem slot_halves_ent (s : Fin 12) (f) : slP (F := F) c s f ⊢ iprop(loP c s f ∗ hiP c s f) := (slot_halves c s f) ▸ .rfl
theorem slot_down_ent (s : Fin 12) (f) : slP (F := F) c s f ⊢ iprop(dwP c s f ∗ restP c s f) := (slot_down c s f) ▸ .rfl

end Cut

end Cert.Proof.KernelIdeal

end
-- ==== Proof.Ideal.Trip1.lean ====
/-
  One trip of the gate/up loop.
-/
module

public import proofs.«01_k».proof.Proof.Ideal.Pieces

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ (UU nD τ) ℕ

/-! ## The body's buffers -/

abbrev xM : Memref sig .tc .hbm S24x8192 .bf16 := Memref.whole main_v0
abbrev suM : Memref sig .tc .hbm S1x14336 .f32 := Memref.whole main_v1
abbrev sdM : Memref sig .tc .hbm S1x8192 .f32 := Memref.whole main_v2
abbrev xcM : Memref sig .tc .hbm S24x8192 .fp8e4m3 := Memref.whole main_v3_1
abbrev hcM : Memref sig .tc .hbm S24x7168 .fp8e4m3 := Memref.whole main_v3_3
abbrev xvM : Memref sig .tc .vmem S24x8192 .bf16 := Memref.whole cc0_scratch1
abbrev suvM : Memref sig .tc .vmem S1x14336 .f32 := Memref.whole cc0_scratch2
abbrev sdvM : Memref sig .tc .vmem S1x8192 .f32 := Memref.whole cc0_scratch3
abbrev xqM : Memref sig .tc .vmem S32x8192 .fp8e4m3 := Memref.whole cc0_scratch4
abbrev hqM : Memref sig .tc .vmem S32x7168 .fp8e4m3 := Memref.whole cc0_scratch5
abbrev xcvM : Memref sig .tc .vmem S24x8192 .fp8e4m3 := Memref.whole cc0_scratch6
abbrev hcvM : Memref sig .tc .vmem S24x7168 .fp8e4m3 := Memref.whole cc0_scratch7
abbrev hM : Memref sig .tc .vmem S28x24x256 .f32 := Memref.whole cc0_scratch8
abbrev hxM : Memref sig .tc .vmem S24x256 .f32 := Memref.whole cc0_scratch9

/-- A whole buffer held at contents `f`. -/
abbrev at_ (c : Dev nD) {cs : Space} {sh : Shape} {e : EltTy} (m : Memref sig .tc cs sh e) (f : Buf (Elt F) (m.view.loc (c : Thread nD τ))) : sProp 𝕄 :=
  m.view.loc (c : Thread nD τ) ↦[m.view.set]{fullShare} f

section Trip1
variable (c : Dev nD) (W : Buf (Elt F) (wguM.view.loc (c : Thread nD τ))) (D : Buf (Elt F) (wdM.view.loc (c : Thread nD τ)))
  (arg7 : Memref sig .tc .vmem S1x24 .f32) (harg7 : arg7.IsWhole)
  (arg9 : Memref sig .tc .vmem S1x24 .f32) (harg9 : arg9.IsWhole)
  (v269 : FVec F S24x1 .f32) (v552 : FVec F S24x512 .f32) (v553 : FVec F S24x512 .fp8e4m3)

abbrev trip1 (k : Fin k0_t1_loop.trips) : Prog (TpuEff nD τ sig (Elt F) Λ₀ .tc) Unit :=
  k0_t1_body (F := F) xM (Memref.isWhole_whole _) wguM (Memref.isWhole_whole _) suM (Memref.isWhole_whole _) wdM (Memref.isWhole_whole _)
    sdM (Memref.isWhole_whole _) outM (Memref.isWhole_whole _) xcM (Memref.isWhole_whole _) arg7 harg7 hcM (Memref.isWhole_whole _) arg9 harg9
    ringM (Memref.isWhole_whole _) xvM (Memref.isWhole_whole _) suvM (Memref.isWhole_whole _) sdvM (Memref.isWhole_whole _)
    xqM (Memref.isWhole_whole _) hqM (Memref.isWhole_whole _) xcvM (Memref.isWhole_whole _) hcvM (Memref.isWhole_whole _)
    hM (Memref.isWhole_whole _) hxM (Memref.isWhole_whole _) ovM (Memref.isWhole_whole _)
    cc0_scratch11 cc0_scratch12 cc0_scratch13 v269 v552 v553 k ()

theorem trips1_lt (k : Fin k0_t1_loop.trips) : k.val < 28 := lt_of_lt_of_eq k.isLt (by decide)

/-- A ring slot's load, as plain words. -/
def wch (W : S14336x8192.Idx → Elt F .fp8e4m3) (k : ℕ) : FVec F S1x512x8192 .fp8e4m3 := fun x => chunkG W k (x 1).val (x 2).val
/-- 256 gate/up scales from column `n` on. -/
def suAt (SU : S1x14336.Idx → Elt F .f32) (n : ℕ) : FVec F S1x256 .f32 := fun x => SU (ix2 0 (Fin.ofNat 14336 (n + (x 1).val)))

omit [FloatOps F] in
theorem whole_read (b : Ref sig .tc) (f : b.ty.Contents (Elt F)) (y : b.ty.shape.Idx) : (Memref.whole b).view.read (Elt F) f y = f y := rfl
omit [FloatOps F] in
theorem ring_read (k : Fin k0_t1_loop.trips) (n : ℕ) :
    ringM.view.readAt (Elt F) (Rect.unit (s := S12x512x8192) (k0_off6 k) S1x512x8192.size (k0_off6_inb k)).toLoadRect (ringG W n) = wch W n := by
  funext x
  show chunkG W n (k0_off6 k 1 + 1 * (x 1).val) (k0_off6 k 2 + 1 * (x 2).val) = _
  have e1 : k0_off6 k 1 = 0 := congrFun (off6_eq k) 1
  have e2 : k0_off6 k 2 = 0 := congrFun (off6_eq k) 2
  rw [e1, e2, Nat.zero_add, Nat.zero_add, Nat.one_mul, Nat.one_mul]; rfl

omit [FloatOps F] in
theorem su_read {off : Fin 2 → ℕ} {n : ℕ} (e : off = ![0, n]) (inb : ∀ a, off a + S1x256.size a ≤ S1x14336.size a) (SU : Buf (Elt F) (suvM.view.loc (c : Thread nD τ))) :
    suvM.view.readAt (Elt F) (Rect.unit (s := S1x14336) off S1x256.size inb).toLoadRect SU = suAt SU n := by
  subst e
  funext x
  show SU ((Rect.unit (s := S1x14336) ![0, n] S1x256.size inb).emb x) = SU _
  have h1 : n + 256 ≤ 14336 := inb 1
  have h2 : (x 1).val < 256 := (x 1).isLt
  congr 1; funext a; apply Fin.ext; fin_cases a
  · show 0 + 1 * (x 0).val = 0
    have : (x 0).val < 1 := (x 0).isLt
    omega
  · show n + 1 * (x 1).val = (n + (x 1).val) % 14336
    rw [Nat.mod_eq_of_lt (by omega)]; omega

omit [FloatOps F] in
theorem xq_read (XQ : Buf (Elt F) (xqM.view.loc (c : Thread nD τ))) :
    xqM.view.readAt (Elt F) (Rect.unit (s := S32x8192) ![0, 0] S32x8192.size inb_S32x8192_S32x8192_0_0).toLoadRect XQ = XQ :=
  View.readAt_full _ _ _
omit [FloatOps F] in
theorem hx_read (HX : Buf (Elt F) (hxM.view.loc (c : Thread nD τ))) :
    hxM.view.readAt (Elt F) (Rect.unit (s := S24x256) ![0, 0] S24x256.size inb_S24x256_S24x256_0_0).toLoadRect HX = HX :=
  View.readAt_full _ _ _

/-! ## What a trip computes -/

variable (XQ : Buf (Elt F) (xqM.view.loc (c : Thread nD τ))) (SU : Buf (Elt F) (suvM.view.loc (c : Thread nD τ)))

/-- The gate and up products of chunk `k`. -/
abbrev gateV (k : ℕ) : FVec F S24x256 .f32 := k0_pay2 v269 XQ (wch W k) (suAt SU (k * 256))
abbrev upV (k : ℕ) : FVec F S24x256 .f32 := k0_pay3 v269 XQ (wch W k)
/-- The 24 × 256 block of the hidden layer that chunk `k` gives. -/
def hrow (k : ℕ) : FVec F S1x24x256 .f32 := k0_pay73 (gateV c W v269 XQ SU k) (upV c W v269 XQ k) (suAt SU (7168 + k * 256))
/-- The running block of maxima after chunk `k`. -/
def hmx (k : ℕ) (m : FVec F S24x256 .f32) : FVec F S24x256 .f32 := k0_pay74 (gateV c W v269 XQ SU k) (upV c W v269 XQ k) (suAt SU (7168 + k * 256)) m
/-- `H` with block `k` put at `p`. -/
def hput (H : Buf (Elt F) (hM.view.loc (c : Thread nD τ))) (k : ℕ) (p : FVec F S1x24x256 .f32) : Buf (Elt F) (hM.view.loc (c : Thread nD τ)) :=
  fun y : S28x24x256.Idx => if (y 0).val = k then p (ix3 0 (y 1) (y 2)) else H y

omit [FloatOps F] in
theorem hput_eq (H : Buf (Elt F) (hM.view.loc (c : Thread nD τ))) (k : Fin k0_t1_loop.trips) (p : FVec F S1x24x256 .f32) :
    hM.view.writes (Elt F) H [⟨Rect.unit (s := S28x24x256) (k0_off9 k) S1x24x256.size (k0_off9_inb k), p⟩] = hput c H k.val p := by
  refine funext fun y : S28x24x256.Idx => ?_
  refine (whole_read cc0_scratch8 (hM.view.writes (Elt F) H [⟨Rect.unit (s := S28x24x256) (k0_off9 k) S1x24x256.size (k0_off9_inb k), p⟩]) y).symm.trans ?_
  unfold hput
  by_cases h : (y 0).val = k.val
  · rw [if_pos h]
    refine View.read_writes_cons_unit_of_mem hM.view H _ p [] y (ix3 0 (y 1) (y 2)) (off9_eq k) fun a => ?_
    fin_cases a
    · show (y 0).val = k.val + 0; omega
    · show (y 1).val = 0 + (y 1).val; omega
    · show (y 2).val = 0 + (y 2).val; omega
  · rw [if_neg h]
    refine (View.read_writes_cons_unit_of_not_mem hM.view H _ p [] y (off9_eq k) 0 ?_).trans (whole_read cc0_scratch8 H y)
    show (y 0).val < k.val ∨ k.val + 1 ≤ (y 0).val
    omega
omit [FloatOps F] in
theorem hx_put (HX : Buf (Elt F) (hxM.view.loc (c : Thread nD τ))) (p : FVec F S24x256 .f32) :
    hxM.view.writes (Elt F) HX [⟨Rect.unit (s := S24x256) ![0, 0] S24x256.size inb_S24x256_S24x256_0_0, p⟩] = p := by
  refine funext fun y : S24x256.Idx => (whole_read cc0_scratch9 (hxM.view.writes (Elt F) HX [⟨Rect.unit (s := S24x256) ![0, 0] S24x256.size inb_S24x256_S24x256_0_0, p⟩]) y).symm.trans ?_
  refine View.read_writes_cons_unit_of_mem hxM.view HX _ p [] y y rfl fun a => ?_
  fin_cases a
  · show (y 0).val = 0 + (y 0).val; omega
  · show (y 1).val = 0 + (y 1).val; omega

theorem hput_ent (H : Buf (Elt F) (hM.view.loc (c : Thread nD τ))) (k : Fin k0_t1_loop.trips) (p p' : FVec F S1x24x256 .f32) (e : p = p') :
    at_ c hM (hM.view.writes (Elt F) H [⟨Rect.unit (s := S28x24x256) (k0_off9 k) S1x24x256.size (k0_off9_inb k), p⟩]) ⊢ (at_ c hM (hput c H k.val p') : sProp 𝕄) := by
  subst e; rw [hput_eq]
theorem hx_ent (HX : Buf (Elt F) (hxM.view.loc (c : Thread nD τ))) (p p' : FVec F S24x256 .f32) (e : p = p') :
    at_ c hxM (hxM.view.writes (Elt F) HX [⟨Rect.unit (s := S24x256) ![0, 0] S24x256.size inb_S24x256_S24x256_0_0, p⟩]) ⊢ (at_ c hxM p' : sProp 𝕄) := by
  subst e; rw [hx_put]

/-- Before trip `k`, beside the ring: the quantised input, the scales, the hidden blocks and maxima so far. -/
abbrev side1 (H : Buf (Elt F) (hM.view.loc (c : Thread nD τ))) (HX : Buf (Elt F) (hxM.view.loc (c : Thread nD τ))) : sProp 𝕄 :=
  iprop(at_ c xqM XQ ∗ at_ c suvM SU ∗ at_ c hM H ∗ at_ c hxM HX ∗ ∃ Wt, owes (c : Thread nD τ) 0 Wt)

/-- A trip that issues gate/up chunk `k + 12`. -/
theorem trip1_lo (k : Fin k0_t1_loop.trips) (hk : k.val < 16)
    (H : Buf (Elt F) (hM.view.loc (c : Thread nD τ))) (HX : Buf (Elt F) (hxM.view.loc (c : Thread nD τ))) :
    iprop(batG c W (Ring.sl 12 k.val) k.val 2 0 ∗ iprop(gP c W ((k.val + 12) * 256) ∗ gP c W (7168 + (k.val + 12) * 256)) ∗ side1 c XQ SU H HX)
      ⊢ wp frame (wpE (defs₀ (F := F)) 𝒱₀ (c : Thread nD τ) none) Set.univ (trip1 arg7 harg7 arg9 harg9 v269 v552 v553 k)
        (fun _ => iprop(batG c W (Ring.sl 12 k.val) (k.val + 12) 2 0 ∗ gP c W (k.val * 256) ∗ gP c W (7168 + k.val * 256)
          ∗ side1 c XQ SU (hput c H k.val (hrow c W v269 XQ SU k.val)) (hmx c W v269 XQ SU k.val HX))) := by
  have h28 := trips1_lt k
  have e1 := xq_read c XQ
  have e2 := ring_read c W k k.val
  have e3 := su_read c (off7_eq k) (k0_off7_inb k) SU
  have e4 := su_read c (off8_eq k) (k0_off8_inb k) SU
  have e5 := hx_read c HX
  iintro ⟨HB, ⟨HG0, HG1⟩, HXQ, HSU, HH, HHX, ⟨%Wt, HW⟩⟩
  dsimp only [trip1]
  sl_unfold [k0_t1_body]
  sl_exec
  ihave HS := (slot_landed c W (Ring.sl 12 k.val) k.val h28) $$ [HB_dst0 HB_dst1]
  · isplitl [HB_dst0]; · iexact HB_dst0
    iexact HB_dst1
  imod (Transfers.batch_alloc' (Lvl := ℕ) countersEmb (c : Thread nD τ) () 65536 (delG c W (Ring.sl 12 k.val) (k.val + 12)) (sm := SemLoc.dma (csm (Ring.sl 12 k.val)).sem) (E := Set.univ)) $$ HB with HB
  sl_exec
  have h1 : k0_cond1 k = 1#1 := (cond1_iff k).mpr hk
  have h2 : ¬ k0_cond2 k = 1#1 := fun h => by have := (cond2_iff k).mp h; omega
  ihave HS := (slot_halves_ent c (Ring.sl 12 k.val) (ringG W k.val)) $$ HS
  icases HS with ⟨HS0, HS1⟩
  sl_exec
  sl_step
  have er : trip1_lo.sl.r c W v269 XQ SU k = gateV c W v269 XQ SU k.val := by unfold trip1_lo.sl.r; rw [e1]
  have er1 : trip1_lo.sl.r_1 c W v269 XQ k = upV c W v269 XQ k.val := by unfold trip1_lo.sl.r_1; rw [e1]
  ihave HH := (hput_ent c H k (k0_pay73 (trip1_lo.sl.r c W v269 XQ SU k) (trip1_lo.sl.r_1 c W v269 XQ k) (suAt SU (7168 + k.val * 256)))
    (hrow c W v269 XQ SU k.val) (by rw [er, er1]; rfl)) $$ HH
  ihave HHX := (hx_ent c HX (k0_pay74 (trip1_lo.sl.r c W v269 XQ SU k) (trip1_lo.sl.r_1 c W v269 XQ k) (suAt SU (7168 + k.val * 256))
      (hxM.view.readAt (Elt F) (Rect.unit (s := S24x256) ![0, 0] S24x256.size inb_S24x256_S24x256_0_0).toLoadRect HX))
    (hmx c W v269 XQ SU k.val HX) (by rw [er, er1, e5]; rfl)) $$ HHX
  isplitl [HB]; · iexact HB
  isplitl [HB_src0]; · iexact HB_src0
  isplitl [HB_src1]; · iexact HB_src1
  isplitl [HXQ]; · iexact HXQ
  isplitl [HSU]; · iexact HSU
  isplitl [HH]; · iexact HH
  isplitl [HHX]; · iexact HHX
  iexists _; iexact HW

/-- A trip that issues down chunk `k - 16`. -/
theorem trip1_hi (k : Fin k0_t1_loop.trips) (hk : 16 ≤ k.val)
    (H : Buf (Elt F) (hM.view.loc (c : Thread nD τ))) (HX : Buf (Elt F) (hxM.view.loc (c : Thread nD τ))) :
    iprop(batG c W (Ring.sl 12 k.val) k.val 2 0 ∗ dP c D (Ring.bk 16 (k.val - 16)) ∗ side1 c XQ SU H HX)
      ⊢ wp frame (wpE (defs₀ (F := F)) 𝒱₀ (c : Thread nD τ) none) Set.univ (trip1 arg7 harg7 arg9 harg9 v269 v552 v553 k)
        (fun _ => iprop(iprop((∃ f, flD c D (Ring.sl 12 k.val) (Ring.bk 16 (k.val - 16)) f) ∗ ∃ f, restP c (Ring.sl 12 k.val) f) ∗ gP c W (k.val * 256) ∗ gP c W (7168 + k.val * 256)
          ∗ side1 c XQ SU (hput c H k.val (hrow c W v269 XQ SU k.val)) (hmx c W v269 XQ SU k.val HX))) := by
  have h28 := trips1_lt k
  have e1 := xq_read c XQ
  have e2 := ring_read c W k k.val
  have e3 := su_read c (off7_eq k) (k0_off7_inb k) SU
  have e4 := su_read c (off8_eq k) (k0_off8_inb k) SU
  have e5 := hx_read c HX
  iintro ⟨HB, HD, HXQ, HSU, HH, HHX, ⟨%Wt, HW⟩⟩
  dsimp only [trip1]
  sl_unfold [k0_t1_body]
  sl_exec
  ihave HS := (slot_landed c W (Ring.sl 12 k.val) k.val h28) $$ [HB_dst0 HB_dst1]
  · isplitl [HB_dst0]; · iexact HB_dst0
    iexact HB_dst1
  sl_exec
  have h1 : ¬ k0_cond1 k = 1#1 := fun h => by have := (cond1_iff k).mp h; omega
  have h2 : k0_cond2 k = 1#1 := (cond2_iff k).mpr hk
  ihave HS := (slot_down_ent c (Ring.sl 12 k.val) (ringG W k.val)) $$ HS
  icases HS with ⟨HS0, HS1⟩
  sl_exec
  sl_step
  have er : trip1_hi.sl.r c W v269 XQ SU k = gateV c W v269 XQ SU k.val := by unfold trip1_hi.sl.r; rw [e1]
  have er1 : trip1_hi.sl.r_1 c W v269 XQ k = upV c W v269 XQ k.val := by unfold trip1_hi.sl.r_1; rw [e1]
  ihave HH := (hput_ent c H k (k0_pay73 (trip1_hi.sl.r c W v269 XQ SU k) (trip1_hi.sl.r_1 c W v269 XQ k) (suAt SU (7168 + k.val * 256)))
    (hrow c W v269 XQ SU k.val) (by rw [er, er1]; rfl)) $$ HH
  ihave HHX := (hx_ent c HX (k0_pay74 (trip1_hi.sl.r c W v269 XQ SU k) (trip1_hi.sl.r_1 c W v269 XQ k) (suAt SU (7168 + k.val * 256))
      (hxM.view.readAt (Elt F) (Rect.unit (s := S24x256) ![0, 0] S24x256.size inb_S24x256_S24x256_0_0).toLoadRect HX))
    (hmx c W v269 XQ SU k.val HX) (by rw [er, er1, e5]; rfl)) $$ HHX
  isplitl [HB HS1]
  · isplitl [HB]; · iexists (ringG W k.val); iexact HB
    iexists _; iexact HS1
  isplitl [HB_src0]; · iexact HB_src0
  isplitl [HB_src1]; · iexact HB_src1
  isplitl [HXQ]; · iexact HXQ
  isplitl [HSU]; · iexact HSU
  isplitl [HH]; · iexact HH
  isplitl [HHX]; · iexact HHX
  iexists _; iexact HW

end Trip1

end Cert.Proof.KernelIdeal

end
-- ==== Proof.Ideal.Loop1.lean ====
/-
  The gate/up loop: the ring of twelve slots trip by trip, and the loop's invariant.
-/
module

public import proofs.«01_k».proof.Proof.Ideal.Trip1
public import Idealize.ShloMosaic.Lib.Ring.Window

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ (UU nD τ) ℕ

section Sets
universe u v
variable {M : Type u} [URA M] {I : Type v} [DecidableEq I]
theorem bigSep_insert' {i : I} {s : Finset I} (h : i ∉ s) {Φ : I → sProp M} : bigSep (insert i s) Φ = iprop(Φ i ∗ bigSep s Φ) := bigSep_insert h
theorem bigSep_erase' {s : Finset I} {i : I} (h : i ∈ s) {Φ : I → sProp M} : bigSep s Φ = iprop(Φ i ∗ bigSep (s.erase i) Φ) := by
  conv_lhs => rw [← Finset.insert_erase h]
  exact bigSep_insert (Finset.notMem_erase i s)
end Sets

section Family
variable (c : Dev nD) (W : Buf (Elt F) (wguM.view.loc (c : Thread nD τ))) (D : Buf (Elt F) (wdM.view.loc (c : Thread nD τ)))

/-- Slot `s` when the next chunk to come out of it is number `m`: a gate/up chunk or a down chunk in flight, or idle
    once the chunks are over. -/
def infl (s : Fin 12) (m : ℕ) : sProp 𝕄 :=
  if m < 28 then batG c W s m 2 0
  else if m < 44 then iprop((∃ f, flD c D s (Ring.bk 16 (m - 28)) f) ∗ ∃ f, restP c s f)
  else iprop(cellP c s ∗ (∃ f, dwP c s f) ∗ ∃ f, restP c s f)

/-- The ring before trip `g`, counting the trips of both loops. -/
def ringAt (g : ℕ) : sProp 𝕄 := bigSep Finset.univ fun s : Fin 12 => infl c W D s (Ring.firstFrom g 12 s)
/-- The ring but for the slot trip `g` uses. -/
def ringBut (g : ℕ) : sProp 𝕄 := bigSep (Finset.univ.erase (Ring.sl 12 g)) fun s : Fin 12 => infl c W D s (Ring.firstFrom g 12 s)

theorem sl_val (g : ℕ) : (Ring.sl 12 g).val = g % 12 := rfl
theorem firstFrom_here (g : ℕ) : Ring.firstFrom g 12 (Ring.sl 12 g) = g := by
  unfold Ring.firstFrom; rw [sl_val]; omega
theorem firstFrom_next (g : ℕ) : Ring.firstFrom (g + 1) 12 (Ring.sl 12 g) = g + 12 := by
  unfold Ring.firstFrom; rw [sl_val]; omega
theorem firstFrom_other (g : ℕ) (s : Fin 12) (h : s ≠ Ring.sl 12 g) : Ring.firstFrom (g + 1) 12 s = Ring.firstFrom g 12 s := by
  have h' : s.val ≠ g % 12 := fun e => h (Fin.ext e)
  have := s.isLt
  unfold Ring.firstFrom; omega

theorem ring_out (g : ℕ) : ringAt (F := F) c W D g = iprop(infl c W D (Ring.sl 12 g) g ∗ ringBut c W D g) := by
  unfold ringAt ringBut
  rw [bigSep_erase' (Finset.mem_univ (Ring.sl 12 g)), firstFrom_here]
theorem ring_in (g : ℕ) : ringAt (F := F) c W D (g + 1) = iprop(infl c W D (Ring.sl 12 g) (g + 12) ∗ ringBut c W D g) := by
  unfold ringAt ringBut
  rw [bigSep_erase' (Finset.mem_univ (Ring.sl 12 g)), firstFrom_next]
  congr 1
  exact bigSep_congr fun s hs => by rw [firstFrom_other g s (Finset.ne_of_mem_erase hs)]

/-- Gate/up chunks at home before trip `g`: those used up and those not yet sent for; -/
def HG (g : ℕ) : Finset (Fin 28) := Finset.univ.filter fun b => b.val < g ∨ g + 12 ≤ b.val
/-- down blocks likewise. -/
def HD (g : ℕ) : Finset (Fin 16) := Finset.univ.filter fun b => b.val + 28 < g ∨ g + 12 ≤ b.val + 28
/-- A gate/up chunk's two row blocks at home. -/
abbrev gPP (b : Fin 28) : sProp 𝕄 := iprop(gP c W (b.val * 256) ∗ gP c W (7168 + b.val * 256))
def homesG (g : ℕ) : sProp 𝕄 := bigSep (HG g) (gPP c W)
def homesD (g : ℕ) : sProp 𝕄 := bigSep (HD g) (dP c D)

theorem homesG_in (g : ℕ) (h : 16 ≤ g) (hg : g < 28) : homesG (F := F) c W (g + 1) = iprop(gPP c W (Ring.bk 28 g) ∗ homesG c W g) := by
  unfold homesG
  have e : HG (g + 1) = insert (Ring.bk 28 g) (HG g) := by
    ext b; simp only [HG, Finset.mem_filter, Finset.mem_univ, true_and, Finset.mem_insert, Fin.ext_iff, Ring.bk_val hg]; omega
  rw [e, bigSep_insert' (by simp only [HG, Finset.mem_filter, Finset.mem_univ, true_and, Ring.bk_val hg]; omega)]
/-- The gate/up homes no trip from `g` on to the next touches. -/
def restG (g : ℕ) : sProp 𝕄 := bigSep ((HG g).erase (Ring.bk 28 (g + 12))) (gPP c W)
theorem homesG_out (g : ℕ) (hg : g < 16) : homesG (F := F) c W g = iprop(gPP c W (Ring.bk 28 (g + 12)) ∗ restG c W g) :=
  bigSep_erase' (by simp only [HG, Finset.mem_filter, Finset.mem_univ, true_and, Ring.bk_val (show g + 12 < 28 by omega)]; omega)
theorem homesG_swap (g : ℕ) (hg : g < 16) : homesG (F := F) c W (g + 1) = iprop(gPP c W (Ring.bk 28 g) ∗ restG c W g) := by
  unfold homesG restG
  have e : HG (g + 1) = insert (Ring.bk 28 g) ((HG g).erase (Ring.bk 28 (g + 12))) := by
    ext b; simp only [HG, Finset.mem_filter, Finset.mem_univ, true_and, Finset.mem_insert, Finset.mem_erase, ne_eq, Fin.ext_iff, Ring.bk_val (show g < 28 by omega), Ring.bk_val (show g + 12 < 28 by omega)]; omega
  rw [e, bigSep_insert' (by simp only [HG, Finset.mem_erase, ne_eq, Fin.ext_iff, Finset.mem_filter, Finset.mem_univ, true_and, Ring.bk_val (show g < 28 by omega), Ring.bk_val (show g + 12 < 28 by omega)]; omega)]

theorem homesD_keep (g : ℕ) (hg : g < 16) : homesD (F := F) c D (g + 1) = homesD c D g := by
  unfold homesD
  have e : HD (g + 1) = HD g := by
    ext b; have := b.isLt; simp only [HD, Finset.mem_filter, Finset.mem_univ, true_and]; omega
  rw [e]
theorem homesD_out (g : ℕ) (h : 16 ≤ g) (hg : g < 28) : homesD (F := F) c D g = iprop(dP c D (Ring.bk 16 (g - 16)) ∗ homesD c D (g + 1)) := by
  unfold homesD
  have e : HD g = insert (Ring.bk 16 (g - 16)) (HD (g + 1)) := by
    ext b; have := b.isLt; simp only [HD, Finset.mem_filter, Finset.mem_univ, true_and, Finset.mem_insert, Fin.ext_iff, Ring.bk_val (show g - 16 < 16 by omega)]; omega
  rw [e, bigSep_insert' (by simp only [HD, Finset.mem_filter, Finset.mem_univ, true_and, Ring.bk_val (show g - 16 < 16 by omega)]; omega)]
/-- The second loop, trip `j`, `g = j + 28`. -/
theorem homesD_in (j : ℕ) (h : 4 ≤ j) (hj : j < 16) : homesD (F := F) c D (j + 28 + 1) = iprop(dP c D (Ring.bk 16 j) ∗ homesD c D (j + 28)) := by
  unfold homesD
  have e : HD (j + 28 + 1) = insert (Ring.bk 16 j) (HD (j + 28)) := by
    ext b; have := b.isLt; simp only [HD, Finset.mem_filter, Finset.mem_univ, true_and, Finset.mem_insert, Fin.ext_iff, Ring.bk_val hj]; omega
  rw [e, bigSep_insert' (by simp only [HD, Finset.mem_filter, Finset.mem_univ, true_and, Ring.bk_val hj]; omega)]
def restD (j : ℕ) : sProp 𝕄 := bigSep ((HD (j + 28)).erase (Ring.bk 16 (j + 12))) (dP c D)
theorem homesD_out' (j : ℕ) (hj : j < 4) : homesD (F := F) c D (j + 28) = iprop(dP c D (Ring.bk 16 (j + 12)) ∗ restD c D j) :=
  bigSep_erase' (by simp only [HD, Finset.mem_filter, Finset.mem_univ, true_and, Ring.bk_val (show j + 12 < 16 by omega)]; omega)
theorem homesD_swap (j : ℕ) (hj : j < 4) : homesD (F := F) c D (j + 28 + 1) = iprop(dP c D (Ring.bk 16 j) ∗ restD c D j) := by
  unfold homesD restD
  have e : HD (j + 28 + 1) = insert (Ring.bk 16 j) ((HD (j + 28)).erase (Ring.bk 16 (j + 12))) := by
    ext b; have := b.isLt; simp only [HD, Finset.mem_filter, Finset.mem_univ, true_and, Finset.mem_insert, Finset.mem_erase, ne_eq, Fin.ext_iff, Ring.bk_val (show j < 16 by omega), Ring.bk_val (show j + 12 < 16 by omega)]; omega
  rw [e, bigSep_insert' (by simp only [HD, Finset.mem_erase, ne_eq, Fin.ext_iff, Finset.mem_filter, Finset.mem_univ, true_and, Ring.bk_val (show j < 16 by omega), Ring.bk_val (show j + 12 < 16 by omega)]; omega)]

end Family

section Loop1
variable (c : Dev nD) (W : Buf (Elt F) (wguM.view.loc (c : Thread nD τ))) (D : Buf (Elt F) (wdM.view.loc (c : Thread nD τ)))
  (arg7 : Memref sig .tc .vmem S1x24 .f32) (harg7 : arg7.IsWhole)
  (arg9 : Memref sig .tc .vmem S1x24 .f32) (harg9 : arg9.IsWhole)
  (v269 : FVec F S24x1 .f32) (v552 : FVec F S24x512 .f32) (v553 : FVec F S24x512 .fp8e4m3)
  (XQ : Buf (Elt F) (xqM.view.loc (c : Thread nD τ))) (SU : Buf (Elt F) (suvM.view.loc (c : Thread nD τ)))

/-- The hidden blocks after `k` trips, over `H`; -/
def hAt (H : Buf (Elt F) (hM.view.loc (c : Thread nD τ))) : ℕ → Buf (Elt F) (hM.view.loc (c : Thread nD τ))
  | 0 => H
  | k + 1 => hput c (hAt H k) k (hrow c W v269 XQ SU k)
/-- and the maxima, from `HX`. -/
def mAt (HX : Buf (Elt F) (hxM.view.loc (c : Thread nD τ))) : ℕ → Buf (Elt F) (hxM.view.loc (c : Thread nD τ))
  | 0 => HX
  | k + 1 => hmx c W v269 XQ SU k (mAt HX k)

def inv1 (H : Buf (Elt F) (hM.view.loc (c : Thread nD τ))) (HX : Buf (Elt F) (hxM.view.loc (c : Thread nD τ))) (k : ℕ) : sProp 𝕄 :=
  iprop(ringAt c W D k ∗ homesG c W k ∗ homesD c D k ∗ side1 c XQ SU (hAt c W v269 XQ SU H k) (mAt c W v269 XQ SU HX k))

theorem step1 (H : Buf (Elt F) (hM.view.loc (c : Thread nD τ))) (HX : Buf (Elt F) (hxM.view.loc (c : Thread nD τ))) (k : Fin k0_t1_loop.trips) :
    inv1 c W D v269 XQ SU H HX k.val
      ⊢ wp frame (wpE (defs₀ (F := F)) 𝒱₀ (c : Thread nD τ) none) Set.univ (trip1 arg7 harg7 arg9 harg9 v269 v552 v553 k)
        (fun _ => inv1 c W D v269 XQ SU H HX (k.val + 1)) := by
  have h28 := trips1_lt k
  have eg : Ring.bk 28 k.val = ⟨k.val, h28⟩ := Fin.ext (Ring.bk_val h28)
  unfold inv1
  rw [ring_out, ring_in]
  rw [show infl (F := F) c W D (Ring.sl 12 k.val) k.val = batG c W (Ring.sl 12 k.val) k.val 2 0 from if_pos h28]
  by_cases hk : k.val < 16
  · have eg' : Ring.bk 28 (k.val + 12) = ⟨k.val + 12, by omega⟩ := Fin.ext (Ring.bk_val (by omega))
    rw [homesG_out c W k.val hk, homesG_swap c W k.val hk, homesD_keep c D k.val hk, eg, eg']
    rw [show infl (F := F) c W D (Ring.sl 12 k.val) (k.val + 12) = batG c W (Ring.sl 12 k.val) (k.val + 12) 2 0 from if_pos (by omega)]
    iintro ⟨⟨HB, HR⟩, ⟨HG, HGR⟩, HD, HS⟩
    iapply (wp_wand_r Idealize.ShloMosaic.frame (wpE (defs₀ (F := F)) 𝒱₀ (c : Thread nD τ) none) Set.univ)
    isplitl [HB HG HS]
    · iapply (trip1_lo c W arg7 harg7 arg9 harg9 v269 v552 v553 XQ SU k hk _ _)
      isplitl [HB]; · iexact HB
      isplitl [HG]; · iexact HG
      iexact HS
    · iintro %_ ⟨HB, HG0, HG1, HS⟩
      isplitl [HB HR]
      · isplitl [HB]; · iexact HB
        iexact HR
      isplitl [HG0 HG1 HGR]
      · isplitl [HG0 HG1]
        · isplitl [HG0]; · iexact HG0
          iexact HG1
        iexact HGR
      isplitl [HD]; · iexact HD
      iexact HS
  · rw [homesG_in c W k.val (by omega) h28, homesD_out c D k.val (by omega) h28, eg]
    rw [show infl (F := F) c W D (Ring.sl 12 k.val) (k.val + 12) = iprop((∃ f, flD c D (Ring.sl 12 k.val) (Ring.bk 16 (k.val - 16)) f) ∗ ∃ f, restP c (Ring.sl 12 k.val) f) from by
      unfold infl
      rw [if_neg (by omega), if_pos (by omega), show k.val + 12 - 28 = k.val - 16 by omega]]
    iintro ⟨⟨HB, HR⟩, HGR, ⟨HD, HDR⟩, HS⟩
    iapply (wp_wand_r Idealize.ShloMosaic.frame (wpE (defs₀ (F := F)) 𝒱₀ (c : Thread nD τ) none) Set.univ)
    isplitl [HB HD HS]
    · iapply (trip1_hi c W D arg7 harg7 arg9 harg9 v269 v552 v553 XQ SU k (by omega) _ _)
      isplitl [HB]; · iexact HB
      isplitl [HD]; · iexact HD
      iexact HS
    · iintro %_ ⟨HB, HG0, HG1, HS⟩
      isplitl [HB HR]
      · isplitl [HB]; · iexact HB
        iexact HR
      isplitl [HG0 HG1 HGR]
      · isplitl [HG0 HG1]
        · isplitl [HG0]; · iexact HG0
          iexact HG1
        iexact HGR
      isplitl [HDR]; · iexact HDR
      iexact HS

end Loop1

end Cert.Proof.KernelIdeal

end
-- ==== Proof.Ideal.Trip2.lean ====
/-
  One trip of the down loop: a down chunk waited for, its output columns computed and sent out, and in the first
  trips the down chunk twelve ahead sent for.
-/
module

public import proofs.«01_k».proof.Proof.Ideal.Trip1
public import Idealize.ShloMosaic.Lib.Ring

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ (UU nD τ) ℕ

/-! ## The output cells -/

theorem oCell_inb : ∀ (i : Fin 3) a, (![i.val] : Fin 1 → ℕ) a + S1.size a ≤ S3.size a := by decide +kernel
/-- Cell `i` of the semaphores the results are copied out on. -/
def osm (i : Fin 3) : DmaSems sig S_ := (cc0_scratch13.slice (Rect.unit (s := S3) ![i.val] S1.size (oCell_inb i))).squeeze S_ squeezes_S1_S_
theorem ofNat3_of_inb {n : ℕ} (h : n < 3) : (Fin.ofNat 3 n).val = n := by simp [Fin.ofNat, Nat.mod_eq_of_lt h]
@[sl_canon] theorem cnO (n : ℕ) (hh) : (cc0_scratch13.slice (Rect.unit (s := S3) ![n] S1.size hh)).squeeze S_ squeezes_S1_S_ = osm (Fin.ofNat 3 n) :=
  congrArg (fun A : DmaSems sig S1 => A.squeeze S_ squeezes_S1_S_) (SemArray.slice_unit_congr _ (by have h : n + 1 ≤ 3 := hh 0; rw [ofNat3_of_inb (by omega)]) _ _)

/-- The down window of ring slot `s` as the body loads it. -/
def dlM (s : Fin 12) : Memref sig .tc .vmem S1x512x7168 .fp8e4m3 :=
  ringM.slice (Rect.unit (s := S12x512x8192) (loOff s) S1x512x7168.size (dwOff_inb s)) (fun _ => rfl)

/-- Down block `b`, as plain words: row `r`, lane `l`. -/
def ringD (D : S8192x7168.Idx → Elt F .fp8e4m3) (b : ℕ) : S12x512x8192.Idx → Elt F .fp8e4m3 := fun y => dAt D (b * 512 + (y 1).val) (y 2).val
def dch (D : S8192x7168.Idx → Elt F .fp8e4m3) (b : ℕ) : FVec F S1x512x7168 .fp8e4m3 := fun x => dAt D (b * 512 + (x 1).val) (x 2).val
/-- 512 down scales from column `n` on. -/
def sdAt (SD : S1x8192.Idx → Elt F .f32) (n : ℕ) : FVec F S1x512 .f32 := fun x => SD (ix2 0 (Fin.ofNat 8192 (n + (x 1).val)))

section Trip2
variable (c : Dev nD) (W : Buf (Elt F) (wguM.view.loc (c : Thread nD τ))) (D : Buf (Elt F) (wdM.view.loc (c : Thread nD τ)))
  (arg7 : Memref sig .tc .vmem S1x24 .f32) (harg7 : arg7.IsWhole)
  (arg9 : Memref sig .tc .vmem S1x24 .f32) (harg9 : arg9.IsWhole)
  (v651 : FVec F S24x1 .f32) (v656 : FVec F S24x1 .f32) (v1139 : FVec F S32x256 .fp8e4m3)
  (HQ : Buf (Elt F) (hqM.view.loc (c : Thread nD τ))) (SD : Buf (Elt F) (sdvM.view.loc (c : Thread nD τ)))

abbrev trip2 (j : Fin k0_t2_loop.trips) : Prog (TpuEff nD τ sig (Elt F) Λ₀ .tc) Unit :=
  k0_t2_body (F := F) xM (Memref.isWhole_whole _) wguM (Memref.isWhole_whole _) suM (Memref.isWhole_whole _) wdM (Memref.isWhole_whole _)
    sdM (Memref.isWhole_whole _) outM (Memref.isWhole_whole _) xcM (Memref.isWhole_whole _) arg7 harg7 hcM (Memref.isWhole_whole _) arg9 harg9
    ringM (Memref.isWhole_whole _) xvM (Memref.isWhole_whole _) suvM (Memref.isWhole_whole _) sdvM (Memref.isWhole_whole _)
    xqM (Memref.isWhole_whole _) hqM (Memref.isWhole_whole _) xcvM (Memref.isWhole_whole _) hcvM (Memref.isWhole_whole _)
    hM (Memref.isWhole_whole _) hxM (Memref.isWhole_whole _) ovM (Memref.isWhole_whole _)
    cc0_scratch11 cc0_scratch12 cc0_scratch13 v651 v656 v1139 j ()

theorem trips2_lt (j : Fin k0_t2_loop.trips) : j.val < 16 := lt_of_lt_of_eq j.isLt (by decide)

abbrev dlP (s : Fin 12) (f : Buf (Elt F) ((dlM s).view.loc (c : Thread nD τ))) : sProp 𝕄 := (dlM s).view.loc (c : Thread nD τ) ↦[(dlM s).view.set]{fullShare} f
abbrev ovP (b : Fin 16) (f : Buf (Elt F) ((ovB b).view.loc (c : Thread nD τ))) : sProp 𝕄 := (ovB b).view.loc (c : Thread nD τ) ↦[(ovB b).view.set]{fullShare} f
abbrev oP (b : Fin 16) (f : Buf (Elt F) ((oB b).view.loc (c : Thread nD τ))) : sProp 𝕄 := (oB b).view.loc (c : Thread nD τ) ↦[(oB b).view.set]{fullShare} f

theorem dl_set (s : Fin 12) : dwSet s = (dlM s).view.set := View.set_reshape _ _
theorem dw_eq_dl (s : Fin 12) (f) : dwP (F := F) c s f = dlP c s f :=
  congrArg (fun S => ((dlM s).view.loc (c : Thread nD τ) ↦[S]{fullShare} f : sProp 𝕄)) (dl_set s)
omit [FloatOps F] in
theorem read_dw (s : Fin 12) (f : S12x512x8192.Idx → Elt F .fp8e4m3) (r : Fin 512) (l : Fin 7168) :
    (dSlot s).view.read (Elt F) f (ix2 r l) = f (ix3 s r ⟨l.val, by omega⟩) := by
  show f ((Rect.unit (s := S12x512x8192) (loOff s) S1x512x7168.size (dwOff_inb s)).emb (Shape.reshapeEquiv _ (ix2 r l))) = _
  rw [reshapeEquiv_ix2_1ab]
  congr 1; funext a; apply Fin.ext; fin_cases a <;> simp
omit [FloatOps F] in
theorem read_dB (D : S8192x7168.Idx → Elt F .fp8e4m3) (b : Fin 16) (r : Fin 512) (l : Fin 7168) :
    (dB b).view.read (Elt F) D (ix2 r l) = dAt D (b.val * 512 + r.val) l.val := by
  show D ((Rect.unit (s := S8192x7168) (dOff b) S512x7168.size (dOff_inb b)).emb (ix2 r l)) = D _
  congr 1; funext a; apply Fin.ext; fin_cases a
  · show b.val * 512 + 1 * r.val = (b.val * 512 + r.val) % 8192
    rw [Nat.mod_eq_of_lt (by omega)]; omega
  · show 0 + 1 * l.val = l.val % 7168
    rw [Nat.mod_eq_of_lt l.isLt]; omega
theorem landD_eq (s : Fin 12) (b : Fin 16) (f) : dwP (F := F) c s (landD c D s b f) = dwP c s (ringD D b.val) := by
  refine pts_of_read c (dSlot s) _ _ ((View.read_writes_whole _ _ _).trans (funext fun x => ?_))
  obtain ⟨r, l, rfl⟩ : ∃ (r : Fin 512) (l : Fin 7168), x = ix2 r l := ⟨x 0, x 1, by funext a; fin_cases a <;> rfl⟩
  rw [read_dw]
  show (dB b).view.read (Elt F) D (ix2 r l) = _
  rw [read_dB]
  rfl
theorem landD_ent (s : Fin 12) (j : ℕ) (hj : j < 16) (f) : dwP (F := F) c s (landD c D s (Ring.bk 16 j) f) ⊢ dlP c s (ringD D j) := by
  have e : dwP (F := F) c s (landD c D s (Ring.bk 16 j) f) = dlP c s (ringD D (Ring.bk 16 j).val) := (landD_eq c D s _ f).trans (dw_eq_dl c s _)
  rw [Ring.bk_val hj] at e
  exact Entails.of_eq e
theorem dl_dw_ent (s : Fin 12) (f) : dlP (F := F) c s f ⊢ dwP c s f := Entails.of_eq (dw_eq_dl c s f).symm

omit [FloatOps F] in
theorem dring_read (j : Fin k0_t2_loop.trips) (n : ℕ) :
    ringM.view.readAt (Elt F) (Rect.unit (s := S12x512x8192) (k0_off21 j) S1x512x7168.size (k0_off21_inb j)).toLoadRect (ringD D n) = dch D n := by
  funext x
  show dAt D (n * 512 + (k0_off21 j 1 + 1 * (x 1).val)) (k0_off21 j 2 + 1 * (x 2).val) = _
  have e1 : k0_off21 j 1 = 0 := congrFun (off21_eq j) 1
  have e2 : k0_off21 j 2 = 0 := congrFun (off21_eq j) 2
  rw [e1, e2, Nat.zero_add, Nat.zero_add, Nat.one_mul, Nat.one_mul]; rfl
omit [FloatOps F] in
theorem sd_read {off : Fin 2 → ℕ} {n : ℕ} (e : off = ![0, n]) (inb : ∀ a, off a + S1x512.size a ≤ S1x8192.size a) (SD : Buf (Elt F) (sdvM.view.loc (c : Thread nD τ))) :
    sdvM.view.readAt (Elt F) (Rect.unit (s := S1x8192) off S1x512.size inb).toLoadRect SD = sdAt SD n := by
  subst e
  funext x
  show SD ((Rect.unit (s := S1x8192) ![0, n] S1x512.size inb).emb x) = SD _
  have h1 : n + 512 ≤ 8192 := inb 1
  have h2 : (x 1).val < 512 := (x 1).isLt
  congr 1; funext a; apply Fin.ext; fin_cases a
  · show 0 + 1 * (x 0).val = 0
    have : (x 0).val < 1 := (x 0).isLt
    omega
  · show n + 1 * (x 1).val = (n + (x 1).val) % 8192
    rw [Nat.mod_eq_of_lt (by omega)]; omega
omit [FloatOps F] in
theorem hq_read (HQ : Buf (Elt F) (hqM.view.loc (c : Thread nD τ))) :
    hqM.view.readAt (Elt F) (Rect.unit (s := S32x7168) ![0, 0] S32x7168.size inb_S32x7168_S32x7168_0_0).toLoadRect HQ = HQ :=
  View.readAt_full _ _ _
theorem off22_eq' (j : Fin k0_t2_loop.trips) : k0_off22 j = ![0, j.val * 512] := by
  rw [off22_eq, oOff, Ring.bk_val (trips2_lt j)]

/-- Output columns `512 j …`: what down chunk `j` gives. -/
def orow (j : ℕ) : FVec F S24x512 .bf16 := k0_pay4 v651 HQ (dch D j) (sdAt SD (j * 512))
/-- The output. -/
def OVf : S24x8192.Idx → Elt F .bf16 := fun y => orow c D v651 HQ SD ((y 1).val / 512) (ix2 (y 0) (Fin.ofNat 512 (y 1).val))

theorem read_ovB_OVf (j : ℕ) (hj : j < 16) : (ovB (Ring.bk 16 j)).view.read (Elt F) (OVf c D v651 HQ SD) = orow c D v651 HQ SD j := by
  funext x
  obtain ⟨r, l, rfl⟩ : ∃ (r : Fin 24) (l : Fin 512), x = ix2 r l := ⟨x 0, x 1, by funext a; fin_cases a <;> rfl⟩
  have e : (ovB (Ring.bk 16 j)).view.read (Elt F) (OVf c D v651 HQ SD) (ix2 r l) = OVf c D v651 HQ SD (ix2 r (⟨j * 512 + l.val, by omega⟩ : Fin 8192)) := by
    show OVf c D v651 HQ SD ((Rect.unit (s := S24x8192) (oOff (Ring.bk 16 j)) S24x512.size (oOff_inb _)).emb (ix2 r l)) = _
    congr 1; funext a; apply Fin.ext; fin_cases a
    · show 0 + 1 * r.val = r.val; omega
    · show (Ring.bk 16 j).val * 512 + 1 * l.val = j * 512 + l.val
      rw [Ring.bk_val hj]; omega
  rw [e]
  show orow c D v651 HQ SD ((j * 512 + l.val) / 512) (ix2 r (Fin.ofNat 512 (j * 512 + l.val))) = _
  have e1 : (j * 512 + l.val) / 512 = j := by omega
  have e2 : Fin.ofNat 512 (j * 512 + l.val) = l := Fin.ext (by show (j * 512 + l.val) % 512 = l.val; omega)
  rw [e1, e2]

/-- What a copy of output block `b` leaves in the result. -/
abbrev landO (b : Fin 16) : Buf (Elt F) ((oB b).view.loc (c : Thread nD τ)) :=
  (oB b).view.writes (Elt F) (oB b).view.junk [⟨Rect.whole S24x512, ReadAs.same.apply ((ovB b).view.read (Elt F) (OVf c D v651 HQ SD))⟩]
abbrev delO (t : Fin 16) : sProp 𝕄 := iprop(oP c (Ring.bk 16 t.val) (landO c D v651 HQ SD (Ring.bk 16 t.val)) ∗ ovP c (Ring.bk 16 t.val) (OVf c D v651 HQ SD))
instance oP_st (b : Fin 16) (f) : BI.Storable (upEmb : UEmb _ 𝕄) (oP (F := F) c b f) := pts_st c (oB b) f
instance ovP_st (b : Fin 16) (f) : BI.Storable (upEmb : UEmb _ 𝕄) (ovP (F := F) c b f) := pts_st c (ovB b) f
instance delO_st (t : Fin 16) : BI.Storable (upEmb : UEmb _ 𝕄) (delO c D v651 HQ SD t) := by
  have := oP_st (F := F) c (Ring.bk 16 t.val) (landO c D v651 HQ SD (Ring.bk 16 t.val))
  have := ovP_st (F := F) c (Ring.bk 16 t.val) (OVf c D v651 HQ SD)
  unfold delO; infer_instance
/-- The output copies: `j` of the sixteen issued, `u` units waited for. -/
abbrev batO (j u : ℕ) : sProp 𝕄 :=
  Transfers.Batch countersEmb (c : Thread nD τ) (SemLoc.dma (osm 2).sem) () 768 (delO c D v651 HQ SD) j u

/-- Before trip `j`, beside the ring: the quantised hidden layer, the scales. -/
abbrev side2 : sProp 𝕄 := iprop(at_ c hqM HQ ∗ at_ c sdvM SD ∗ ∃ Wt, owes (c : Thread nD τ) 0 Wt)

theorem ov_ent (j : Fin k0_t2_loop.trips) (g : Buf (Elt F) ((ovB (Ring.bk 16 j.val)).view.loc (c : Thread nD τ))) (g' : Buf (Elt F) ((ovB (Ring.bk 16 j.val)).view.loc (c : Thread nD τ)))
    (e : g' = View.write (Elt F) (ovM.access (Rect.unit (s := S24x8192) (k0_off23 j) S24x512.size (k0_off23_inb j))) g (orow c D v651 HQ SD j.val) Finset.univ) :
    ovP c (Ring.bk 16 j.val) g'
      ⊢ ovP c (Ring.bk 16 j.val) (OVf c D v651 HQ SD) := by
  subst e
  refine Entails.of_eq (pts_of_read c (ovB (Ring.bk 16 j.val)) _ _ (Eq.trans ?_ (read_ovB_OVf c D v651 HQ SD j.val (trips2_lt j)).symm))
  have key : ∀ (off : Fin 2 → ℕ) (h : off = oOff (Ring.bk 16 j.val)) (inb : ∀ a, off a + S24x512.size a ≤ S24x8192.size a),
      (ovB (Ring.bk 16 j.val)).view.read (Elt F) (View.write (Elt F) (ovM.access (Rect.unit (s := S24x8192) off S24x512.size inb)) g (orow c D v651 HQ SD j.val) Finset.univ)
        = orow c D v651 HQ SD j.val := by
    rintro off rfl inb
    exact View.read_write_univ _ _
  exact key _ (off23_eq j) _

/-- A trip that issues down chunk `j + 12`. -/
theorem trip2_lo (j : Fin k0_t2_loop.trips) (hj : j.val < 4) :
    iprop((∃ f, flD c D (Ring.sl 12 (j.val + 28)) (Ring.bk 16 j.val) f) ∗ dP c D (Ring.bk 16 (j.val + 12)) ∗ (∃ g, ovP c (Ring.bk 16 j.val) g) ∗ (∃ g, oP c (Ring.bk 16 j.val) g)
        ∗ batO c D v651 HQ SD j.val 0 ∗ side2 c HQ SD)
      ⊢ wp frame (wpE (defs₀ (F := F)) 𝒱₀ (c : Thread nD τ) none) Set.univ (trip2 arg7 harg7 arg9 harg9 v651 v656 v1139 j)
        (fun _ => iprop((∃ f, flD c D (Ring.sl 12 (j.val + 28)) (Ring.bk 16 (j.val + 12)) f) ∗ dP c D (Ring.bk 16 j.val) ∗ batO c D v651 HQ SD (j.val + 1) 0 ∗ side2 c HQ SD)) := by
  have h16 := trips2_lt j
  have e1 := hq_read c HQ
  have e2 := dring_read c D j j.val
  have e3 := sd_read c (off22_eq' j) (k0_off22_inb j) SD
  have h3 := cond3_iff j
  iintro ⟨⟨%f, HB⟩, HD, ⟨%g, HV⟩, ⟨%g', HO⟩, HBO, HHQ, HSD, ⟨%Wt, HW⟩⟩
  dsimp only [trip2]
  sl_unfold [k0_t2_body]
  set_option sl_exec.maxSteps 3 in sl_exec
  ihave HS := (landD_ent c D (Ring.sl 12 (j.val + 28)) j.val h16 f) $$ HB_dst
  set_option sl_exec.stopBefore "k0_cond4" in sl_exec
  have h4 : k0_cond4 j = 1#1 := (cond4_iff j).mpr hj
  ihave HS := (dl_dw_ent c (Ring.sl 12 (j.val + 28)) (ringD D j.val)) $$ HS
  ihave HV := (ov_ent c D v651 HQ SD j g (trip2_lo.sl.HV_w1 c D v651 HQ SD j g) (by unfold trip2_lo.sl.HV_w1; rw [e1]; rfl)) $$ HV
  sl_exec
  sl_step
  isplitl [HB]; · iexists (ringD D j.val); iexact HB
  isplitl [HB_src]; · iexact HB_src
  isplitl [HBO]; · iexact HBO
  isplitl [HHQ]; · iexact HHQ
  isplitl [HSD]; · iexact HSD
  iexists _; iexact HW

/-- A trip that issues none. -/
theorem trip2_hi (j : Fin k0_t2_loop.trips) (hj : 4 ≤ j.val) :
    iprop((∃ f, flD c D (Ring.sl 12 (j.val + 28)) (Ring.bk 16 j.val) f) ∗ (∃ g, ovP c (Ring.bk 16 j.val) g) ∗ (∃ g, oP c (Ring.bk 16 j.val) g)
        ∗ batO c D v651 HQ SD j.val 0 ∗ side2 c HQ SD)
      ⊢ wp frame (wpE (defs₀ (F := F)) 𝒱₀ (c : Thread nD τ) none) Set.univ (trip2 arg7 harg7 arg9 harg9 v651 v656 v1139 j)
        (fun _ => iprop(iprop(cellP c (Ring.sl 12 (j.val + 28)) ∗ ∃ f, dwP c (Ring.sl 12 (j.val + 28)) f) ∗ dP c D (Ring.bk 16 j.val) ∗ batO c D v651 HQ SD (j.val + 1) 0 ∗ side2 c HQ SD)) := by
  have h16 := trips2_lt j
  have e1 := hq_read c HQ
  have e2 := dring_read c D j j.val
  have e3 := sd_read c (off22_eq' j) (k0_off22_inb j) SD
  have h3 := cond3_iff j
  iintro ⟨⟨%f, HB⟩, ⟨%g, HV⟩, ⟨%g', HO⟩, HBO, HHQ, HSD, ⟨%Wt, HW⟩⟩
  dsimp only [trip2]
  sl_unfold [k0_t2_body]
  set_option sl_exec.maxSteps 3 in sl_exec
  ihave HS := (landD_ent c D (Ring.sl 12 (j.val + 28)) j.val h16 f) $$ HB_dst
  set_option sl_exec.stopBefore "k0_cond4" in sl_exec
  have h4 : ¬ k0_cond4 j = 1#1 := fun h => by have := (cond4_iff j).mp h; omega
  ihave HS := (dl_dw_ent c (Ring.sl 12 (j.val + 28)) (ringD D j.val)) $$ HS
  ihave HV := (ov_ent c D v651 HQ SD j g (trip2_hi.sl.HV_w1 c D v651 HQ SD j g) (by unfold trip2_hi.sl.HV_w1; rw [e1]; rfl)) $$ HV
  sl_exec
  sl_step
  isplitl [HB HS]
  · isplitl [HB]; · iexact HB
    iexists _; iexact HS
  isplitl [HB_src]; · iexact HB_src
  isplitl [HBO]; · iexact HBO
  isplitl [HHQ]; · iexact HHQ
  isplitl [HSD]; · iexact HSD
  iexists _; iexact HW

end Trip2

end Cert.Proof.KernelIdeal

end
-- ==== Proof.Ideal.Loop2.lean ====
/-
  The down loop and the loop that waits for the output copies: their invariants.
-/
module

public import proofs.«01_k».proof.Proof.Ideal.Loop1
public import proofs.«01_k».proof.Proof.Ideal.Trip2

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ (UU nD τ) ℕ

section Loop2
variable (c : Dev nD) (W : Buf (Elt F) (wguM.view.loc (c : Thread nD τ))) (D : Buf (Elt F) (wdM.view.loc (c : Thread nD τ)))
  (arg7 : Memref sig .tc .vmem S1x24 .f32) (harg7 : arg7.IsWhole)
  (arg9 : Memref sig .tc .vmem S1x24 .f32) (harg9 : arg9.IsWhole)
  (v651 : FVec F S24x1 .f32) (v656 : FVec F S24x1 .f32) (v1139 : FVec F S32x256 .fp8e4m3)
  (HQ : Buf (Elt F) (hqM.view.loc (c : Thread nD τ))) (SD : Buf (Elt F) (sdvM.view.loc (c : Thread nD τ)))

/-- Output blocks from `j` on, in VMEM and in HBM, not yet sent out. -/
def ovFrom (j : ℕ) : sProp 𝕄 := bigSep (Ring.rangeSet 16 j 16) fun b => iprop(∃ g, ovP c (Ring.bk 16 b.val) g)
def oFrom (j : ℕ) : sProp 𝕄 := bigSep (Ring.rangeSet 16 j 16) fun b => iprop(∃ g, oP c (Ring.bk 16 b.val) g)
theorem ovFrom_head (j : ℕ) (hj : j < 16) : ovFrom (F := F) c j = iprop((∃ g, ovP c (Ring.bk 16 j) g) ∗ ovFrom c (j + 1)) :=
  Ring.bigSep_rangeSet_head (NB := 16) (Φ := fun b => iprop(∃ g, ovP (F := F) c (Ring.bk 16 b.val) g)) hj hj
theorem oFrom_head (j : ℕ) (hj : j < 16) : oFrom (F := F) c j = iprop((∃ g, oP c (Ring.bk 16 j) g) ∗ oFrom c (j + 1)) :=
  Ring.bigSep_rangeSet_head (NB := 16) (Φ := fun b => iprop(∃ g, oP (F := F) c (Ring.bk 16 b.val) g)) hj hj

def inv2 (j : ℕ) : sProp 𝕄 :=
  iprop(ringAt c W D (j + 28) ∗ homesD c D (j + 28) ∗ ovFrom c j ∗ oFrom c j ∗ batO c D v651 HQ SD j 0 ∗ side2 c HQ SD)

theorem step2 (j : Fin k0_t2_loop.trips) :
    inv2 c W D v651 HQ SD j.val
      ⊢ wp frame (wpE (defs₀ (F := F)) 𝒱₀ (c : Thread nD τ) none) Set.univ (trip2 arg7 harg7 arg9 harg9 v651 v656 v1139 j)
        (fun _ => inv2 c W D v651 HQ SD (j.val + 1)) := by
  have h16 := trips2_lt j
  unfold inv2
  rw [show j.val + 1 + 28 = j.val + 28 + 1 by omega, ring_out, ring_in, ovFrom_head c j.val h16, oFrom_head c j.val h16]
  rw [show infl (F := F) c W D (Ring.sl 12 (j.val + 28)) (j.val + 28) = iprop((∃ f, flD c D (Ring.sl 12 (j.val + 28)) (Ring.bk 16 j.val) f) ∗ ∃ f, restP c (Ring.sl 12 (j.val + 28)) f) from by
    unfold infl
    rw [if_neg (by omega), if_pos (by omega), show j.val + 28 - 28 = j.val by omega]]
  by_cases hj : j.val < 4
  · rw [homesD_out' c D j.val hj, homesD_swap c D j.val hj]
    rw [show infl (F := F) c W D (Ring.sl 12 (j.val + 28)) (j.val + 28 + 12) = iprop((∃ f, flD c D (Ring.sl 12 (j.val + 28)) (Ring.bk 16 (j.val + 12)) f) ∗ ∃ f, restP c (Ring.sl 12 (j.val + 28)) f) from by
      unfold infl
      rw [if_neg (by omega), if_pos (by omega), show j.val + 28 + 12 - 28 = j.val + 12 by omega]]
    iintro ⟨⟨⟨HB, HRest⟩, HR⟩, ⟨HD, HDR⟩, ⟨HV, HVs⟩, ⟨HO, HOs⟩, HBO, HS⟩
    iapply (wp_wand_r Idealize.ShloMosaic.frame (wpE (defs₀ (F := F)) 𝒱₀ (c : Thread nD τ) none) Set.univ)
    isplitl [HB HD HV HO HBO HS]
    · iapply (trip2_lo c D arg7 harg7 arg9 harg9 v651 v656 v1139 HQ SD j hj)
      isplitl [HB]; · iexact HB
      isplitl [HD]; · iexact HD
      isplitl [HV]; · iexact HV
      isplitl [HO]; · iexact HO
      isplitl [HBO]; · iexact HBO
      iexact HS
    · iintro %_ ⟨HB, HD, HBO, HS⟩
      isplitl [HB HRest HR]
      · isplitl [HB HRest]
        · isplitl [HB]; · iexact HB
          iexact HRest
        iexact HR
      isplitl [HD HDR]
      · isplitl [HD]; · iexact HD
        iexact HDR
      isplitl [HVs]; · iexact HVs
      isplitl [HOs]; · iexact HOs
      isplitl [HBO]; · iexact HBO
      iexact HS
  · rw [homesD_in c D j.val (by omega) h16]
    rw [show infl (F := F) c W D (Ring.sl 12 (j.val + 28)) (j.val + 28 + 12) = iprop(cellP c (Ring.sl 12 (j.val + 28)) ∗ (∃ f, dwP c (Ring.sl 12 (j.val + 28)) f) ∗ ∃ f, restP c (Ring.sl 12 (j.val + 28)) f) from by
      unfold infl
      rw [if_neg (by omega), if_neg (by omega)]]
    iintro ⟨⟨⟨HB, HRest⟩, HR⟩, HDR, ⟨HV, HVs⟩, ⟨HO, HOs⟩, HBO, HS⟩
    iapply (wp_wand_r Idealize.ShloMosaic.frame (wpE (defs₀ (F := F)) 𝒱₀ (c : Thread nD τ) none) Set.univ)
    isplitl [HB HV HO HBO HS]
    · iapply (trip2_hi c D arg7 harg7 arg9 harg9 v651 v656 v1139 HQ SD j (by omega))
      isplitl [HB]; · iexact HB
      isplitl [HV]; · iexact HV
      isplitl [HO]; · iexact HO
      isplitl [HBO]; · iexact HBO
      iexact HS
    · iintro %_ ⟨⟨HB, HW⟩, HD, HBO, HS⟩
      isplitl [HB HW HRest HR]
      · isplitl [HB HW HRest]
        · isplitl [HB]; · iexact HB
          isplitl [HW]; · iexact HW
          iexact HRest
        iexact HR
      isplitl [HD HDR]
      · isplitl [HD]; · iexact HD
        iexact HDR
      isplitl [HVs]; · iexact HVs
      isplitl [HOs]; · iexact HOs
      isplitl [HBO]; · iexact HBO
      iexact HS

/-! ## The loop that waits for the output copies -/

theorem trips3_lt (i : Fin k0_t3_loop.trips) : i.val < 16 := lt_of_lt_of_eq i.isLt (by decide)

def inv3 (i : ℕ) : sProp 𝕄 :=
  iprop((∃ Wt, owes (c : Thread nD τ) 0 Wt)
    ∗ if i < 16 then batO c D v651 HQ SD 16 (i * 768)
      else iprop(semVal ((c : Thread nD τ), SemLoc.dma (osm 2).sem) 0 ∗ bigSep Finset.univ (delO c D v651 HQ SD)))

abbrev trip3 (j : Fin k0_t3_loop.trips) : Prog (TpuEff nD τ sig (Elt F) Λ₀ .tc) Unit :=
  k0_t3_body (F := F) xM (Memref.isWhole_whole _) wguM (Memref.isWhole_whole _) suM (Memref.isWhole_whole _) wdM (Memref.isWhole_whole _)
    sdM (Memref.isWhole_whole _) outM (Memref.isWhole_whole _) xcM (Memref.isWhole_whole _) arg7 harg7 hcM (Memref.isWhole_whole _) arg9 harg9
    ringM (Memref.isWhole_whole _) xvM (Memref.isWhole_whole _) suvM (Memref.isWhole_whole _) sdvM (Memref.isWhole_whole _)
    xqM (Memref.isWhole_whole _) hqM (Memref.isWhole_whole _) xcvM (Memref.isWhole_whole _) hcvM (Memref.isWhole_whole _)
    hM (Memref.isWhole_whole _) hxM (Memref.isWhole_whole _) ovM (Memref.isWhole_whole _)
    cc0_scratch11 cc0_scratch12 cc0_scratch13 v651 v656 v1139 j ()

theorem step3 (i : Fin k0_t3_loop.trips) :
    inv3 c D v651 HQ SD i.val
      ⊢ wp frame (wpE (defs₀ (F := F)) 𝒱₀ (c : Thread nD τ) none) Set.univ (trip3 arg7 harg7 arg9 harg9 v651 v656 v1139 i)
        (fun _ => inv3 c D v651 HQ SD (i.val + 1)) := by
  have h16 := trips3_lt i
  unfold inv3
  simp only [if_pos h16]
  rcases Nat.lt_or_ge (i.val + 1) 16 with h1 | h1
  · simp only [if_pos h1]
    iintro ⟨⟨%Wt, HW⟩, HB⟩
    dsimp only [trip3]
    sl_unfold [k0_t3_body]
    sl_exec
    sl_step
    isplitl [HW]; · iexists _; iexact HW
    rw [show (i.val + 1) * 768 = i.val * 768 + 768 by omega]
    iexact HB
  · simp only [if_neg (Nat.not_lt.mpr h1)]
    iintro ⟨⟨%Wt, HW⟩, HB⟩
    dsimp only [trip3]
    sl_unfold [k0_t3_body]
    sl_exec
    sl_step
    isplitl [HW]; · iexists _; iexact HW
    isplitl [HB]; · iexact HB
    iexact HB_all

end Loop2

end Cert.Proof.KernelIdeal

end
-- ==== Proof.Ideal.Quant.lean ====
module

public import proofs.«01_k».proof.Proof.Ideal.Loop2

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ (UU nD τ) ℕ

/-! ## Arrays stored block of columns by block of columns -/

/-- The array whose block of `w` columns number `b` is `B b`. -/
def colsOf {A : Type} {R C : ℕ} (w : ℕ) [NeZero w] (B : ℕ → (⟨2, ![R, w]⟩ : Shape).Idx → A) : (⟨2, ![R, C]⟩ : Shape).Idx → A :=
  fun y => B ((y 1).val / w) (ix2 (y 0) (Fin.ofNat w (y 1).val))

section Cols
variable {cs : Space} {e : EltTy} {R C w : ℕ} [NeZero w] (m : Memref sig .tc cs ⟨2, ![R, C]⟩ e) (B : ℕ → (⟨2, ![R, w]⟩ : Shape).Idx → Elt F e)
  (f : m.view.ty.Contents (Elt F))
omit [FloatOps F] in
theorem cols_nil : ∀ y : (⟨2, ![R, C]⟩ : Shape).Idx, (y 1).val < 0 → m.view.read (Elt F) (m.view.writes (Elt F) f []) y = colsOf w B y :=
  fun y h => absurd h (Nat.not_lt_zero _)
omit [FloatOps F] in
/-- One more block stored on the right. -/
theorem cols_step {L : List (View.Piece (Elt F) ⟨2, ![R, C]⟩ e)} (n : ℕ) (hn : n = n / w * w)
    (inb : ∀ a, (![0, n] : Fin 2 → ℕ) a + (![R, w] : Fin 2 → ℕ) a ≤ (⟨2, ![R, C]⟩ : Shape).size a)
    (p : (⟨2, ![R, w]⟩ : Shape).Idx → Elt F e) (hp : p = B (n / w))
    (ih : ∀ y : (⟨2, ![R, C]⟩ : Shape).Idx, (y 1).val < n → m.view.read (Elt F) (m.view.writes (Elt F) f L) y = colsOf w B y) :
    ∀ y : (⟨2, ![R, C]⟩ : Shape).Idx, (y 1).val < n + w →
      m.view.read (Elt F) (m.view.writes (Elt F) f (⟨Rect.unit (s := ⟨2, ![R, C]⟩) ![0, n] ![R, w] inb, p⟩ :: L)) y = colsOf w B y := by
  intro y hy
  by_cases h : (y 1).val < n
  · rw [View.read_writes_cons_unit_of_not_mem m.view f inb p L y rfl 1 (Or.inl h)]
    exact ih y h
  · have hw : 0 < w := Nat.pos_of_ne_zero (NeZero.ne w)
    generalize n / w = b at hn hp
    have e1 : (y 1).val / w = b := by
      rw [Nat.div_eq_of_lt_le]
      · rw [← hn]; omega
      · rw [Nat.succ_mul, ← hn]; omega
    have e2 : (y 1).val % w = (y 1).val - n := by
      have := Nat.div_add_mod (y 1).val w
      rw [e1, Nat.mul_comm, ← hn] at this; omega
    rw [View.read_writes_cons_unit_of_mem m.view f inb p L y (ix2 (y 0) (Fin.ofNat w (y 1).val)) rfl]
    · rw [hp]; show _ = B ((y 1).val / w) _
      rw [e1]
    · intro a; fin_cases a
      · show (y 0).val = 0 + (y 0).val; omega
      · show (y 1).val = n + (y 1).val % w
        rw [e2]; omega
end Cols

/-! ## The activations' codes -/

/-- Block `n` of 512 columns. -/
def xblk (X : S24x8192.Idx → Elt F .bf16) (n : ℕ) : FVec F S24x512 .bf16 := fun z => X (ix2 (z 0) (Fin.ofNat 8192 (n * 512 + (z 1).val)))
omit [FloatOps F] in
theorem x_read (X : S24x8192.Idx → Elt F .bf16) (n m : ℕ) (hm : m = n * 512) (inb : ∀ a, (![0, m] : Fin 2 → ℕ) a + S24x512.size a ≤ S24x8192.size a) :
    xvM.view.readAt (Elt F) (Rect.unit (s := S24x8192) ![0, m] S24x512.size inb).toLoadRect X = xblk X n := by
  subst hm
  funext x
  show X ((Rect.unit (s := S24x8192) ![0, n * 512] S24x512.size inb).emb x) = X _
  have h1 : n * 512 + 512 ≤ 8192 := inb 1
  have h2 : (x 1).val < 512 := (x 1).isLt
  congr 1; funext a; apply Fin.ext; fin_cases a
  · show 0 + 1 * (x 0).val = (x 0).val
    omega
  · show n * 512 + 1 * (x 1).val = (n * 512 + (x 1).val) % 8192
    rw [Nat.mod_eq_of_lt (by omega)]; omega

section XQ
variable (X : S24x8192.Idx → Elt F .bf16)
/-- A row's largest magnitude, over 448. -/
def xy : FVec F S24x1 .f32 :=
  k0_pay6 (k0_pay5 (xblk X 0) (xblk X 1) (xblk X 2) (xblk X 3) (xblk X 4) (xblk X 5) (xblk X 6) (xblk X 7) (xblk X 8))
    (xblk X 9) (xblk X 10) (xblk X 11) (xblk X 12) (xblk X 13) (xblk X 14) (xblk X 15)
def xe : IVec S24x1 32 :=
  k0_pay7 (k0_pay5 (xblk X 0) (xblk X 1) (xblk X 2) (xblk X 3) (xblk X 4) (xblk X 5) (xblk X 6) (xblk X 7) (xblk X 8))
    (xblk X 9) (xblk X 10) (xblk X 11) (xblk X 12) (xblk X 13) (xblk X 14) (xblk X 15)
/-- The activations' scales, -/
def xsc : FVec F S24x1 .f32 := k0_pay12 (xy X) (k0_pay8 (xy X) (xe X) 63#32) (k0_pay9 (xy X) (xe X) 63#32) (k0_pay10 (xy X) (xe X) 63#32)
/-- the scales' inverses, -/
def xinv : FVec F S24x1 .f32 := k0_pay13 (xy X) (k0_pay8 (xy X) (xe X) 63#32) (k0_pay9 (xy X) (xe X) 63#32) (k0_pay10 (xy X) (xe X) 63#32)
/-- the codes, -/
def XCf : S24x8192.Idx → Elt F .fp8e4m3 := colsOf 512 fun n => k0_pay18 (xinv X) (xblk X n)
/-- and the codes with eight rows of zeros under them. -/
def XQf : S32x8192.Idx → Elt F .fp8e4m3 := colsOf 512 fun n => k0_pay19 (xinv X) (xblk X n)
end XQ

section HQ
variable (c : Dev nD) (W : Buf (Elt F) (wguM.view.loc (c : Thread nD τ)))
  (X : S24x8192.Idx → Elt F .bf16) (SU : S1x14336.Idx → Elt F .f32)

/-- Block `k` of the hidden layer. -/
def hblk (k : ℕ) : FVec F S1x24x256 .f32 := hrow c W (xsc X) (XQf X) SU k
theorem h_read (H : Buf (Elt F) (hM.view.loc (c : Thread nD τ))) (k : ℕ) (hk : k < 28) (inb : ∀ a, (![k, 0, 0] : Fin 3 → ℕ) a + S1x24x256.size a ≤ S28x24x256.size a) :
    hM.view.readAt (Elt F) (Rect.unit (s := S28x24x256) ![k, 0, 0] S1x24x256.size inb).toLoadRect (hAt c W (xsc X) (XQf X) SU H 28) = hblk c W X SU k := by
  have gen : ∀ n, k < n → ∀ x : S1x24x256.Idx, hAt c W (xsc X) (XQf X) SU H n ((Rect.unit (s := S28x24x256) ![k, 0, 0] S1x24x256.size inb).emb x) = hblk c W X SU k x := by
    intro n
    induction n with
    | zero => intro h; omega
    | succ n ih =>
      intro h x
      have h0 : (x 0).val < 1 := (x 0).isLt
      show (if ((Rect.unit (s := S28x24x256) ![k, 0, 0] S1x24x256.size inb).emb x 0).val = n then _ else _) = _
      have e0 : ((Rect.unit (s := S28x24x256) ![k, 0, 0] S1x24x256.size inb).emb x 0).val = k := by
        show k + 1 * (x 0).val = k; omega
      rw [e0]
      by_cases hn : k = n
      · rw [if_pos hn]; subst hn
        refine congrArg (hrow c W (xsc X) (XQf X) SU k) ?_
        funext a; apply Fin.ext; fin_cases a
        · show 0 = (x 0).val; omega
        · show 0 + 1 * (x 1).val = (x 1).val; omega
        · show 0 + 1 * (x 2).val = (x 2).val; omega
      · rw [if_neg hn]; exact ih (by omega) x
  funext x
  exact gen 28 hk x

/-- The 24 × 256 maxima of the hidden layer's magnitudes over its 28 blocks. -/
def hmxAll : FVec F S24x256 .f32 := mAt c W (xsc X) (XQf X) SU (k0_pay71 (F := F)) 28
def hy : FVec F S24x1 .f32 := k0_pay75 (hmxAll c W X SU)
/-- The hidden layer's scales, -/
def hsc : FVec F S24x1 .f32 := k0_pay82 (hy c W X SU) (k0_pay79 (hy c W X SU) k0_pay76 k0_pay77 k0_pay78) (k0_pay80 (hy c W X SU) k0_pay76 k0_pay77 k0_pay78)
/-- the scales' inverses, -/
def hinv : FVec F S24x1 .f32 := k0_pay83 (hy c W X SU) (k0_pay79 (hy c W X SU) k0_pay76 k0_pay77 k0_pay78) (k0_pay80 (hy c W X SU) k0_pay76 k0_pay77 k0_pay78)
/-- the codes, -/
def HCf : S24x7168.Idx → Elt F .fp8e4m3 := colsOf 256 fun k => k0_pay89 (hinv c W X SU) (hblk c W X SU k)
/-- and the codes with eight rows of zeros under them. -/
def HQf : S32x7168.Idx → Elt F .fp8e4m3 := colsOf 256 fun k => k0_pay90 (hinv c W X SU) (hblk c W X SU k)
end HQ

omit [FloatOps F] in
/-- A store of a whole buffer leaves what was stored. -/
theorem whole_writes (b : Ref sig .tc) (f : b.ty.Contents (Elt F)) (x : b.ty.shape.Idx → Elt F b.ty.elt) :
    (Memref.whole b).view.writes (Elt F) f [⟨Rect.whole _, x⟩] = x :=
  funext fun y => congrFun (View.read_writes_whole (Memref.whole b).view f x) y

/-- A buffer's contents under a name. -/
theorem name_contents (c : Dev nD) {cs : Space} {sh : Shape} {e : EltTy} (m : Memref sig .tc cs sh e) (f : Buf (Elt F) (m.view.loc (c : Thread nD τ))) :
    at_ (F := F) c m f ⊢ iprop(∃ g, ⌜g = f⌝ ∗ at_ c m g) := by
  iintro H
  iexists f
  isplitr; · ipureintro; rfl
  iexact H

end Cert.Proof.KernelIdeal
-- ==== Proof.Ideal.Body.lean ====
module

public import proofs.«01_k».proof.Proof.Ideal.Quant

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ (UU nD τ) ℕ

section Body
variable (c : Dev nD) (W : Buf (Elt F) (wguM.view.loc (c : Thread nD τ))) (D : Buf (Elt F) (wdM.view.loc (c : Thread nD τ)))

/-- A semaphore of the three the inputs' copies use. -/
def ism (i : Fin 3) : DmaSems sig S_ := (cc0_scratch12.slice (Rect.unit (s := S3) ![i.val] S1.size (fun a => by fin_cases a; have := i.isLt; show i.val + 1 ≤ 3; omega))).squeeze S_ squeezes_S1_S_
@[sl_canon] theorem cnI (n : ℕ) (hh) : (cc0_scratch12.slice (Rect.unit (s := S3) ![n] S1.size hh)).squeeze S_ squeezes_S1_S_ = ism (Fin.ofNat 3 n) := by
  have h : n + 1 ≤ 3 := hh 0
  have e : n % 3 = n := Nat.mod_eq_of_lt (by omega)
  unfold ism
  congr 2
  simp only [Fin.ofNat, e]

/-- Slot `s` of the ring, empty and idle. -/
abbrev idleP (s : Fin 12) : sProp 𝕄 := iprop(cellP c s ∗ ∃ f, slP c s f)
/-- Slot `s` ready for its first chunk. -/
abbrev readyP (s : Fin 12) : sProp 𝕄 := iprop(batG c W s s.val 0 0 ∗ (∃ f, loP c s f) ∗ (∃ f, hiP c s f) ∗ gPP c W (Ring.bk 28 s.val))

theorem ready_slot (s : Fin 12) : iprop(idleP c s ∗ gPP c W (Ring.bk 28 s.val)) ⊢ |={Set.univ}=> readyP (F := F) c W s := by
  iintro ⟨⟨Hc, %f, Hs⟩, Hg⟩
  imod (Transfers.batch_alloc' (Lvl := ℕ) countersEmb (c : Thread nD τ) () 65536 (delG c W s s.val) (sm := SemLoc.dma (csm s).sem) (E := Set.univ)) $$ Hc with HB
  imodintro
  ihave Hs := (slot_halves_ent c s f) $$ Hs
  icases Hs with ⟨Hl, Hh⟩
  isplitl [HB]; · iexact HB
  isplitl [Hl]; · iexists _; iexact Hl
  isplitl [Hh]; · iexists _; iexact Hh
  iexact Hg

theorem over12 (Φ : Fin 12 → sProp 𝕄) : bigSep Finset.univ Φ = iprop(Φ (Fin.ofNat 12 0) ∗ Φ (Fin.ofNat 12 1) ∗ Φ (Fin.ofNat 12 2) ∗ Φ (Fin.ofNat 12 3) ∗ Φ (Fin.ofNat 12 4) ∗ Φ (Fin.ofNat 12 5) ∗ Φ (Fin.ofNat 12 6) ∗ Φ (Fin.ofNat 12 7) ∗ Φ (Fin.ofNat 12 8) ∗ Φ (Fin.ofNat 12 9) ∗ Φ (Fin.ofNat 12 10) ∗ Φ (Fin.ofNat 12 11)) := by
  rw [bigSep_univ_eq_bigSepL [Fin.ofNat 12 0, Fin.ofNat 12 1, Fin.ofNat 12 2, Fin.ofNat 12 3, Fin.ofNat 12 4, Fin.ofNat 12 5, Fin.ofNat 12 6, Fin.ofNat 12 7, Fin.ofNat 12 8, Fin.ofNat 12 9, Fin.ofNat 12 10, Fin.ofNat 12 11] (by decide) (by decide) Φ]
  rfl
theorem zip2 {I : Type} [DecidableEq I] (S : Finset I) (Φ Ψ : I → sProp 𝕄) : iprop((bigSep S Φ) ∗ (bigSep S Ψ)) ⊢ bigSep S fun s => iprop(Φ s ∗ Ψ s) :=
  Entails.of_eq (bigSep_sep S Φ Ψ).symm

theorem infl_start (s : Fin 12) : infl (F := F) c W D s (Ring.firstFrom 0 12 s) = batG c W s s.val 2 0 := by
  have e : Ring.firstFrom 0 12 s = s.val := by revert s; decide
  rw [e, infl, if_pos (by have := s.isLt; omega)]
theorem ring_start : (bigSep Finset.univ fun s : Fin 12 => batG (F := F) c W s s.val 2 0) ⊢ ringAt c W D 0 := by
  unfold ringAt
  exact bigSep_mono fun s _ => Entails.of_eq (infl_start c W D s).symm

theorem batO_start (v651 : FVec F S24x1 .f32) (HQ : Buf (Elt F) (hqM.view.loc (c : Thread nD τ))) (SD : Buf (Elt F) (sdvM.view.loc (c : Thread nD τ))) :
    (semVal ((c : Thread nD τ), SemLoc.dma (osm (Fin.ofNat 3 2)).sem) 0 : sProp 𝕄) ⊢ |={Set.univ}=> batO c D v651 HQ SD 0 0 := by
  have hst : ∀ t : Fin 16, BI.Storable (upEmb : UEmb _ 𝕄) (delO c D v651 HQ SD t) := fun t => delO_st c D v651 HQ SD t
  exact Transfers.batch_alloc' (Lvl := ℕ) countersEmb (c : Thread nD τ) () 768 (delO c D v651 HQ SD) (sm := SemLoc.dma (osm 2).sem) (E := Set.univ)

theorem inv3_end (v651 : FVec F S24x1 .f32) (HQ : Buf (Elt F) (hqM.view.loc (c : Thread nD τ))) (SD : Buf (Elt F) (sdvM.view.loc (c : Thread nD τ))) :
    inv3 (F := F) c D v651 HQ SD 16 ⊢ iprop((∃ Wt, owes (c : Thread nD τ) 0 Wt) ∗ semVal ((c : Thread nD τ), SemLoc.dma (osm (Fin.ofNat 3 2)).sem) 0 ∗ bigSep Finset.univ (delO c D v651 HQ SD)) := by
  unfold inv3
  rw [if_neg (Nat.lt_irrefl 16)]
  exact Entails.of_eq rfl

variable (arg7 : Memref sig .tc .vmem S1x24 .f32) (harg7 : arg7.IsWhole) (arg9 : Memref sig .tc .vmem S1x24 .f32) (harg9 : arg9.IsWhole)

/-- The body over its two windowed results. -/
abbrev bodyG : Prog (TpuEff nD τ sig (Elt F) Λ₀ .tc) PUnit :=
  cc0__body (F := F) xM (Memref.isWhole_whole _) wguM (Memref.isWhole_whole _) suM (Memref.isWhole_whole _) wdM (Memref.isWhole_whole _)
    sdM (Memref.isWhole_whole _) outM (Memref.isWhole_whole _) xcM (Memref.isWhole_whole _) arg7 harg7 hcM (Memref.isWhole_whole _) arg9 harg9
    ringM (Memref.isWhole_whole _) xvM (Memref.isWhole_whole _) suvM (Memref.isWhole_whole _) sdvM (Memref.isWhole_whole _)
    xqM (Memref.isWhole_whole _) hqM (Memref.isWhole_whole _) xcvM (Memref.isWhole_whole _) hcvM (Memref.isWhole_whole _)
    hM (Memref.isWhole_whole _) hxM (Memref.isWhole_whole _) ovM (Memref.isWhole_whole _)
    cc0_scratch11 cc0_scratch12 cc0_scratch13

abbrev iCell (i : Fin 3) : sProp 𝕄 := semVal ((c : Thread nD τ), SemLoc.dma (ism i).sem) 0
abbrev oCell (i : Fin 3) : sProp 𝕄 := semVal ((c : Thread nD τ), SemLoc.dma (osm i).sem) 0

variable (X : Buf (Elt F) (xM.view.loc (c : Thread nD τ))) (SU : Buf (Elt F) (suM.view.loc (c : Thread nD τ))) (SD : Buf (Elt F) (sdM.view.loc (c : Thread nD τ)))

/-- A buffer of the core's own memory, holding anything. -/
abbrev any_ {cs : Space} {sh : Shape} {e : EltTy} (m : Memref sig .tc cs sh e) : sProp 𝕄 := iprop(∃ f, at_ (F := F) c m f)

/-- What the core holds before the body, but for the two windowed results. -/
def PREΦ : sProp 𝕄 := iprop(at_ c xM X ∗ at_ c suM SU ∗ at_ c sdM SD ∗ (bigSep Finset.univ fun s : Fin 12 => gPP c W (Ring.bk 28 s.val)) ∗ homesG c W 0 ∗ homesD c D 0
  ∗ ovFrom c 0 ∗ oFrom c 0 ∗ any_ c xcM ∗ any_ c hcM
  ∗ (bigSep Finset.univ fun s : Fin 12 => idleP c s)
  ∗ (any_ c xvM ∗ any_ c suvM ∗ any_ c sdvM ∗ any_ c xqM ∗ any_ c hqM ∗ any_ c xcvM ∗ any_ c hcvM ∗ any_ c hM ∗ any_ c hxM)
  ∗ (iCell c (Fin.ofNat 3 0) ∗ iCell c (Fin.ofNat 3 1) ∗ iCell c (Fin.ofNat 3 2)) ∗ (oCell c (Fin.ofNat 3 0) ∗ oCell c (Fin.ofNat 3 1) ∗ oCell c (Fin.ofNat 3 2)))
/-- What it holds after. -/
def POSTΦ : sProp 𝕄 := iprop(at_ c xM X ∗ at_ c suM SU ∗ at_ c sdM SD ∗ homesG c W 28 ∗ homesD c D 44
  ∗ bigSep Finset.univ (delO c D (hsc c W X SU) (HQf c W X SU) SD) ∗ at_ c xcM (XCf X) ∗ at_ c hcM (HCf c W X SU)
  ∗ ringAt c W D 44
  ∗ (any_ c xvM ∗ any_ c suvM ∗ any_ c sdvM ∗ any_ c xqM ∗ any_ c hqM ∗ any_ c xcvM ∗ any_ c hcvM ∗ any_ c hM ∗ any_ c hxM)
  ∗ (iCell c (Fin.ofNat 3 0) ∗ iCell c (Fin.ofNat 3 1) ∗ iCell c (Fin.ofNat 3 2)) ∗ (oCell c (Fin.ofNat 3 0) ∗ oCell c (Fin.ofNat 3 1) ∗ oCell c (Fin.ofNat 3 2)))
/-- A scales window holding `p`. -/
abbrev scW (a : Memref sig .tc .vmem S1x24 .f32) (p : FVec F S1x24 .f32) : Buf (Elt F) (a.view.loc (c : Thread nD τ)) :=
  a.view.writes (Elt F) a.view.junk [⟨Rect.unit (s := S1x24) ![0, 0] S1x24.size inb_S1x24_S1x24_0_0, p⟩]
def PRE : sProp 𝕄 := iprop(PREΦ c W D X SU SD ∗ any_ c arg7 ∗ any_ c arg9 ∗ ∃ Wt, owes (c : Thread nD τ) 0 Wt)
def POST : sProp 𝕄 := iprop(POSTΦ c W D X SU SD ∗ at_ c arg7 (scW c arg7 (k0_pay70 (xsc X))) ∗ at_ c arg9 (scW c arg9 (k0_pay182 (hsc c W X SU))) ∗ ∃ Wt, owes (c : Thread nD τ) 0 Wt)

set_option maxHeartbeats 4000000 in
theorem bodyRun (Q : PUnit → sProp 𝕄) :
    iprop(PRE c W D arg7 arg9 X SU SD ∗ (POST c W D arg7 arg9 X SU SD -∗ Q ⟨⟩)) ⊢ wp frame (wpE (defs₀ (F := F)) 𝒱₀ (c : Thread nD τ) none) Set.univ (bodyG arg7 harg7 arg9 harg9) Q := by
  unfold PRE PREΦ
  iintro ⟨⟨⟨Hx, Hsu, Hsd, Hgs, HGh, HDh, Hov, Ho, ⟨%fxc, Hxc⟩, ⟨%fhc, Hhc⟩, Hsl,
    ⟨⟨%fxv, Hxv⟩, ⟨%fsuv, Hsuv⟩, ⟨%fsdv, Hsdv⟩, ⟨%fxq, Hxq⟩, ⟨%fhq, Hhq⟩, ⟨%fxcv, Hxcv⟩, ⟨%fhcv, Hhcv⟩, ⟨%fh, Hh⟩, ⟨%fhx, Hhx⟩⟩,
    ⟨Hi0, Hi1, Hi2⟩, ⟨Ho0, Ho1, Ho2⟩⟩, ⟨%f7, H7⟩, ⟨%f9, H9⟩, ⟨%Wt, HW⟩⟩, Hk⟩
  ihave Hr := (zip2 Finset.univ (fun s : Fin 12 => idleP (F := F) c s) (fun s => gPP c W (Ring.bk 28 s.val))) $$ [Hsl Hgs]
  · isplitl [Hsl]; · iexact Hsl
    iexact Hgs
  imod (BI.BIBase.Entails.trans (bigSep_mono (fun s _ => ready_slot c W s)) (bigSep_fupd Finset.univ _)) $$ Hr with Hr
  ihave Hr := (Entails.of_eq (over12 _)) $$ Hr
  icases Hr with ⟨⟨HB0, ⟨%l0, HL0⟩, ⟨%h0, HH0⟩, HG0, HU0⟩, ⟨HB1, ⟨%l1, HL1⟩, ⟨%h1, HH1⟩, HG1, HU1⟩, ⟨HB2, ⟨%l2, HL2⟩, ⟨%h2, HH2⟩, HG2, HU2⟩,
    ⟨HB3, ⟨%l3, HL3⟩, ⟨%h3, HH3⟩, HG3, HU3⟩, ⟨HB4, ⟨%l4, HL4⟩, ⟨%h4, HH4⟩, HG4, HU4⟩, ⟨HB5, ⟨%l5, HL5⟩, ⟨%h5, HH5⟩, HG5, HU5⟩,
    ⟨HB6, ⟨%l6, HL6⟩, ⟨%h6, HH6⟩, HG6, HU6⟩, ⟨HB7, ⟨%l7, HL7⟩, ⟨%h7, HH7⟩, HG7, HU7⟩, ⟨HB8, ⟨%l8, HL8⟩, ⟨%h8, HH8⟩, HG8, HU8⟩,
    ⟨HB9, ⟨%l9, HL9⟩, ⟨%h9, HH9⟩, HG9, HU9⟩, ⟨HB10, ⟨%l10, HL10⟩, ⟨%h10, HH10⟩, HG10, HU10⟩, ⟨HB11, ⟨%l11, HL11⟩, ⟨%h11, HH11⟩, HG11, HU11⟩⟩
  set_option sl_exec.stopBefore "k0_part8" in sl_exec
  ihave HR := (ring_start c W D) $$ [HB0 HB1 HB2 HB3 HB4 HB5 HB6 HB7 HB8 HB9 HB10 HB11]
  · rw [over12]
    iframe
  -- the activations have arrived
  set_option sl_exec.maxSteps 3 in sl_exec
  ihave Hxv := (name_contents c xvM _) $$ Hxv
  icases Hxv with ⟨%X', %eX, Hxv⟩
  replace eX : X' = X := eX.trans (whole_writes cc0_scratch1 fxv (bodyRun.sl.dma0 c X))
  subst X'
  have f0 := x_read (F := F) X 0 0 (by norm_num) inb_S24x8192_S24x512_0_0
  have f1 := x_read (F := F) X 1 512 (by norm_num) inb_S24x8192_S24x512_0_512
  have f2 := x_read (F := F) X 2 1024 (by norm_num) inb_S24x8192_S24x512_0_1024
  have f3 := x_read (F := F) X 3 1536 (by norm_num) inb_S24x8192_S24x512_0_1536
  have f4 := x_read (F := F) X 4 2048 (by norm_num) inb_S24x8192_S24x512_0_2048
  have f5 := x_read (F := F) X 5 2560 (by norm_num) inb_S24x8192_S24x512_0_2560
  have f6 := x_read (F := F) X 6 3072 (by norm_num) inb_S24x8192_S24x512_0_3072
  have f7 := x_read (F := F) X 7 3584 (by norm_num) inb_S24x8192_S24x512_0_3584
  have f8 := x_read (F := F) X 8 4096 (by norm_num) inb_S24x8192_S24x512_0_4096
  have f9 := x_read (F := F) X 9 4608 (by norm_num) inb_S24x8192_S24x512_0_4608
  have f10 := x_read (F := F) X 10 5120 (by norm_num) inb_S24x8192_S24x512_0_5120
  have f11 := x_read (F := F) X 11 5632 (by norm_num) inb_S24x8192_S24x512_0_5632
  have f12 := x_read (F := F) X 12 6144 (by norm_num) inb_S24x8192_S24x512_0_6144
  have f13 := x_read (F := F) X 13 6656 (by norm_num) inb_S24x8192_S24x512_0_6656
  have f14 := x_read (F := F) X 14 7168 (by norm_num) inb_S24x8192_S24x512_0_7168
  have f15 := x_read (F := F) X 15 7680 (by norm_num) inb_S24x8192_S24x512_0_7680
  set_option sl_exec.stopBefore "k0_part19" in sl_exec
  set_option sl_exec.maxSteps 6 in sl_exec
  -- the codes are in place
  ihave Hxq := (name_contents c xqM _) $$ Hxq
  icases Hxq with ⟨%XQ, %eXQ, Hxq⟩
  replace eXQ : XQ = XQf X := by
    refine eXQ.trans (funext fun y => ?_)
    refine (whole_read cc0_scratch4 _ y).symm.trans ?_
    refine cols_step (w := 512) xqM (fun n => k0_pay19 (xinv X) (xblk X n)) fxq 7680 rfl _ _ rfl ?_ y (y 1).isLt
    iterate 15 refine cols_step (w := 512) xqM (fun n => k0_pay19 (xinv X) (xblk X n)) fxq _ rfl _ _ rfl ?_
    exact cols_nil _ _ _
  subst XQ
  ihave Hxcv := (name_contents c xcvM _) $$ Hxcv
  icases Hxcv with ⟨%XC, %eXC, Hxcv⟩
  replace eXC : XC = XCf X := by
    refine eXC.trans (funext fun y => ?_)
    refine (whole_read cc0_scratch6 _ y).symm.trans ?_
    refine cols_step (w := 512) xcvM (fun n => k0_pay18 (xinv X) (xblk X n)) fxcv 7680 rfl _ _ rfl ?_ y (y 1).isLt
    iterate 15 refine cols_step (w := 512) xcvM (fun n => k0_pay18 (xinv X) (xblk X n)) fxcv _ rfl _ _ rfl ?_
    exact cols_nil _ _ _
  subst XC
  set_option sl_exec.maxSteps 6 in sl_exec
  ihave Hsuv := (name_contents c suvM _) $$ Hsuv
  icases Hsuv with ⟨%SU', %eSU, Hsuv⟩
  replace eSU : SU' = SU := eSU.trans (whole_writes cc0_scratch2 fsuv (bodyRun.sl.dma0_1 c SU))
  subst SU'
  ihave Hhx := (hx_ent c fhx (k0_pay71 (F := F)) (k0_pay71 (F := F)) rfl) $$ Hhx
  -- the gate/up loop
  set_option sl_exec.maxSteps 1 in sl_exec
  sl_for (fun k _ => inv1 c W D (bodyRun.sl.r_6 c X) (XQf X) SU fh (k0_pay71 (F := F)) k) $$ [HR HGh HDh Hxq Hsuv Hh Hhx HW]
  case region =>
    intro k acc
    cases acc
    exact step1 c W D arg7 harg7 arg9 harg9 _ _ _ _ _ _ _ k
  · unfold inv1
    isplitl [HR]; · iexact HR
    isplitl [HGh]; · iexact HGh
    isplitl [HDh]; · iexact HDh
    isplitl [Hxq]; · iexact Hxq
    isplitl [Hsuv]; · iexact Hsuv
    isplitl [Hh]; · iexact Hh
    isplitl [Hhx]; · iexact Hhx
    iexists _; iexact HW
  iintro %acc HI
  cases acc
  rw [show (Scf.trips k0_t1_loop.lb k0_t1_loop.ub k0_t1_loop.st) = 28 by decide]
  unfold inv1
  icases HI with ⟨HR, HGh, HDh, Hxq, Hsuv, Hh, Hhx, %Wt1, HW⟩
  clear f0 f1 f2 f3 f4 f5 f6 f7 f8 f9 f10 f11 f12 f13 f14 f15
  ihave Hhx := (name_contents c hxM _) $$ Hhx
  icases Hhx with ⟨%HX, %eHX, Hhx⟩
  replace eHX : HX = hmxAll c W X SU := eHX
  subst HX
  have e5 := hx_read (F := F) c (hmxAll c W X SU)
  ihave Hh := (name_contents c hM _) $$ Hh
  icases Hh with ⟨%HH, %eHH, Hh⟩
  replace eHH : HH = hAt c W (xsc X) (XQf X) SU fh 28 := eHH
  subst HH
  have g0 := h_read (F := F) c W X SU fh 0 (by norm_num) inb_S28x24x256_S1x24x256_0_0_0
  have g1 := h_read (F := F) c W X SU fh 1 (by norm_num) inb_S28x24x256_S1x24x256_1_0_0
  have g2 := h_read (F := F) c W X SU fh 2 (by norm_num) inb_S28x24x256_S1x24x256_2_0_0
  have g3 := h_read (F := F) c W X SU fh 3 (by norm_num) inb_S28x24x256_S1x24x256_3_0_0
  have g4 := h_read (F := F) c W X SU fh 4 (by norm_num) inb_S28x24x256_S1x24x256_4_0_0
  have g5 := h_read (F := F) c W X SU fh 5 (by norm_num) inb_S28x24x256_S1x24x256_5_0_0
  have g6 := h_read (F := F) c W X SU fh 6 (by norm_num) inb_S28x24x256_S1x24x256_6_0_0
  have g7 := h_read (F := F) c W X SU fh 7 (by norm_num) inb_S28x24x256_S1x24x256_7_0_0
  have g8 := h_read (F := F) c W X SU fh 8 (by norm_num) inb_S28x24x256_S1x24x256_8_0_0
  have g9 := h_read (F := F) c W X SU fh 9 (by norm_num) inb_S28x24x256_S1x24x256_9_0_0
  have g10 := h_read (F := F) c W X SU fh 10 (by norm_num) inb_S28x24x256_S1x24x256_10_0_0
  have g11 := h_read (F := F) c W X SU fh 11 (by norm_num) inb_S28x24x256_S1x24x256_11_0_0
  have g12 := h_read (F := F) c W X SU fh 12 (by norm_num) inb_S28x24x256_S1x24x256_12_0_0
  have g13 := h_read (F := F) c W X SU fh 13 (by norm_num) inb_S28x24x256_S1x24x256_13_0_0
  have g14 := h_read (F := F) c W X SU fh 14 (by norm_num) inb_S28x24x256_S1x24x256_14_0_0
  have g15 := h_read (F := F) c W X SU fh 15 (by norm_num) inb_S28x24x256_S1x24x256_15_0_0
  have g16 := h_read (F := F) c W X SU fh 16 (by norm_num) inb_S28x24x256_S1x24x256_16_0_0
  have g17 := h_read (F := F) c W X SU fh 17 (by norm_num) inb_S28x24x256_S1x24x256_17_0_0
  have g18 := h_read (F := F) c W X SU fh 18 (by norm_num) inb_S28x24x256_S1x24x256_18_0_0
  have g19 := h_read (F := F) c W X SU fh 19 (by norm_num) inb_S28x24x256_S1x24x256_19_0_0
  have g20 := h_read (F := F) c W X SU fh 20 (by norm_num) inb_S28x24x256_S1x24x256_20_0_0
  have g21 := h_read (F := F) c W X SU fh 21 (by norm_num) inb_S28x24x256_S1x24x256_21_0_0
  have g22 := h_read (F := F) c W X SU fh 22 (by norm_num) inb_S28x24x256_S1x24x256_22_0_0
  have g23 := h_read (F := F) c W X SU fh 23 (by norm_num) inb_S28x24x256_S1x24x256_23_0_0
  have g24 := h_read (F := F) c W X SU fh 24 (by norm_num) inb_S28x24x256_S1x24x256_24_0_0
  have g25 := h_read (F := F) c W X SU fh 25 (by norm_num) inb_S28x24x256_S1x24x256_25_0_0
  have g26 := h_read (F := F) c W X SU fh 26 (by norm_num) inb_S28x24x256_S1x24x256_26_0_0
  have g27 := h_read (F := F) c W X SU fh 27 (by norm_num) inb_S28x24x256_S1x24x256_27_0_0
  set_option sl_exec.stopBefore "k0_part35" in sl_exec
  set_option sl_exec.maxSteps 9 in sl_exec
  -- the hidden layer's codes are in place
  ihave Hhq := (name_contents c hqM _) $$ Hhq
  icases Hhq with ⟨%HQ, %eHQ, Hhq⟩
  replace eHQ : HQ = HQf c W X SU := by
    refine eHQ.trans (funext fun y => ?_)
    refine (whole_read cc0_scratch5 _ y).symm.trans ?_
    refine cols_step (w := 256) hqM (fun n => k0_pay90 (hinv c W X SU) (hblk c W X SU n)) fhq 6912 rfl _ _ rfl ?_ y (y 1).isLt
    iterate 27 refine cols_step (w := 256) hqM (fun n => k0_pay90 (hinv c W X SU) (hblk c W X SU n)) fhq _ rfl _ _ rfl ?_
    exact cols_nil _ _ _
  subst HQ
  ihave Hhcv := (name_contents c hcvM _) $$ Hhcv
  icases Hhcv with ⟨%HC, %eHC, Hhcv⟩
  replace eHC : HC = HCf c W X SU := by
    refine eHC.trans (funext fun y => ?_)
    refine (whole_read cc0_scratch7 _ y).symm.trans ?_
    refine cols_step (w := 256) hcvM (fun n => k0_pay89 (hinv c W X SU) (hblk c W X SU n)) fhcv 6912 rfl _ _ rfl ?_ y (y 1).isLt
    iterate 27 refine cols_step (w := 256) hcvM (fun n => k0_pay89 (hinv c W X SU) (hblk c W X SU n)) fhcv _ rfl _ _ rfl ?_
    exact cols_nil _ _ _
  subst HC
  clear g0 g1 g2 g3 g4 g5 g6 g7 g8 g9 g10 g11 g12 g13 g14 g15 g16 g17 g18 g19 g20 g21 g22 g23 g24 g25 g26 g27 e5
  set_option sl_exec.maxSteps 6 in sl_exec
  ihave Hsdv := (name_contents c sdvM _) $$ Hsdv
  icases Hsdv with ⟨%SD', %eSD, Hsdv⟩
  replace eSD : SD' = SD := eSD.trans (whole_writes cc0_scratch3 _ (bodyRun.sl.dma0_2 c SD))
  subst SD'
  imod (batO_start c D (bodyRun.sl.r_20 c W X SU) (HQf c W X SU) SD) $$ Ho2 with HBO
  -- the down loop
  sl_for (fun k _ => inv2 c W D (bodyRun.sl.r_20 c W X SU) (HQf c W X SU) SD k) $$ [HR HDh Hov Ho HBO Hhq Hsdv HW]
  case region =>
    intro k acc
    cases acc
    exact step2 c W D arg7 harg7 arg9 harg9 _ _ _ _ _ k
  · unfold inv2
    isplitl [HR]; · iexact HR
    isplitl [HDh]; · iexact HDh
    isplitl [Hov]; · iexact Hov
    isplitl [Ho]; · iexact Ho
    isplitl [HBO]; · iexact HBO
    isplitl [Hhq]; · iexact Hhq
    isplitl [Hsdv]; · iexact Hsdv
    iexists _; iexact HW
  iintro %acc HI
  cases acc
  rw [show (Scf.trips k0_t2_loop.lb k0_t2_loop.ub k0_t2_loop.st) = 16 by decide]
  unfold inv2
  icases HI with ⟨HR, HDh, Hov, Ho, HBO, Hhq, Hsdv, %Wt2, HW⟩
  sl_exec
  sl_for (fun k _ => inv3 c D (bodyRun.sl.r_20 c W X SU) (HQf c W X SU) SD k) $$ [HBO HW]
  case region =>
    intro k acc
    cases acc
    exact step3 c D arg7 harg7 arg9 harg9 _ _ _ _ _ k
  · unfold inv3
    isplitl [HW]; · iexists _; iexact HW
    rw [if_pos (by norm_num), Nat.zero_mul]
    iexact HBO
  iintro %acc HI
  cases acc
  rw [show (Scf.trips k0_t3_loop.lb k0_t3_loop.ub k0_t3_loop.st) = 16 by decide]
  ihave HI := (inv3_end c D (bodyRun.sl.r_20 c W X SU) (HQf c W X SU) SD) $$ HI
  icases HI with ⟨⟨%Wt3, HW⟩, Ho2, HO⟩
  sl_exec
  sl_step
  ihave Hxc := (name_contents c xcM _) $$ Hxc
  icases Hxc with ⟨%XC, %eXC, Hxc⟩
  replace eXC : XC = XCf X := eXC.trans (whole_writes main_v3_1 _ (bodyRun.sl.dma0_3 c X))
  subst XC
  ihave Hhc := (name_contents c hcM _) $$ Hhc
  icases Hhc with ⟨%HC, %eHC, Hhc⟩
  replace eHC : HC = HCf c W X SU := eHC.trans (whole_writes main_v3_3 _ (bodyRun.sl.dma0_4 c W X SU))
  subst HC
  iapply Hk
  unfold POST POSTΦ
  isplitr [H7 H9 HW]
  · isplitl [Hx]; · iexact Hx
    isplitl [Hsu]; · iexact Hsu
    isplitl [Hsd]; · iexact Hsd
    isplitl [HGh]; · iexact HGh
    isplitl [HDh]; · iexact HDh
    isplitl [HO]; · iexact HO
    isplitl [Hxc]; · iexact Hxc
    isplitl [Hhc]; · iexact Hhc
    isplitl [HR]; · iexact HR
    isplitl [Hxv Hsuv Hsdv Hxq Hhq Hxcv Hhcv Hh Hhx]
    · isplitl [Hxv]; · iexists _; iexact Hxv
      isplitl [Hsuv]; · iexists _; iexact Hsuv
      isplitl [Hsdv]; · iexists _; iexact Hsdv
      isplitl [Hxq]; · iexists _; iexact Hxq
      isplitl [Hhq]; · iexists _; iexact Hhq
      isplitl [Hxcv]; · iexists _; iexact Hxcv
      isplitl [Hhcv]; · iexists _; iexact Hhcv
      isplitl [Hh]; · iexists _; iexact Hh
      iexists _; iexact Hhx
    isplitl [Hi0 Hi1 Hi2]
    · isplitl [Hi0]; · iexact Hi0
      isplitl [Hi1]; · iexact Hi1
      iexact Hi2
    isplitl [Ho0]; · iexact Ho0
    isplitl [Ho1]; · iexact Ho1
    iexact Ho2
  isplitl [H7]; · iexact H7
  isplitl [H9]; · iexact H9
  iexists _; iexact HW
end Body

end Cert.Proof.KernelIdeal
-- ==== Proof.Ideal.Join.lean ====
module

public import proofs.«01_k».proof.Proof.Ideal.Quant

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

local notation "𝕄" => MT nD τ sig Unit (Elt F) ℕ (UU nD τ) ℕ

section Sets
universe u
variable {M : Type u} [URA M]
theorem bigSep_image' {I J : Type} [DecidableEq I] [DecidableEq J] {f : I → J} {s : Finset I} (h : Set.InjOn f s) (Φ : J → sProp M) :
    bigSep (s.image f) Φ = bigSep s fun a => Φ (f a) := by
  induction s using Finset.induction_on with
  | empty => rw [Finset.image_empty, bigSep_empty, bigSep_empty]
  | insert a s ha ih =>
    rw [Finset.image_insert, bigSep_insert, bigSep_insert ha, ih (h.mono (by simp))]
    intro hm
    obtain ⟨b, hb, e⟩ := Finset.mem_image.mp hm
    have := h (Finset.mem_coe.mpr (Finset.mem_insert_of_mem hb)) (Finset.mem_coe.mpr (Finset.mem_insert_self a s)) e
    exact ha (this ▸ hb)
end Sets

section Join
variable (c : Dev nD) (W : Buf (Elt F) (wguM.view.loc (c : Thread nD τ))) (D : Buf (Elt F) (wdM.view.loc (c : Thread nD τ)))

/-- A whole buffer of the core. -/
abbrev buf_ (b : Ref sig .tc) (f : Buf (Elt F) ((c : Thread nD τ).loc b)) : sProp 𝕄 := ((c : Thread nD τ).loc b) ↦{fullShare} f

theorem at_whole (b : Ref sig .tc) (f : Buf (Elt F) ((c : Thread nD τ).loc b)) : at_ (F := F) c (Memref.whole b) f = buf_ c b f :=
  congrArg (fun S => (((c : Thread nD τ).loc b) ↦[S]{fullShare} f : sProp 𝕄)) (View.set_whole b)

/-! ## The weights -/

abbrev gRow (r : ℕ) : Finset S14336x8192.Idx := (gB r).view.set
theorem gRow_eq (r : ℕ) : gRow r = (Rect.unit (s := S14336x8192) (gOff r) S256x8192.size (gOff_inb r)).set := View.set_slice_whole _ _
theorem mem_gB (r : ℕ) (hr : r ≤ 14080) (y : S14336x8192.Idx) : y ∈ gRow r ↔ r ≤ (y 0).val ∧ (y 0).val < r + 256 := by
  have h1 : (y 1).val < 8192 := (y 1).isLt
  refine (iff_of_eq (congrArg (y ∈ ·) (gRow_eq r))).trans (Rect.mem_set_unit.trans ⟨fun h => ?_, fun h a => ?_⟩)
  · have a0 : min r 14080 ≤ (y 0).val ∧ (y 0).val < min r 14080 + 256 := h 0
    omega
  · fin_cases a
    · show min r 14080 ≤ (y 0).val ∧ (y 0).val < min r 14080 + 256; omega
    · show 0 ≤ (y 1).val ∧ (y 1).val < 0 + 8192; omega
/-- A gate/up chunk's rows. -/
def gSet (b : Fin 28) : Finset S14336x8192.Idx := gRow (b.val * 256) ∪ gRow (7168 + b.val * 256)
theorem mem_gSet (b : Fin 28) (y : S14336x8192.Idx) : y ∈ gSet b ↔ (y 0).val / 256 % 28 = b.val := by
  have h := b.isLt
  have h0 : (y 0).val < 14336 := (y 0).isLt
  refine Finset.mem_union.trans ?_
  rw [mem_gB _ (by omega), mem_gB _ (by omega)]; omega
theorem g_disj (b : Fin 28) : Disjoint (gRow (b.val * 256)) (gRow (7168 + b.val * 256)) :=
  Finset.disjoint_left.mpr fun y h h' => by
    have hb := b.isLt
    have h := (mem_gB _ (by omega) y).mp h
    have h' := (mem_gB _ (by omega) y).mp h'
    omega
theorem gPP_eq (b : Fin 28) : gPP (F := F) c W b = (((c : Thread nD τ).loc main_arg1) ↦[gSet b]{fullShare} W : sProp 𝕄) := by
  have h := pointsTo_union (Ix := Unit) (Name := ℕ) (U := UU nD τ) (Lvl := ℕ) (ℓ := (c : Thread nD τ).loc main_arg1) (q := fullShare) (f := W) (g_disj b)
  exact (equiv_iff.mp ⟨h.1, h.2⟩).symm
theorem gSet_disj (b b' : Fin 28) (h : b ≠ b') : Disjoint (gSet b) (gSet b') :=
  Finset.disjoint_left.mpr fun y hy hy' => by rw [mem_gSet] at hy hy'; exact h (Fin.ext (hy.symm.trans hy'))
theorem gSet_cover : (Finset.univ : Finset (Fin 28)).biUnion gSet = Finset.univ := by
  ext y; simp only [Finset.mem_biUnion, Finset.mem_univ, true_and, iff_true]
  exact ⟨⟨(y 0).val / 256 % 28, Nat.mod_lt _ (by decide)⟩, by rw [mem_gSet]⟩
theorem wgu_homes : buf_ (F := F) c main_arg1 W = bigSep Finset.univ (gPP c W) := by
  rw [show buf_ (F := F) c main_arg1 W = _ from Ring.pointsTo_blocks (ℓ := (c : Thread nD τ).loc main_arg1) gSet gSet_disj gSet_cover W]
  exact bigSep_congr fun b _ => (gPP_eq c W b).symm
theorem homes_first : bigSep Finset.univ (gPP (F := F) c W) = iprop((bigSep Finset.univ fun s : Fin 12 => gPP c W (Ring.bk 28 s.val)) ∗ homesG c W 0) := by
  have e : (Finset.univ : Finset (Fin 28)) = (Finset.univ.image fun s : Fin 12 => Ring.bk 28 s.val) ∪ HG 0 := by decide
  have d : Disjoint (Finset.univ.image fun s : Fin 12 => Ring.bk 28 s.val) (HG 0) := by decide
  have i : Set.InjOn (fun s : Fin 12 => Ring.bk 28 s.val) (Finset.univ : Finset (Fin 12)) := fun s _ s' _ h => by
    revert s s'; decide
  rw [e, bigSep_union d, bigSep_image' i]; rfl
theorem homesG_last : homesG (F := F) c W 28 = bigSep Finset.univ (gPP c W) := by
  unfold homesG; rw [show HG 28 = Finset.univ by decide]
theorem homesD_first : homesD (F := F) c D 0 = bigSep Finset.univ (dP c D) := by
  unfold homesD; rw [show HD 0 = Finset.univ by decide]
theorem homesD_last : homesD (F := F) c D 44 = bigSep Finset.univ (dP c D) := by
  unfold homesD; rw [show HD 44 = Finset.univ by decide]

theorem dOff_0 (b : Fin 16) : dOff b 0 = b.val * 512 := by revert b; decide
theorem dOff_1 (b : Fin 16) : dOff b 1 = 0 := by revert b; decide
def dSet (b : Fin 16) : Finset S8192x7168.Idx := (dB b).view.set
theorem dSet_eq (b : Fin 16) : dSet b = (Rect.unit (s := S8192x7168) (dOff b) S512x7168.size (dOff_inb b)).set := View.set_slice_whole _ _
theorem mem_dB (b : Fin 16) (y : S8192x7168.Idx) : y ∈ dSet b ↔ (y 0).val / 512 = b.val := by
  have h1 : (y 1).val < 7168 := (y 1).isLt
  have o0 := dOff_0 b
  have o1 := dOff_1 b
  refine (iff_of_eq (congrArg (y ∈ ·) (dSet_eq b))).trans (Rect.mem_set_unit.trans ⟨fun h => ?_, fun h a => ?_⟩)
  · have a0 : dOff b 0 ≤ (y 0).val ∧ (y 0).val < dOff b 0 + 512 := h 0
    omega
  · fin_cases a
    · show dOff b 0 ≤ (y 0).val ∧ (y 0).val < dOff b 0 + 512; omega
    · show dOff b 1 ≤ (y 1).val ∧ (y 1).val < dOff b 1 + 7168; omega
theorem dSet_disj (b b' : Fin 16) (h : b ≠ b') : Disjoint (dSet b) (dSet b') :=
  Finset.disjoint_left.mpr fun y hy hy' => h (Fin.ext (((mem_dB b y).mp hy).symm.trans ((mem_dB b' y).mp hy')))
theorem dSet_cover : (Finset.univ : Finset (Fin 16)).biUnion dSet = Finset.univ := by
  ext y; simp only [Finset.mem_biUnion, Finset.mem_univ, true_and, iff_true]
  have h0 : (y 0).val < 8192 := (y 0).isLt
  exact Exists.intro (⟨(y 0).val / 512, by omega⟩ : Fin 16) ((mem_dB _ y).mpr rfl)
theorem wd_homes : buf_ (F := F) c main_arg3 D = bigSep Finset.univ (dP c D) :=
  Ring.pointsTo_blocks (ℓ := (c : Thread nD τ).loc main_arg3) dSet dSet_disj dSet_cover D

/-! ## The result -/

theorem bk16 (b : Fin 16) : Ring.bk 16 b.val = b := by revert b; decide
theorem oOff_0 (b : Fin 16) : oOff b 0 = 0 := by revert b; decide
theorem oOff_1 (b : Fin 16) : oOff b 1 = b.val * 512 := by revert b; decide
theorem mem_oRect (b : Fin 16) (y : S24x8192.Idx) : y ∈ (Rect.unit (s := S24x8192) (oOff b) S24x512.size (oOff_inb b)).set ↔ (y 1).val / 512 = b.val := by
  have h0 : (y 0).val < 24 := (y 0).isLt
  have o0 := oOff_0 b
  have o1 := oOff_1 b
  refine Rect.mem_set_unit.trans ⟨fun h => ?_, fun h a => ?_⟩
  · have a0 : oOff b 1 ≤ (y 1).val ∧ (y 1).val < oOff b 1 + 512 := h 1
    omega
  · fin_cases a
    · show oOff b 0 ≤ (y 0).val ∧ (y 0).val < oOff b 0 + 24; omega
    · show oOff b 1 ≤ (y 1).val ∧ (y 1).val < oOff b 1 + 512; omega
abbrev oSet (b : Fin 16) : Finset S24x8192.Idx := (oB b).view.set
abbrev ovSet (b : Fin 16) : Finset S24x8192.Idx := (ovB b).view.set
theorem oSet_eq (b : Fin 16) : oSet b = (Rect.unit (s := S24x8192) (oOff b) S24x512.size (oOff_inb b)).set := View.set_slice_whole _ _
theorem ovSet_eq (b : Fin 16) : ovSet b = (Rect.unit (s := S24x8192) (oOff b) S24x512.size (oOff_inb b)).set := View.set_slice_whole _ _
theorem mem_oB (b : Fin 16) (y : S24x8192.Idx) : y ∈ oSet b ↔ (y 1).val / 512 = b.val :=
  (iff_of_eq (congrArg (y ∈ ·) (oSet_eq b))).trans (mem_oRect b y)
theorem mem_ovB (b : Fin 16) (y : S24x8192.Idx) : y ∈ ovSet b ↔ (y 1).val / 512 = b.val :=
  (iff_of_eq (congrArg (y ∈ ·) (ovSet_eq b))).trans (mem_oRect b y)
theorem cols_cover (K : Fin 16 → Finset S24x8192.Idx) (h : ∀ b y, y ∈ K b ↔ (y 1).val / 512 = b.val) : Finset.univ.biUnion K = Finset.univ := by
  ext y; simp only [Finset.mem_biUnion, Finset.mem_univ, true_and, iff_true]
  have h0 : (y 1).val < 8192 := (y 1).isLt
  exact Exists.intro (⟨(y 1).val / 512, by omega⟩ : Fin 16) ((h _ y).mpr rfl)
theorem cols_disj (K : Fin 16 → Finset S24x8192.Idx) (h : ∀ b y, y ∈ K b ↔ (y 1).val / 512 = b.val) (b b' : Fin 16) (hb : b ≠ b') : Disjoint (K b) (K b') :=
  Finset.disjoint_left.mpr fun y hy hy' => by rw [h] at hy hy'; exact hb (Fin.ext (hy.symm.trans hy'))
theorem out_blocks (f : Buf (Elt F) ((c : Thread nD τ).loc main_v3_0)) : buf_ (F := F) c main_v3_0 f = bigSep Finset.univ fun b : Fin 16 => oP c b f :=
  Ring.pointsTo_blocks (ℓ := (c : Thread nD τ).loc main_v3_0) oSet (cols_disj _ mem_oB) (cols_cover _ mem_oB) f
theorem ov_blocks (f : Buf (Elt F) ((c : Thread nD τ).loc cc0_scratch10)) : buf_ (F := F) c cc0_scratch10 f = bigSep Finset.univ fun b : Fin 16 => ovP c b f :=
  Ring.pointsTo_blocks (ℓ := (c : Thread nD τ).loc cc0_scratch10) ovSet (cols_disj _ mem_ovB) (cols_cover _ mem_ovB) f
theorem out_start (f : Buf (Elt F) ((c : Thread nD τ).loc main_v3_0)) : buf_ (F := F) c main_v3_0 f ⊢ oFrom c 0 := by
  rw [out_blocks]; unfold oFrom; rw [Ring.rangeSet_univ]
  refine bigSep_mono fun b _ => ?_
  rw [bk16]
  show (oP (F := F) c b f : sProp 𝕄) ⊢ iprop(∃ g, oP c b g)
  iintro H; iexists _; iexact H
theorem ov_start (f : Buf (Elt F) ((c : Thread nD τ).loc cc0_scratch10)) : buf_ (F := F) c cc0_scratch10 f ⊢ ovFrom c 0 := by
  rw [ov_blocks]; unfold ovFrom; rw [Ring.rangeSet_univ]
  refine bigSep_mono fun b _ => ?_
  rw [bk16]
  show (ovP (F := F) c b f : sProp 𝕄) ⊢ iprop(∃ g, ovP c b g)
  iintro H; iexists _; iexact H
theorem landO_end (v651 : FVec F S24x1 .f32) (HQ : Buf (Elt F) (hqM.view.loc (c : Thread nD τ))) (SD : Buf (Elt F) (sdvM.view.loc (c : Thread nD τ))) (b : Fin 16) :
    oP c b (landO c D v651 HQ SD b) = oP (F := F) c b (OVf c D v651 HQ SD) :=
  pts_of_read c (oB b) _ _ ((View.read_writes_whole (oB b).view _ _).trans rfl)
theorem delO_end (v651 : FVec F S24x1 .f32) (HQ : Buf (Elt F) (hqM.view.loc (c : Thread nD τ))) (SD : Buf (Elt F) (sdvM.view.loc (c : Thread nD τ))) (b : Fin 16) :
    delO c D v651 HQ SD b ⊢ iprop(oP (F := F) c b (OVf c D v651 HQ SD) ∗ ovP c b (OVf c D v651 HQ SD)) := by
  unfold delO
  rw [bk16, landO_end]
theorem out_end (v651 : FVec F S24x1 .f32) (HQ : Buf (Elt F) (hqM.view.loc (c : Thread nD τ))) (SD : Buf (Elt F) (sdvM.view.loc (c : Thread nD τ))) :
    bigSep Finset.univ (delO c D v651 HQ SD) ⊢ iprop(buf_ c main_v3_0 (OVf c D v651 HQ SD) ∗ buf_ c cc0_scratch10 (OVf c D v651 HQ SD)) := by
  rw [out_blocks, ov_blocks]
  refine BI.BIBase.Entails.trans (bigSep_mono fun b _ => ?_) (Entails.of_eq (bigSep_sep _ _ _))
  exact delO_end c D v651 HQ SD b

/-! ## The ring -/

theorem slSet_disj (b b' : Fin 12) (h : b ≠ b') : Disjoint (slSet b) (slSet b') :=
  Finset.disjoint_left.mpr fun y hy hy' => h (Fin.ext (((mem_sl b y).mp hy).symm.trans ((mem_sl b' y).mp hy')))
theorem slSet_cover : (Finset.univ : Finset (Fin 12)).biUnion slSet = Finset.univ := by
  ext y; simp only [Finset.mem_biUnion, Finset.mem_univ, true_and, iff_true]
  have h0 : (y 0).val < 12 := (y 0).isLt
  exact Exists.intro (⟨(y 0).val, h0⟩ : Fin 12) ((mem_sl _ y).mpr rfl)
theorem ring_split (f : Buf (Elt F) ((c : Thread nD τ).loc cc0_scratch0)) : buf_ (F := F) c cc0_scratch0 f = bigSep Finset.univ fun s : Fin 12 => slP c s f :=
  Ring.pointsTo_blocks (ℓ := (c : Thread nD τ).loc cc0_scratch0) slSet slSet_disj slSet_cover f
theorem ring_slots : iprop(∃ f, buf_ (F := F) c cc0_scratch0 f) ⊢ bigSep Finset.univ fun s : Fin 12 => iprop(∃ f, slP (F := F) c s f) := by
  iintro ⟨%f, H⟩
  ihave H := (BI.BIBase.Entails.trans (Entails.of_eq (ring_split c f)) (bigSep_mono fun s _ => show slP c s f ⊢ iprop(∃ f, slP (F := F) c s f) by iintro H; iexists _; iexact H)) $$ H
  iexact H
theorem idle_end (s : Fin 12) : infl (F := F) c W D s (Ring.firstFrom 44 12 s) ⊢ iprop(cellP c s ∗ ∃ f, slP c s f) := by
  have e : 44 ≤ Ring.firstFrom 44 12 s := by revert s; decide
  unfold infl
  rw [if_neg (by omega), if_neg (by omega)]
  iintro ⟨Hc, ⟨%f, Hd⟩, ⟨%g, Hr⟩⟩
  isplitl [Hc]; · iexact Hc
  iexists (restSet s).piecewise g f
  have h := pointsTo_join (Ix := Unit) (Name := ℕ) (U := UU nD τ) (Lvl := ℕ) (ℓ := (slM s).view.loc (c : Thread nD τ)) (q := fullShare) (f := f) (g := g) (I := dwSet s) (J := restSet s) Finset.disjoint_sdiff
  iapply (h.trans (Entails.of_eq (congrArg (fun S => ((slM s).view.loc (c : Thread nD τ) ↦[S]{fullShare} (restSet s).piecewise g f : sProp 𝕄)) (sl_eq_union' s).symm)))
  isplitl [Hd]; · iexact Hd
  iexact Hr
theorem ring_idle : ringAt (F := F) c W D 44 ⊢ bigSep Finset.univ fun s : Fin 12 => iprop(cellP c s ∗ ∃ f, slP c s f) := by
  unfold ringAt
  exact bigSep_mono fun s _ => idle_end c W D s
theorem ring_join : (bigSep Finset.univ fun s : Fin 12 => iprop(∃ f, slP (F := F) c s f)) ⊢ iprop(∃ f, buf_ (F := F) c cc0_scratch0 f) :=
  Ring.pointsTo_blocks_join_exists (ℓ := (c : Thread nD τ).loc cc0_scratch0) slSet slSet_disj slSet_cover
    (ringM.view.junk)

end Join

end Cert.Proof.KernelIdeal
-- ==== Proof.Ideal.Launch.lean ====
module

public import proofs.«01_k».proof.Proof.Ideal.Body
public import proofs.«01_k».proof.Proof.Ideal.Join
public import proofs.«01_k».proof.Proof.Gen.KernelIdeal.Frame
public import proofs.«01_k».proof.Proof.Gen.KernelIdeal.Points
public import proofs.«01_k».proof.Proof.Gen.KernelIdeal.Launch
public import Idealize.ShloMosaic.Adequacy
public import Idealize.ShloMosaic.Init

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3 reshapeEquiv_ix2_1ab)

variable {F : FTy → Type} [FloatOps F]

open Idealize.ShloMosaic.Pipeline (Dat Cfg Window BodyObligation cellOf)

local notation "𝕄" => MT nD τ sig Unit (Elt F) ℕ (UU nD τ) ℕ

section Launch
variable (m : (ℓ : Loc nD τ sig) → Buf (Elt F) ℓ) (ρ : Dev nD → PrngReg)

/-! ## What the region finds -/

abbrev Xm (c : Dev nD) : Buf (Elt F) (xM.view.loc (c : Thread nD τ)) := V m c main_v0
abbrev Wm (c : Dev nD) : Buf (Elt F) (wguM.view.loc (c : Thread nD τ)) := V m c main_arg1
abbrev SUm (c : Dev nD) : Buf (Elt F) (suM.view.loc (c : Thread nD τ)) := V m c main_v1
abbrev Dm (c : Dev nD) : Buf (Elt F) (wdM.view.loc (c : Thread nD τ)) := V m c main_arg3
abbrev SDm (c : Dev nD) : Buf (Elt F) (sdM.view.loc (c : Thread nD τ)) := V m c main_v2

/-! ## The kernel's own semaphores -/

abbrev osem : Fin 18 → SemLoc sig := fun i =>
  if i.val < 12 then .dma (csm (Fin.ofNat 12 i.val)).sem else if i.val < 15 then .dma (ism (Fin.ofNat 3 (i.val - 12))).sem else .dma (osm (Fin.ofNat 3 (i.val - 15))).sem
theorem ownSemFacts : Pipeline.OwnSemFacts spec0 osem := by decide
theorem ownSems0_eq (c : Dev nD) : (Pipeline.ownSems0 (Ix := Unit) (Name := ℕ) (U := UU nD τ) (Lvl := ℕ) (Val := Elt F) (τ := τ) osem c : sProp 𝕄)
    = iprop(cellP c (Fin.ofNat 12 0) ∗ cellP c (Fin.ofNat 12 1) ∗ cellP c (Fin.ofNat 12 2) ∗ cellP c (Fin.ofNat 12 3) ∗ cellP c (Fin.ofNat 12 4) ∗ cellP c (Fin.ofNat 12 5) ∗ cellP c (Fin.ofNat 12 6) ∗ cellP c (Fin.ofNat 12 7) ∗ cellP c (Fin.ofNat 12 8) ∗ cellP c (Fin.ofNat 12 9) ∗ cellP c (Fin.ofNat 12 10) ∗ cellP c (Fin.ofNat 12 11) ∗ iCell c (Fin.ofNat 3 0) ∗ iCell c (Fin.ofNat 3 1) ∗ iCell c (Fin.ofNat 3 2) ∗ oCell c (Fin.ofNat 3 0) ∗ oCell c (Fin.ofNat 3 1) ∗ oCell c (Fin.ofNat 3 2)) := by
  unfold Pipeline.ownSems0
  rw [bigSep_univ_eq_bigSepL [(⟨0, by decide⟩ : Fin 18), (⟨1, by decide⟩ : Fin 18), (⟨2, by decide⟩ : Fin 18), (⟨3, by decide⟩ : Fin 18), (⟨4, by decide⟩ : Fin 18), (⟨5, by decide⟩ : Fin 18), (⟨6, by decide⟩ : Fin 18), (⟨7, by decide⟩ : Fin 18), (⟨8, by decide⟩ : Fin 18), (⟨9, by decide⟩ : Fin 18), (⟨10, by decide⟩ : Fin 18), (⟨11, by decide⟩ : Fin 18), (⟨12, by decide⟩ : Fin 18), (⟨13, by decide⟩ : Fin 18), (⟨14, by decide⟩ : Fin 18), (⟨15, by decide⟩ : Fin 18), (⟨16, by decide⟩ : Fin 18), (⟨17, by decide⟩ : Fin 18)] (by decide) (by decide)]
  rfl

theorem unzip2 {I : Type} [DecidableEq I] (S : Finset I) (Φ Ψ : I → sProp 𝕄) : (bigSep S fun s => iprop(Φ s ∗ Ψ s)) ⊢ iprop((bigSep S Φ) ∗ (bigSep S Ψ)) :=
  Entails.of_eq (bigSep_sep S Φ Ψ)

theorem any_of (c : Dev nD) (b : Ref sig .tc) : iprop(∃ f, buf_ (F := F) c b f) ⊢ any_ c (Memref.whole b) := by
  iintro ⟨%f, H⟩; iexists f; iapply (Entails.of_eq (at_whole c b f).symm); iexact H
theorem of_any (c : Dev nD) (b : Ref sig .tc) : any_ c (Memref.whole b) ⊢ iprop(∃ f, buf_ (F := F) c b f) := by
  iintro ⟨%f, H⟩; iexists f; iapply (Entails.of_eq (at_whole c b f)); iexact H

/-! ## The pipeline's proof data -/

abbrev stA (t : Fin cfg0.N) : Memref sig .tc .vmem S1x24 .f32 := win0_0.stage (cfg0.slots t 0)
abbrev stB (t : Fin cfg0.N) : Memref sig .tc .vmem S1x24 .f32 := win0_1.stage (cfg0.slots t 1)

/-- The hidden layer's scales of the launch. -/
abbrev hscm (c : Dev nD) : FVec F S24x1 .f32 := hsc c (Wm m c) (Xm m c) (SUm m c)
/-- What the run leaves in the result. -/
abbrev outm (c : Dev nD) : Buf (Elt F) ((c : Thread nD τ).loc main_v3_0) := OVf c (Dm m c) (hscm m c) (HQf c (Wm m c) (Xm m c) (SUm m c)) (SDm m c)

/-- What the core holds beside the windows before point `n`. -/
def atPoint (c : Dev nD) : ℕ → sProp 𝕄
  | 0 => PREΦ c (Wm m c) (Dm m c) (Xm m c) (SUm m c) (SDm m c)
  | _ + 1 => POSTΦ c (Wm m c) (Dm m c) (Xm m c) (SUm m c) (SDm m c)

def dats (_ : Fin 1) (c : Dev nD) : Dat τ (Elt F) Unit ℕ (UU nD τ) ℕ cfg0 c where
  A w := V m c (Pipeline.arrRef spec0 w)
  after w t := match w with
    | ⟨0, _⟩ => (stA t).view.read (Elt F) (scW c (stA t) (k0_pay70 (xsc (Xm m c))))
    | ⟨1, _⟩ => (stB t).view.read (Elt F) (scW c (stB t) (k0_pay182 (hscm m c)))
  Φ t := atPoint m c t.val
  q _ := fullShare
  owed _ := 0

theorem after_w0 (c : Dev nD) (t : Fin cfg0.N) : (dats m 0 c).after 0 t = (stA t).view.read (Elt F) (scW c (stA t) (k0_pay70 (xsc (Xm m c)))) := by dsimp only [dats]
theorem after_w1 (c : Dev nD) (t : Fin cfg0.N) : (dats m 0 c).after 1 t = (stB t).view.read (Elt F) (scW c (stB t) (k0_pay182 (hscm m c))) := by dsimp only [dats]
theorem point_zero (t : Fin cfg0.N) : t.val = 0 := by
  have h : t.val < 1 := lt_of_lt_of_eq t.isLt (by decide)
  omega
theorem Φ_pre (c : Dev nD) (t : Fin cfg0.N) : (dats m 0 c).Φ t.castSucc = PREΦ c (Wm m c) (Dm m c) (Xm m c) (SUm m c) (SDm m c) := by
  show atPoint m c t.val = _; rw [point_zero t]; rfl
theorem Φ_post (c : Dev nD) (t : Fin cfg0.N) : (dats m 0 c).Φ t.succ = POSTΦ c (Wm m c) (Dm m c) (Xm m c) (SUm m c) (SDm m c) := by
  show atPoint m c (t.val + 1) = _; rfl
theorem Φ_first (c : Dev nD) : (dats m 0 c).Φ 0 = PREΦ c (Wm m c) (Dm m c) (Xm m c) (SUm m c) (SDm m c) := by
  show atPoint m c 0 = _; rfl
theorem Φ_last (c : Dev nD) : (dats m 0 c).Φ (Fin.last cfg0.N) = POSTΦ c (Wm m c) (Dm m c) (Xm m c) (SUm m c) (SDm m c) := by
  show atPoint m c cfg0.N = _; rw [show cfg0.N = 1 from by decide]; rfl

theorem defs_tc : (defs₀ (F := F)) .tc cfg0.body
    = fun a => bodyG (win0_0.stage (a.2 0)) (hstage0_0 0) (win0_1.stage (a.2 1)) (hstage0_1 0) := rfl
theorem prog_eq (t : Fin cfg0.N) : (defs₀ (F := F)) .tc cfg0.body (cfg0.bodyArgs t (cfg0.slots t)) = bodyG (stA t) (hstage0_0 0) (stB t) (hstage0_1 0) :=
  (congrFun defs_tc _).trans rfl

set_option backward.isDefEq.respectTransparency.types false in
theorem body_obligation (c : Dev nD) : BodyObligation (dats (F := F) m 0 c) (defs₀ (F := F)) 𝒱₀ () Set.univ := fun t => by
  rw [bigSep_W0, bigSep_W0]
  dsimp only
  simp only [after_w0, after_w1]
  rw [Φ_pre, Φ_post]
  unfold Dat.owesAt Pipeline.owesWithin
  rw [show (dats m 0 c).owed t.castSucc = 0 from rfl, show (dats m 0 c).owed t.succ = 0 from rfl]
  unfold owns
  iintro ⟨HΦ, ⟨%Wt, -, HW⟩, ⟨%d0, %g0, -, HA⟩, ⟨%d1, %g1, -, HB⟩⟩
  sl_rw [prog_eq t]
  iapply (bodyRun c (Wm m c) (Dm m c) (stA t) (hstage0_0 0) (stB t) (hstage0_1 0) (Xm m c) (SUm m c) (SDm m c))
  unfold PRE POST
  isplitl [HΦ HW HA HB]
  · isplitl [HΦ]; · iexact HΦ
    isplitl [HA]; · iexists g0; iexact HA
    isplitl [HB]; · iexists g1; iexact HB
    iexists Wt; iexact HW
  · iintro ⟨HΦ, HA, HB, ⟨%W', HW⟩⟩
    isplitl [HΦ]; · iexact HΦ
    isplitl [HW]
    · iexists W'; isplitr; · ipureintro; exact fun _ _ => Or.inl trivial
      iexact HW
    isplitl [HA]
    · iexists _; isplitr; · ipureintro; rfl
      iexact HA
    iexists _; isplitr; · ipureintro; rfl
    iexact HB

/-! ## The run -/

def intoΦ (c : Dev nD) : sProp 𝕄 := iprop(Pipeline.ownSems0 osem c ∗ buf_ c main_arg1 (V m c main_arg1) ∗ buf_ c main_arg3 (V m c main_arg3)
  ∗ buf_ c main_v0 (V m c main_v0) ∗ buf_ c main_v1 (V m c main_v1) ∗ buf_ c main_v2 (V m c main_v2)
  ∗ buf_ c main_v3_0 (V m c main_v3_0) ∗ buf_ c main_v3_1 (V m c main_v3_1) ∗ buf_ c main_v3_3 (V m c main_v3_3))
def pastΦ (c : Dev nD) : sProp 𝕄 := iprop(buf_ c main_arg0 (V m c main_arg0) ∗ buf_ c main_arg2 (V m c main_arg2) ∗ buf_ c main_arg4 (V m c main_arg4))
def outOfΦ (c : Dev nD) : sProp 𝕄 := iprop(buf_ c main_arg1 (V m c main_arg1) ∗ buf_ c main_arg3 (V m c main_arg3)
  ∗ buf_ c main_v3_0 (outm m c) ∗ buf_ c main_v3_1 (XCf (Xm m c)) ∗ buf_ c main_v3_3 (HCf c (Wm m c) (Xm m c) (SUm m c)))
def u₀ : UU nD τ := (initOf (Pipeline.cells cfgs Cert.KernelIdeal.Gen.cellOf_inj) (Pipeline.launchToks cfgs Cert.KernelIdeal.Gen.cellOf_inj), 1)
/-- What the run leaves outside the two windows' arrays. -/
def QY (c : Dev nD) (s : MemSt nD τ sig (Elt F)) : Prop :=
  (s.mem ((c : Thread nD τ).loc main_arg0) = V m c main_arg0 ∧ s.mem ((c : Thread nD τ).loc main_arg1) = V m c main_arg1 ∧ s.mem ((c : Thread nD τ).loc main_arg2) = V m c main_arg2
    ∧ s.mem ((c : Thread nD τ).loc main_arg3) = V m c main_arg3 ∧ s.mem ((c : Thread nD τ).loc main_arg4) = V m c main_arg4)
  ∧ s.mem ((c : Thread nD τ).loc main_v3_0) = outm m c ∧ s.mem ((c : Thread nD τ).loc main_v3_1) = XCf (Xm m c)
  ∧ s.mem ((c : Thread nD τ).loc main_v3_3) = HCf c (Wm m c) (Xm m c) (SUm m c)
def QC : PUnit × MemSt nD τ sig (Elt F) → Prop := fun r =>
  ∀ c : Dev nD, (∀ w : Fin cfg0.W, r.2.mem ((cfg0.win w).arr.view.loc (c : Thread nD τ)) = (dats m 0 c).arrAt w cfg0.N) ∧ QY m c r.2

theorem into_pre (c : Dev nD) : iprop(intoΦ m c ∗ Pipeline.scopedRest (Ix := Unit) (Name := ℕ) (U := UU nD τ) (Lvl := ℕ) (Val := Elt F) spec0 c) ⊢ PREΦ c (Wm m c) (Dm m c) (Xm m c) (SUm m c) (SDm m c) := by
  rw [scopedRest0_eq]
  unfold intoΦ PREΦ
  rw [ownSems0_eq, wgu_homes c (V m c main_arg1), wd_homes c (V m c main_arg3), homes_first, homesD_first]
  iintro ⟨⟨⟨C0, C1, C2, C3, C4, C5, C6, C7, C8, C9, C10, C11, I0, I1, I2, O0, O1, O2⟩, ⟨Hgs, HGh⟩, HDh, Hx, Hsu, Hsd, Ho, Hxc, Hhc⟩, S0, S1, S2, S3, S4, S5, S6, S7, S8, S9, ⟨%f10, S10⟩⟩
  ihave Hx := (Entails.of_eq (at_whole c main_v0 (V m c main_v0)).symm) $$ Hx
  ihave Hsu := (Entails.of_eq (at_whole c main_v1 (V m c main_v1)).symm) $$ Hsu
  ihave Hsd := (Entails.of_eq (at_whole c main_v2 (V m c main_v2)).symm) $$ Hsd
  ihave Hxc := (Entails.of_eq (at_whole c main_v3_1 (V m c main_v3_1)).symm) $$ Hxc
  ihave Hhc := (Entails.of_eq (at_whole c main_v3_3 (V m c main_v3_3)).symm) $$ Hhc
  ihave Ho := (out_start c (V m c main_v3_0)) $$ Ho
  ihave Hov := (ov_start c f10) $$ S10
  ihave S0 := (ring_slots c) $$ S0
  ihave Hc := (Entails.of_eq (over12 (fun s : Fin 12 => (cellP c s : sProp 𝕄))).symm) $$ [C0 C1 C2 C3 C4 C5 C6 C7 C8 C9 C10 C11]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    iexact C11
  ihave Hsl := (zip2 Finset.univ (fun s : Fin 12 => (cellP c s : sProp 𝕄)) (fun s => iprop(∃ f, slP (F := F) c s f))) $$ [Hc S0]
  · isplitl [Hc]; · iexact Hc
    iexact S0
  ihave S1 := (any_of c cc0_scratch1) $$ S1
  ihave S2 := (any_of c cc0_scratch2) $$ S2
  ihave S3 := (any_of c cc0_scratch3) $$ S3
  ihave S4 := (any_of c cc0_scratch4) $$ S4
  ihave S5 := (any_of c cc0_scratch5) $$ S5
  ihave S6 := (any_of c cc0_scratch6) $$ S6
  ihave S7 := (any_of c cc0_scratch7) $$ S7
  ihave S8 := (any_of c cc0_scratch8) $$ S8
  ihave S9 := (any_of c cc0_scratch9) $$ S9
  isplitl [Hx]; · iexact Hx
  isplitl [Hsu]; · iexact Hsu
  isplitl [Hsd]; · iexact Hsd
  isplitl [Hgs]; · iexact Hgs
  isplitl [HGh]; · iexact HGh
  isplitl [HDh]; · iexact HDh
  isplitl [Hov]; · iexact Hov
  isplitl [Ho]; · iexact Ho
  isplitl [Hxc]; · iexists _; iexact Hxc
  isplitl [Hhc]; · iexists _; iexact Hhc
  isplitl [Hsl]; · iexact Hsl
  isplitl [S1 S2 S3 S4 S5 S6 S7 S8 S9]
  · isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  isplitl [I0 I1 I2]
  · isplitl [I0]; · iexact I0
    isplitl [I1]; · iexact I1
    iexact I2
  isplitl [O0]; · iexact O0
  isplitl [O1]; · iexact O1
  iexact O2

theorem post_out (c : Dev nD) : POSTΦ c (Wm m c) (Dm m c) (Xm m c) (SUm m c) (SDm m c) ⊢ iprop(outOfΦ m c ∗ Pipeline.ownSems0 osem c ∗ Pipeline.scopedRest (Ix := Unit) (Name := ℕ) (U := UU nD τ) (Lvl := ℕ) (Val := Elt F) spec0 c) := by
  rw [scopedRest0_eq]
  unfold outOfΦ POSTΦ
  rw [ownSems0_eq, wgu_homes c (V m c main_arg1), wd_homes c (V m c main_arg3), homesG_last, homesD_last]
  iintro ⟨-, -, -, HG, HD, HO, Hxc, Hhc, HR, ⟨S1, S2, S3, S4, S5, S6, S7, S8, S9⟩, ⟨I0, I1, I2⟩, ⟨O0, O1, O2⟩⟩
  ihave HO := (out_end c (Dm m c) (hscm m c) (HQf c (Wm m c) (Xm m c) (SUm m c)) (SDm m c)) $$ HO
  icases HO with ⟨HO, S10⟩
  ihave Hxc := (Entails.of_eq (at_whole c main_v3_1 (XCf (Xm m c)))) $$ Hxc
  ihave Hhc := (Entails.of_eq (at_whole c main_v3_3 (HCf c (Wm m c) (Xm m c) (SUm m c)))) $$ Hhc
  ihave HR := (BI.BIBase.Entails.trans (ring_idle c (Wm m c) (Dm m c)) (unzip2 Finset.univ (fun s : Fin 12 => (cellP c s : sProp 𝕄)) (fun s => iprop(∃ f, slP (F := F) c s f)))) $$ HR
  icases HR with ⟨HC, S0⟩
  ihave HC := (Entails.of_eq (over12 (fun s : Fin 12 => (cellP c s : sProp 𝕄)))) $$ HC
  icases HC with ⟨C0, C1, C2, C3, C4, C5, C6, C7, C8, C9, C10, C11⟩
  ihave S0 := (ring_join c) $$ S0
  ihave S1 := (of_any c cc0_scratch1) $$ S1
  ihave S2 := (of_any c cc0_scratch2) $$ S2
  ihave S3 := (of_any c cc0_scratch3) $$ S3
  ihave S4 := (of_any c cc0_scratch4) $$ S4
  ihave S5 := (of_any c cc0_scratch5) $$ S5
  ihave S6 := (of_any c cc0_scratch6) $$ S6
  ihave S7 := (of_any c cc0_scratch7) $$ S7
  ihave S8 := (of_any c cc0_scratch8) $$ S8
  ihave S9 := (of_any c cc0_scratch9) $$ S9
  isplitl [HG HD HO Hxc Hhc]
  · isplitl [HG]; · iexact HG
    isplitl [HD]; · iexact HD
    isplitl [HO]; · iexact HO
    isplitl [Hxc]; · iexact Hxc
    iexact Hhc
  isplitl [C0 C1 C2 C3 C4 C5 C6 C7 C8 C9 C10 C11 I0 I1 I2 O0 O1 O2]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [I0]; · iexact I0
    isplitl [I1]; · iexact I1
    isplitl [I2]; · iexact I2
    isplitl [O0]; · iexact O0
    isplitl [O1]; · iexact O1
    iexact O2
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iexists _; iexact S10

set_option backward.isDefEq.respectTransparency.types false in
/-- From any memory with zero counters every weakly fair execution of @main ends, with the results at the contents
    named above, the arguments unchanged and every counter at zero. -/
theorem run_main : θ_run defs (onTc (τ := τ) (main (F := F))) (s₀ m ρ) (fun r => QC m r ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ _ => rfl)
    (X := intoΦ m) (Y := outOfΦ m) (Z := pastΦ m)
    (hX := fun c => by
      rw [unscopedRest0_eq]
      unfold intoΦ pastΦ
      iintro ⟨⟨A0, A1, A2, A3, A4, B0, B1, B2, R0, R1, R3⟩, HS, -, -, -⟩; imodintro
      isplitl [A1 A3 B0 B1 B2 R0 R1 R3 HS]
      · isplitl [HS]; · iexact HS
        isplitl [A1]; · iexact A1
        isplitl [A3]; · iexact A3
        isplitl [B0]; · iexact B0
        isplitl [B1]; · iexact B1
        isplitl [B2]; · iexact B2
        isplitl [R0]; · iexact R0
        isplitl [R1]; · iexact R1
        iexact R3
      isplitl [A0]; · iexact A0
      isplitl [A2]; · iexact A2
      iexact A4)
    (hin := fun c => by rw [Φ_first]; exact into_pre m c)
    (hout := fun c => by rw [Φ_last]; exact post_out m c)
    (QY := QY m)
    (hY := fun c s' => by
      unfold outOfΦ pastΦ
      iintro ⟨⟨A1, A3, R0, R1, R3⟩, ⟨A0, A2, A4⟩, HSI⟩
      icombine HSI A0 gives %h0
      icombine HSI A1 gives %h1
      icombine HSI A2 gives %h2
      icombine HSI A3 gives %h3
      icombine HSI A4 gives %h4
      icombine HSI R0 gives %r0
      icombine HSI R1 gives %r1
      icombine HSI R3 gives %r3
      imodintro
      isplitr
      · ipureintro
        exact ⟨⟨Buf.eq_of_forall_mem_univ h0, Buf.eq_of_forall_mem_univ h1, Buf.eq_of_forall_mem_univ h2, Buf.eq_of_forall_mem_univ h3, Buf.eq_of_forall_mem_univ h4⟩,
          Buf.eq_of_forall_mem_univ r0, Buf.eq_of_forall_mem_univ r1, Buf.eq_of_forall_mem_univ r3⟩
      iexact HSI)
    (hQ := fun _ hh hz => ⟨hh, hz⟩)

/-- The arguments are unchanged. -/
theorem args_kept {s : MemSt nD τ sig (Elt F)} {c : Dev nD} (h : QY m c s) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4) :=
  ⟨h.1.1.trans (V_main_arg0 m c), h.1.2.1.trans (V_main_arg1 m c), h.1.2.2.1.trans (V_main_arg2 m c), h.1.2.2.2.1.trans (V_main_arg3 m c), h.1.2.2.2.2.trans (V_main_arg4 m c)⟩

end Launch

end Cert.Proof.KernelIdeal
-- ==== Proof.Value.Scale.lean ====
/-
  The two ways of finding a power-of-two scale agree. The kernel finds the exponent field of `y` by a binary search over
  the floats whose fraction is zero, and builds the scale and its inverse from the field's bits; the reference counts the
  powers 2^(k-126), k < 252, that are at most `y`, and takes exp2 of the count less 126. Both are stated here for one
  extended real `y`.
-/
module

public import Idealize.ShloMosaic.PureOps.Ideal
public import Idealize.ShloMosaic.PureOps.Ideal.Laws

@[expose] public section

set_option maxRecDepth 16384

noncomputable section

namespace Cert.Proof.Value

open Idealize.ShloMosaic
open scoped BigOperators

/-! ## The floats with a zero fraction -/

/-- The float whose exponent field is `n` and whose fraction is zero. -/
def cut (n : ℕ) : EReal := Ideal.ofBits .f32 (BitVec.ofNat 32 n <<< 23)

theorem cut_eq (n : ℕ) (h1 : 1 ≤ n) (h2 : n ≤ 254) : cut n = (((2 : ℝ) ^ ((n : ℤ) - 127) : ℝ) : EReal) := by
  have hb : (BitVec.ofNat 32 n <<< 23).toNat = n * 2 ^ 23 := by
    rw [BitVec.toNat_shiftLeft, BitVec.toNat_ofNat, Nat.shiftLeft_eq]; omega
  have e1 : ((BitVec.ofNat 32 n <<< 23).extractLsb' (8 + 23) 1) = 0#1 := by
    apply BitVec.eq_of_toNat_eq
    rw [BitVec.extractLsb'_toNat, hb, Nat.shiftRight_eq_div_pow]
    show n * 2 ^ 23 / 2 ^ 31 % 2 = 0
    omega
  have e2 : ((BitVec.ofNat 32 n <<< 23).extractLsb' 23 8).toNat = n := by
    rw [BitVec.extractLsb'_toNat, hb, Nat.shiftRight_eq_div_pow]; omega
  have e3 : ((BitVec.ofNat 32 n <<< 23).extractLsb' 0 23).toNat = 0 := by
    rw [BitVec.extractLsb'_toNat, hb, Nat.shiftRight_eq_div_pow]; omega
  show Ideal.ieee 8 23 (BitVec.ofNat 32 n <<< 23) = _
  unfold Ideal.ieee
  rw [e1, e2, e3]
  rw [if_neg (by norm_num; omega), if_neg (by omega)]
  refine congrArg Real.toEReal ?_
  have e4 : ((n : ℤ) - 127) = 23 + ((n : ℤ) - (2 ^ (8 - 1) - 1) - (23 : ℕ)) := by norm_num
  rw [e4, zpow_add₀ (by norm_num)]
  norm_num

theorem cut_mono {a b : ℕ} (ha : 1 ≤ a) (hab : a ≤ b) (hb : b ≤ 254) : cut a ≤ cut b := by
  rw [cut_eq a ha (by omega), cut_eq b (by omega) hb, EReal.coe_le_coe_iff]
  exact zpow_le_zpow_right₀ (by norm_num) (by omega)

theorem exp2_int (z : ℤ) : Ideal.exp2 (((z : ℝ)) : EReal) = (((2 : ℝ) ^ z : ℝ) : EReal) := by
  rw [Ideal.exp2_coe]; exact congrArg _ (Real.rpow_intCast 2 z)

/-! ## Comparisons -/

theorem pick_cmp {α : Type} (p : Prop) [Decidable p] (a b : α) : Scalar.select (BitVec.ofBool (decide p)) a b = if p then a else b := by
  unfold Scalar.select
  by_cases h : p <;> simp [h]

/-! ## The kernel's exponent field -/

/-- One step of the search: the candidate `e + s` is taken if its float is at most `y`. -/
def kstep (y : EReal) (e s : BitVec 32) : BitVec 32 :=
  Scalar.select (Ideal.cmp .oge y (Ideal.ofBits .f32 (IntOp.shli .vector (IntOp.addi e s) 23#32))) (IntOp.addi e s) e

/-- The eight steps. -/
def ksearch (y : EReal) : BitVec 32 :=
  kstep y (kstep y (kstep y (kstep y (kstep y (kstep y (kstep y (kstep y 0#32 126#32) 63#32) 32#32) 16#32) 8#32) 4#32) 2#32) 1#32

/-- The exponent field of the scale. -/
def kbiased (y : EReal) : BitVec 32 :=
  let e := Scalar.select (Ideal.cmp .oeq y (Ideal.ofBits .f32 0x7F800000#32)) 255#32 (ksearch y)
  Scalar.select (IntOp.ori (IntOp.cmpi .eq e 0#32) (IntOp.cmpi .eq e 255#32)) 127#32 (IntOp.addi e 1#32)

/-- `n` is where the search stands with steps of total `S` to go. -/
def At (y : EReal) (S : ℕ) (e : BitVec 32) : Prop :=
  ∃ n : ℕ, e = BitVec.ofNat 32 n ∧ n + S ≤ 252 ∧ (n = 0 ∨ cut n ≤ y) ∧ (n + S = 252 ∨ y < cut (n + S + 1))

theorem kstep_at {y : EReal} {S : ℕ} {e : BitVec 32} (s : ℕ) (hs : s ≤ S) (hs1 : 1 ≤ s) (h2 : s ≤ S - s + 1) (h : At y S e) :
    At y (S - s) (kstep y e (BitVec.ofNat 32 s)) := by
  obtain ⟨n, rfl, hn, hl, hu⟩ := h
  have ea : IntOp.addi (BitVec.ofNat 32 n) (BitVec.ofNat 32 s) = BitVec.ofNat 32 (n + s) := (BitVec.ofNat_add n s).symm
  have es : IntOp.shli .vector (BitVec.ofNat 32 (n + s)) 23#32 = BitVec.ofNat 32 (n + s) <<< 23 := by
    unfold IntOp.shli; rw [if_pos (by decide)]; rfl
  unfold kstep
  rw [ea, es]
  show At y (S - s) (Scalar.select (BitVec.ofBool (decide (cut (n + s) ≤ y))) _ _)
  rw [pick_cmp]
  split
  · rename_i h
    refine ⟨n + s, rfl, by omega, Or.inr h, ?_⟩
    rcases hu with hu | hu
    · exact Or.inl (by omega)
    · right; rwa [show n + s + (S - s) + 1 = n + S + 1 by omega]
  · rename_i h
    refine ⟨n, rfl, by omega, hl, Or.inr (lt_of_lt_of_le (not_le.mp h) (cut_mono (by omega) (by omega) (by omega)))⟩

theorem ksearch_at (y : EReal) : At y 0 (ksearch y) := by
  unfold ksearch
  have h : At y 252 0#32 := ⟨0, rfl, le_refl _, Or.inl rfl, Or.inl rfl⟩
  have h := kstep_at 126 (by norm_num) (by norm_num) (by norm_num) h
  have h := kstep_at 63 (by norm_num) (by norm_num) (by norm_num) h
  have h := kstep_at 32 (by norm_num) (by norm_num) (by norm_num) h
  have h := kstep_at 16 (by norm_num) (by norm_num) (by norm_num) h
  have h := kstep_at 8 (by norm_num) (by norm_num) (by norm_num) h
  have h := kstep_at 4 (by norm_num) (by norm_num) (by norm_num) h
  have h := kstep_at 2 (by norm_num) (by norm_num) (by norm_num) h
  exact kstep_at 1 (by norm_num) (by norm_num) (by norm_num) h

/-! ## The reference's exponent -/

/-- The term counted for the power number `k`. -/
def rterm (y : EReal) (k : ℕ) : EReal :=
  ((((Ideal.cmp .ole (Ideal.exp2 (((IntOp.subi (BitVec.ofNat 32 k) 126#32).toInt : ℝ) : EReal)) y).setWidth 32).toInt : ℝ) : EReal)

/-- The exponent of the scale. -/
def rexp (y : EReal) : EReal :=
  Scalar.select (IntOp.ori (Ideal.cmp .olt y (Ideal.ofBits .f32 0x00800000#32)) (Ideal.cmp .oeq y (Ideal.ofBits .f32 0x7F800000#32)))
    (Ideal.ofBits .f32 0x00000000#32) ((∑ k : Fin 252, rterm y k.val) - Ideal.ofBits .f32 0x42FC0000#32)

theorem rterm_eq (y : EReal) (k : ℕ) (hk : k < 252) : rterm y k = if cut (k + 1) ≤ y then 1 else 0 := by
  have e0 : (IntOp.subi (BitVec.ofNat 32 k) 126#32).toInt = (k : ℤ) - 126 := by
    unfold IntOp.subi
    rw [BitVec.toInt_sub, BitVec.toInt_ofNat']
    have h126 : (126#32 : BitVec 32).toInt = 126 := by decide
    rw [h126, Int.bmod_eq_of_le (n := (k : ℤ)) (by norm_num) (by norm_num; omega)]
    rw [Int.bmod_eq_of_le (by norm_num; omega) (by norm_num; omega)]
  unfold rterm
  rw [e0, exp2_int]
  have e1 : (((2 : ℝ) ^ ((k : ℤ) - 126) : ℝ) : EReal) = cut (k + 1) := by
    rw [cut_eq (k + 1) (by omega) (by omega), show ((k + 1 : ℕ) : ℤ) - 127 = (k : ℤ) - 126 by omega]
  rw [e1]
  show ((((BitVec.ofBool (decide (cut (k + 1) ≤ y))).setWidth 32).toInt : ℝ) : EReal) = _
  by_cases h : cut (k + 1) ≤ y
  · rw [decide_eq_true h, if_pos h]
    rw [show (BitVec.setWidth 32 (BitVec.ofBool true)).toInt = 1 by decide]; norm_num
  · rw [decide_eq_false h, if_neg h]
    rw [show (BitVec.setWidth 32 (BitVec.ofBool false)).toInt = 0 by decide]; norm_num

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- If the search ends at `n`, the count is `n`. -/
theorem count_eq (y : EReal) (n : ℕ) (hn : n ≤ 252) (hl : n = 0 ∨ cut n ≤ y) (hu : n = 252 ∨ y < cut (n + 1)) :
    ∑ k : Fin 252, rterm y k.val = ((n : ℝ) : EReal) := by
  have e : ∀ k : Fin 252, rterm y k.val = (((if k.val < n then (1 : ℝ) else 0) : ℝ) : EReal) := by
    intro k
    rw [rterm_eq y k.val k.isLt]
    by_cases hk : k.val < n
    · rw [if_pos hk, if_pos]; · norm_num
      rcases hl with h | h
      · omega
      · exact le_trans (cut_mono (by omega) (by omega) (by omega)) h
    · rw [if_neg hk, if_neg]; · norm_num
      rcases hu with h | h
      · have := k.isLt; omega
      · exact not_le.mpr (lt_of_lt_of_le h (cut_mono (by omega) (by omega) (by have := k.isLt; omega)))
  rw [Finset.sum_congr rfl fun k _ => e k, coe_sum]
  refine congrArg Real.toEReal ?_
  rw [Finset.sum_ite, Finset.sum_const_zero, add_zero, Finset.sum_const, nsmul_eq_mul, mul_one]
  congr 1
  rw [Fin.card_filter_val_lt]; omega

/-- The reference's exponent is the exponent field of the kernel's scale less 127. -/
theorem scale_eq (y : EReal) : ∃ b : ℕ, 1 ≤ b ∧ b ≤ 253 ∧ kbiased y = BitVec.ofNat 32 b ∧ rexp y = ((((b : ℤ) - 127 : ℤ) : ℝ) : EReal) := by
  obtain ⟨n, he, hn, hl, hu⟩ := ksearch_at y
  have hcount := count_eq y n (by omega) hl (by simpa using hu)
  have c1 : Ideal.ofBits .f32 0x00800000#32 = cut 1 := rfl
  have c255 : Ideal.ofBits .f32 0x7F800000#32 = ⊤ := by simp [Ideal.ofBits, Ideal.ieee]
  have c0 : Ideal.ofBits .f32 0x00000000#32 = 0 := Ideal.ofBits_zero_f32
  have c126 : Ideal.ofBits .f32 0x42FC0000#32 = ((126 : ℝ) : EReal) := by
    simp [Ideal.ofBits, Ideal.ieee, -EReal.coe_mul]; norm_num
  unfold kbiased rexp
  rw [hcount, c1, c255, c0, c126, he]
  dsimp only
  show ∃ b : ℕ, 1 ≤ b ∧ b ≤ 253 ∧
    (Scalar.select (IntOp.ori (IntOp.cmpi .eq (Scalar.select (BitVec.ofBool (decide (y = ⊤))) 255#32 (BitVec.ofNat 32 n)) 0#32)
      (IntOp.cmpi .eq (Scalar.select (BitVec.ofBool (decide (y = ⊤))) 255#32 (BitVec.ofNat 32 n)) 255#32)) 127#32
      (IntOp.addi (Scalar.select (BitVec.ofBool (decide (y = ⊤))) 255#32 (BitVec.ofNat 32 n)) 1#32)) = BitVec.ofNat 32 b ∧
    Scalar.select (IntOp.ori (BitVec.ofBool (decide (y < cut 1))) (BitVec.ofBool (decide (y = ⊤)))) (0 : EReal) (((n : ℝ) : EReal) - ((126 : ℝ) : EReal)) = _
  rw [pick_cmp]
  have eor : IntOp.ori (BitVec.ofBool (decide (y < cut 1))) (BitVec.ofBool (decide (y = ⊤))) = BitVec.ofBool (decide (y < cut 1 ∨ y = ⊤)) := by
    by_cases h : y < cut 1 <;> by_cases h' : y = ⊤ <;> simp [h, h', IntOp.ori]
  rw [eor, pick_cmp]
  by_cases ht : y = ⊤
  · refine ⟨127, by norm_num, by norm_num, ?_, ?_⟩
    · rw [if_pos ht]; decide
    · rw [if_pos (Or.inr ht)]; norm_num
  rw [if_neg ht]
  by_cases h0 : n = 0
  · subst h0
    have hlt : y < cut 1 := by rcases hu with h | h; · omega
                               · simpa using h
    refine ⟨127, by norm_num, by norm_num, by decide, ?_⟩
    rw [if_pos (Or.inl hlt)]; norm_num
  · have hge : cut 1 ≤ y := le_trans (cut_mono le_rfl (by omega) (by omega)) (hl.resolve_left h0)
    refine ⟨n + 1, by omega, by omega, ?_, ?_⟩
    · have e0 : IntOp.cmpi .eq (BitVec.ofNat 32 n) 0#32 = 0#1 := by
        unfold IntOp.cmpi
        have : ((BitVec.ofNat 32 n) == 0#32) = false := by
          rw [beq_eq_false_iff_ne]; intro h; have := congrArg BitVec.toNat h; simp at this; omega
        rw [this]; rfl
      have e255 : IntOp.cmpi .eq (BitVec.ofNat 32 n) 255#32 = 0#1 := by
        unfold IntOp.cmpi
        have : ((BitVec.ofNat 32 n) == 255#32) = false := by
          rw [beq_eq_false_iff_ne]; intro h; have := congrArg BitVec.toNat h; simp at this; omega
        rw [this]; rfl
      rw [e0, e255]
      show IntOp.addi (BitVec.ofNat 32 n) 1#32 = _
      exact (BitVec.ofNat_add n 1).symm
    · rw [if_neg (by rintro (h | h); · exact absurd h (not_lt.mpr hge)
                     · exact ht h)]
      rw [← EReal.coe_sub]; congr 1; push_cast; ring

/-- The kernel's scale is the reference's, -/
theorem kscale_eq (y : EReal) : Ideal.ofBits .f32 (IntOp.shli .vector (kbiased y) 23#32) = Ideal.exp2 (rexp y) := by
  obtain ⟨b, h1, h2, hb, hr⟩ := scale_eq y
  rw [hb, hr, exp2_int, ← cut_eq b h1 (by omega)]
  unfold IntOp.shli; rw [if_pos (by decide)]; rfl

/-- and so is its inverse. -/
theorem kinv_eq (y : EReal) : Ideal.ofBits .f32 (IntOp.shli .vector (IntOp.subi 254#32 (kbiased y)) 23#32) = Ideal.exp2 (0 - rexp y) := by
  obtain ⟨b, h1, h2, hb, hr⟩ := scale_eq y
  have es : IntOp.subi 254#32 (kbiased y) = BitVec.ofNat 32 (254 - b) := by
    rw [hb]; unfold IntOp.subi
    apply BitVec.eq_of_toNat_eq
    simp only [BitVec.toNat_sub, BitVec.toNat_ofNat]; omega
  rw [es, hr]
  have e0 : (0 : EReal) - ((((b : ℤ) - 127 : ℤ) : ℝ) : EReal) = (((127 - (b : ℤ) : ℤ) : ℝ) : EReal) := by
    rw [zero_sub, ← EReal.coe_neg]; congr 1; push_cast; ring
  rw [e0, exp2_int]
  have e1 : ((127 : ℤ) - (b : ℤ)) = ((254 - b : ℕ) : ℤ) - 127 := by omega
  rw [e1, ← cut_eq (254 - b) (by omega) (by omega)]
  unfold IntOp.shli; rw [if_pos (by decide)]; rfl

end Cert.Proof.Value

end
-- ==== Proof.Value.Rows.lean ====
/-
  The row maxima, the scales and the codes of the two kernels agree.
-/
module

public import proofs.«01_k».proof.Proof.Ideal.Quant
public import proofs.«01_k».proof.Proof.Gen.ReferenceIdeal.Skeleton
public import proofs.«01_k».proof.Proof.Value.Scale
public import Idealize.ShloMosaic.Lib.Pointwise

@[expose] public section

set_option maxRecDepth 16384

noncomputable section

namespace Cert.Proof.Value

open Idealize.ShloMosaic
open Cert.Proof.KernelIdeal (xy xe xsc xinv xblk hsc hinv hy XCf XQf)
open scoped BigOperators

/-! ## The kernel's scales -/

/-- One step of the search on a column of rows, -/
def vstep (y : FVec Ideal Cert.KernelIdeal.S24x1 .f32) (e : IVec Cert.KernelIdeal.S24x1 32) (s : BitVec 32) : IVec Cert.KernelIdeal.S24x1 32 :=
  select (cmpf .oge y (bitcastToFloat .f32 (shli (addi e (broadcast Cert.KernelIdeal.S24x1 s)) (broadcast Cert.KernelIdeal.S24x1 23#32))))
    (addi e (broadcast Cert.KernelIdeal.S24x1 s)) e

/-- read at a row. -/
theorem vstep_at (y : FVec Ideal Cert.KernelIdeal.S24x1 .f32) (e : IVec Cert.KernelIdeal.S24x1 32) (s : BitVec 32) (j : Cert.KernelIdeal.S24x1.Idx) :
    vstep y e s j = kstep (y j) (e j) s := rfl

/-- The first seven steps. -/
def vseven (y : FVec Ideal Cert.KernelIdeal.S24x1 .f32) : IVec Cert.KernelIdeal.S24x1 32 :=
  vstep y (vstep y (vstep y (vstep y (vstep y (vstep y (vstep y (broadcast Cert.KernelIdeal.S24x1 0#32) 126#32) 63#32) 32#32) 16#32) 8#32) 4#32) 2#32

theorem vseven_at (y : FVec Ideal Cert.KernelIdeal.S24x1 .f32) (j : Cert.KernelIdeal.S24x1.Idx) : vstep y (vseven y) 1#32 j = ksearch (y j) := by
  unfold vseven ksearch
  simp only [vstep_at]; rfl

theorem pay8_seven (y : FVec Ideal Cert.KernelIdeal.S24x1 .f32) (e : IVec Cert.KernelIdeal.S24x1 32) (he : e = vstep y (broadcast Cert.KernelIdeal.S24x1 0#32) 126#32) :
    Cert.KernelIdeal.Gen.k0_pay8 y e 63#32 = vseven y := by
  subst he; rfl

theorem pay79_seven (y : FVec Ideal Cert.KernelIdeal.S24x1 .f32) :
    Cert.KernelIdeal.Gen.k0_pay79 y Cert.KernelIdeal.Gen.k0_pay76 Cert.KernelIdeal.Gen.k0_pay77 Cert.KernelIdeal.Gen.k0_pay78 = vseven y := rfl

/-- From the search's result to the biased exponent. -/
theorem pay11_at (y : FVec Ideal Cert.KernelIdeal.S24x1 .f32) (a : IVec Cert.KernelIdeal.S24x1 32) (ha : a = vseven y) (j : Cert.KernelIdeal.S24x1.Idx) :
    Cert.KernelIdeal.Gen.k0_pay11 y a (addi a (broadcast Cert.KernelIdeal.S24x1 1#32))
      (bitcastToFloat .f32 (shli (addi a (broadcast Cert.KernelIdeal.S24x1 1#32)) (broadcast Cert.KernelIdeal.S24x1 23#32))) j = kbiased (y j) := by
  unfold kbiased
  rw [← vseven_at y j, ← ha]
  generalize hz : vstep y a 1#32 = z
  have e : ∀ q : IVec Cert.KernelIdeal.S24x1 32, q = z →
      (select (ori (cmpi .eq (select (cmpf .oeq y (broadcast Cert.KernelIdeal.S24x1 (Scalar.ofBits .f32 0x7F800000#32 : Ideal .f32))) (broadcast Cert.KernelIdeal.S24x1 255#32) q) (broadcast Cert.KernelIdeal.S24x1 0#32))
        (cmpi .eq (select (cmpf .oeq y (broadcast Cert.KernelIdeal.S24x1 (Scalar.ofBits .f32 0x7F800000#32 : Ideal .f32))) (broadcast Cert.KernelIdeal.S24x1 255#32) q) (broadcast Cert.KernelIdeal.S24x1 255#32)))
        (broadcast Cert.KernelIdeal.S24x1 127#32)
        (addi (select (cmpf .oeq y (broadcast Cert.KernelIdeal.S24x1 (Scalar.ofBits .f32 0x7F800000#32 : Ideal .f32))) (broadcast Cert.KernelIdeal.S24x1 255#32) q) (broadcast Cert.KernelIdeal.S24x1 1#32))) j
      = Scalar.select (IntOp.ori (IntOp.cmpi .eq (Scalar.select (Ideal.cmp .oeq (y j) (Ideal.ofBits .f32 0x7F800000#32)) 255#32 (z j)) 0#32)
          (IntOp.cmpi .eq (Scalar.select (Ideal.cmp .oeq (y j) (Ideal.ofBits .f32 0x7F800000#32)) 255#32 (z j)) 255#32)) 127#32
          (IntOp.addi (Scalar.select (Ideal.cmp .oeq (y j) (Ideal.ofBits .f32 0x7F800000#32)) 255#32 (z j)) 1#32) := by
    intro q hq; subst hq; rfl
  exact e (select (cmpf .oge y (bitcastToFloat .f32 (shli (addi a (broadcast Cert.KernelIdeal.S24x1 1#32)) (broadcast Cert.KernelIdeal.S24x1 23#32)))) (addi a (broadcast Cert.KernelIdeal.S24x1 1#32)) a) hz

theorem pay81_eq11 (y : FVec Ideal Cert.KernelIdeal.S24x1 .f32) (a b : IVec Cert.KernelIdeal.S24x1 32) :
    Cert.KernelIdeal.Gen.k0_pay81 y a b = Cert.KernelIdeal.Gen.k0_pay11 y a b (bitcastToFloat .f32 (shli b (broadcast Cert.KernelIdeal.S24x1 23#32))) := rfl

section X
variable (X : Cert.KernelIdeal.S24x8192.Idx → Elt Ideal .bf16)

theorem xe_eq : xe X = vstep (xy X) (broadcast Cert.KernelIdeal.S24x1 0#32) 126#32 := rfl

theorem xb_at (j : Cert.KernelIdeal.S24x1.Idx) :
    Cert.KernelIdeal.Gen.k0_pay11 (xy X) (Cert.KernelIdeal.Gen.k0_pay8 (xy X) (xe X) 63#32) (Cert.KernelIdeal.Gen.k0_pay9 (xy X) (xe X) 63#32) (Cert.KernelIdeal.Gen.k0_pay10 (xy X) (xe X) 63#32) j
      = kbiased (xy X j) :=
  pay11_at (xy X) _ (pay8_seven (xy X) (xe X) (xe_eq X)) j

theorem xsc_at (j : Cert.KernelIdeal.S24x1.Idx) : xsc X j = Ideal.exp2 (rexp (xy X j)) := by
  rw [← kscale_eq, ← xb_at]; rfl

theorem xinv_at (j : Cert.KernelIdeal.S24x1.Idx) : xinv X j = Ideal.exp2 (0 - rexp (xy X j)) := by
  rw [← kinv_eq, ← xb_at]; rfl
end X

section H
variable (c : Dev Cert.KernelIdeal.nD) (W : Cert.KernelIdeal.S14336x8192.Idx → Elt Ideal .fp8e4m3) (X : Cert.KernelIdeal.S24x8192.Idx → Elt Ideal .bf16)
  (SU : Cert.KernelIdeal.S1x14336.Idx → Elt Ideal .f32)

theorem hb_at (j : Cert.KernelIdeal.S24x1.Idx) :
    Cert.KernelIdeal.Gen.k0_pay81 (hy c W X SU) (Cert.KernelIdeal.Gen.k0_pay79 (hy c W X SU) Cert.KernelIdeal.Gen.k0_pay76 Cert.KernelIdeal.Gen.k0_pay77 Cert.KernelIdeal.Gen.k0_pay78)
      (Cert.KernelIdeal.Gen.k0_pay80 (hy c W X SU) Cert.KernelIdeal.Gen.k0_pay76 Cert.KernelIdeal.Gen.k0_pay77 Cert.KernelIdeal.Gen.k0_pay78) j = kbiased (hy c W X SU j) := by
  rw [pay81_eq11]
  exact pay11_at (hy c W X SU) _ (pay79_seven _) j

theorem hsc_at (j : Cert.KernelIdeal.S24x1.Idx) : hsc c W X SU j = Ideal.exp2 (rexp (hy c W X SU j)) := by
  rw [← kscale_eq, ← hb_at]; rfl

theorem hinv_at (j : Cert.KernelIdeal.S24x1.Idx) : hinv c W X SU j = Ideal.exp2 (0 - rexp (hy c W X SU j)) := by
  rw [← kinv_eq, ← hb_at]; rfl
end H

/-! ## The row maxima -/

/-- The largest magnitude of a row. -/
def top {n : ℕ} (f : Fin n → EReal) : EReal := Finset.univ.fold max (Ideal.ofBits .f32 0xFF800000#32) fun k => max (f k) (-(f k))

theorem bot_bits : Ideal.ofBits .f32 0xFF800000#32 = ⊥ := by simp [Ideal.ofBits, Ideal.ieee]

theorem top_le {n : ℕ} (f : Fin n → EReal) (z : EReal) : top f ≤ z ↔ ∀ k, max (f k) (-(f k)) ≤ z := by
  unfold top
  rw [Finset.fold_max_le, bot_bits]
  simp

theorem abs_nonneg' (x : EReal) : 0 ≤ max x (-x) := by
  rcases le_total 0 x with h | h
  · exact le_max_of_le_left h
  · exact le_max_of_le_right (by rwa [← EReal.neg_le_neg_iff, neg_neg, neg_zero])

/-- A block of the activations, read at an element. -/
theorem xblk_at (X : Cert.KernelIdeal.S24x8192.Idx → Elt Ideal .bf16) (n : ℕ) (r : Fin 24) (k : Fin 512) (h : n < 16) :
    xblk X n (ix2 r k) = X (ix2 r ⟨n * 512 + k.val, by omega⟩) := by
  show X (Idealize.ShloMosaic.ValueIdx.ix2 r (Fin.ofNat 8192 (n * 512 + k.val))) = _
  rw [← ix2_eq_valueIdx]
  refine congrArg X (congrArg (ix2 r) (Fin.ext ?_))
  exact Nat.mod_eq_of_lt (by omega)

theorem xy_at (X : Cert.KernelIdeal.S24x8192.Idx → Elt Ideal .bf16) (j : Cert.KernelIdeal.S24x1.Idx) :
    xy X j = top (fun k : Fin 8192 => X (ix2 (j 0) k)) * Ideal.ofBits .f32 0x3B124925#32 := by
  pointwise [xy, Cert.KernelIdeal.Gen.k0_pay6, Cert.KernelIdeal.Gen.k0_pay5]
  refine congrArg (· * Ideal.ofBits .f32 0x3B124925#32) (eq_of_forall_ge_iff fun z => ?_)
  rw [Finset.fold_max_le, bot_bits, top_le]
  simp only [max_le_iff (c := z) , bot_le, true_and, Finset.mem_univ, forall_true_left]
  have read : ∀ (n : ℕ) (k : Fin 512) (h : n < 16), FloatOps.absf (xblk X n (ix2 (j 0) k)) = max (X (ix2 (j 0) ⟨n * 512 + k.val, by omega⟩)) (-(X (ix2 (j 0) ⟨n * 512 + k.val, by omega⟩))) := by
    intro n k h
    rw [xblk_at X n (j 0) k h]; rfl
  constructor
  · intro h k
    have hn : k.val / 512 < 16 := by omega
    have key : ∀ n, n < 16 → FloatOps.absf (xblk X n (ix2 (j 0) (⟨k.val % 512, by omega⟩ : Fin 512))) ≤ z := by
      intro n hn
      obtain ⟨⟨⟨⟨⟨⟨⟨⟨⟨⟨⟨⟨⟨⟨⟨⟨h0, a0⟩, a1⟩, a2⟩, a3⟩, a4⟩, a5⟩, a6⟩, a7⟩, a8⟩, a9⟩, a10⟩, a11⟩, a12⟩, a13⟩, a14⟩, a15⟩ := h (⟨k.val % 512, by omega⟩ : Fin 512)
      interval_cases n <;> assumption
    have h := key (k.val / 512) hn
    rw [read _ _ hn, max_le_iff] at h
    have e : (⟨k.val / 512 * 512 + k.val % 512, by omega⟩ : Fin 8192) = k := Fin.ext (by show k.val / 512 * 512 + k.val % 512 = k.val; omega)
    rwa [e] at h
  · intro h k
    have key : ∀ n, n < 16 → FloatOps.absf (xblk X n (ix2 (j 0) k)) ≤ z := by
      intro n hn; rw [read n k hn, max_le_iff]; exact h _
    have h0 : 0 ≤ z := le_trans (abs_nonneg' _) (max_le_iff.mpr (h 0))
    exact ⟨⟨⟨⟨⟨⟨⟨⟨⟨⟨⟨⟨⟨⟨⟨⟨h0, key 0 (by norm_num)⟩, key 1 (by norm_num)⟩, key 2 (by norm_num)⟩, key 3 (by norm_num)⟩, key 4 (by norm_num)⟩, key 5 (by norm_num)⟩,
      key 6 (by norm_num)⟩, key 7 (by norm_num)⟩, key 8 (by norm_num)⟩, key 9 (by norm_num)⟩, key 10 (by norm_num)⟩, key 11 (by norm_num)⟩, key 12 (by norm_num)⟩,
      key 13 (by norm_num)⟩, key 14 (by norm_num)⟩, key 15 (by norm_num)⟩

/-- The reference's exponent of a row of activations, -/
theorem rx_at (X : Vec Ideal Cert.ReferenceIdeal.S24x8192 .bf16) (j : Cert.ReferenceIdeal.S24x1.Idx) :
    Cert.ReferenceIdeal.Gen.k0_pay5 X j = rexp (top (fun k : Fin 8192 => X (ix2 (j 0) k)) * Ideal.ofBits .f32 0x3B124925#32) := by
  unfold rexp; rw [Ideal.ofBits_zero_f32]
  pointwise [Cert.ReferenceIdeal.Gen.k0_pay5, Cert.ReferenceIdeal.Gen.k0_pay4]
  rfl

/-- and of a row of the hidden layer. -/
theorem rh_at (V : FVec Ideal Cert.ReferenceIdeal.S24x14336 .f32) (SU : Vec Ideal Cert.ReferenceIdeal.S1x14336 .f32) (j : Cert.ReferenceIdeal.S24x1.Idx) :
    Cert.ReferenceIdeal.Gen.k0_pay10 V SU j = rexp (top (fun k : Fin 7168 => Cert.ReferenceIdeal.Gen.k0_pay9 V SU (ix2 (j 0) k)) * Ideal.ofBits .f32 0x3B124925#32) := by
  unfold rexp; rw [Ideal.ofBits_zero_f32]
  generalize hP : Cert.ReferenceIdeal.Gen.k0_pay9 V SU = P
  unfold Cert.ReferenceIdeal.Gen.k0_pay10
  rw [hP]
  pointwise []
  rfl

/-- The kernel's scale, inverse and codes of the activations are the reference's. -/
theorem xsc_eq (X : Cert.KernelIdeal.S24x8192.Idx → Elt Ideal .bf16) : xsc X = Cert.ReferenceIdeal.Gen.k0_pay6 X := by
  funext j
  rw [xsc_at, xy_at, ← rx_at]; rfl

theorem xinv_eq (X : Cert.KernelIdeal.S24x8192.Idx → Elt Ideal .bf16) (j : Cert.KernelIdeal.S24x1.Idx) : xinv X j = Ideal.exp2 (0 - Cert.ReferenceIdeal.Gen.k0_pay5 X j) := by
  rw [xinv_at, xy_at, ← rx_at]

/-- Clipped to the range of the codes. -/
def clip (x : EReal) : EReal := min (Ideal.ofBits .f32 0x43E00000#32) (max (Ideal.ofBits .f32 0xC3E00000#32) x)

/-- Every index of a matrix is a row and a column. -/
theorem ix2_cases {a b : ℕ} (y : (⟨2, ![a, b]⟩ : Shape).Idx) : ∃ (r : Fin a) (q : Fin b), y = ix2 r q :=
  ⟨y 0, y 1, by funext i; fin_cases i <;> rfl⟩

/-- The reference's code of an activation. -/
theorem rcode_at (X : Vec Ideal Cert.ReferenceIdeal.S24x8192 .bf16) (r : Fin 24) (q : Fin 8192) :
    Cert.ReferenceIdeal.Gen.k0_pay7 X (ix2 r q) = clip (X (ix2 r q) * Ideal.exp2 (0 - Cert.ReferenceIdeal.Gen.k0_pay5 X (ix2 r 0))) := by
  generalize hP : Cert.ReferenceIdeal.Gen.k0_pay5 X = P
  unfold Cert.ReferenceIdeal.Gen.k0_pay7 clip
  rw [hP]
  pointwise [Cert.ReferenceIdeal.Gen.k0_pay4]
  rfl

theorem pay18_at (iv : FVec Ideal Cert.KernelIdeal.S24x1 .f32) (B : Vec Ideal Cert.KernelIdeal.S24x512 .bf16) (r : Fin 24) (l : Fin 512) :
    Cert.KernelIdeal.Gen.k0_pay18 iv B (ix2 r l) = clip (B (ix2 r l) * iv (ix2 r 0)) := by
  unfold clip
  pointwise [Cert.KernelIdeal.Gen.k0_pay18, Cert.KernelIdeal.Gen.k0_pay17]

theorem pay19_at (iv : FVec Ideal Cert.KernelIdeal.S24x1 .f32) (B : Vec Ideal Cert.KernelIdeal.S24x512 .bf16) (r : Fin 24) (l : Fin 512) :
    Cert.KernelIdeal.Gen.k0_pay19 iv B (ix2 (⟨r.val, by omega⟩ : Fin 32) l) = clip (B (ix2 r l) * iv (ix2 r 0)) := by
  unfold clip
  pointwise [Cert.KernelIdeal.Gen.k0_pay19, Cert.KernelIdeal.Gen.k0_pay17]

theorem XCf_eq (X : Cert.KernelIdeal.S24x8192.Idx → Elt Ideal .bf16) : XCf X = Cert.ReferenceIdeal.Gen.k0_pay7 X := by
  funext y
  obtain ⟨r, q, rfl⟩ := ix2_cases y
  show Cert.KernelIdeal.Gen.k0_pay18 (xinv X) (xblk X (q.val / 512)) (Idealize.ShloMosaic.ValueIdx.ix2 r (Fin.ofNat 512 q.val)) = _
  rw [← ix2_eq_valueIdx, pay18_at, xblk_at X _ r _ (by omega), xinv_eq, rcode_at]
  have e : (⟨q.val / 512 * 512 + (Fin.ofNat 512 q.val).val, by show q.val / 512 * 512 + q.val % 512 < 8192; omega⟩ : Fin 8192) = q :=
    Fin.ext (by show q.val / 512 * 512 + q.val % 512 = q.val; omega)
  rw [e]

/-- The first 24 rows of the padded codes are the codes. -/
theorem XQf_at (X : Cert.KernelIdeal.S24x8192.Idx → Elt Ideal .bf16) (r : Fin 24) (q : Fin 8192) :
    XQf X (ix2 (⟨r.val, by omega⟩ : Fin 32) q) = Cert.ReferenceIdeal.Gen.k0_pay7 X (ix2 r q) := by
  show Cert.KernelIdeal.Gen.k0_pay19 (xinv X) (xblk X (q.val / 512)) (Idealize.ShloMosaic.ValueIdx.ix2 (⟨r.val, by omega⟩ : Fin 32) (Fin.ofNat 512 q.val)) = _
  rw [← ix2_eq_valueIdx, pay19_at, xblk_at X _ r _ (by omega), xinv_eq, rcode_at]
  have e : (⟨q.val / 512 * 512 + (Fin.ofNat 512 q.val).val, by show q.val / 512 * 512 + q.val % 512 < 8192; omega⟩ : Fin 8192) = q :=
    Fin.ext (by show q.val / 512 * 512 + q.val % 512 = q.val; omega)
  rw [e]

end Cert.Proof.Value

end
-- ==== Proof.Value.Hidden.lean ====
/-
  The hidden layer, its scales and its codes, and the last product agree.
-/
module

public import proofs.«01_k».proof.Proof.Value.Rows

@[expose] public section

set_option maxRecDepth 16384

noncomputable section

namespace Cert.Proof.Value

open Idealize.ShloMosaic
open Cert.Proof.KernelIdeal
open scoped BigOperators

/-! ## The chunks of the weights and scales, read at an element -/

theorem wch_gate (W : Cert.KernelIdeal.S14336x8192.Idx → Elt Ideal .fp8e4m3) (k : ℕ) (hk : k < 28) (l : Fin 256) (x : Fin 8192) :
    wch W k (ix3 (0 : Fin 1) (⟨l.val, by omega⟩ : Fin 512) x) = W (ix2 ⟨k * 256 + l.val, by omega⟩ x) := by
  show chunkG W k l.val x.val = _
  unfold chunkG wAt
  rw [if_pos l.isLt, ← ix2_eq_valueIdx]
  refine congrArg W (congrArg₂ ix2 (Fin.ext ?_) (Fin.ext ?_))
  · exact Nat.mod_eq_of_lt (by omega)
  · exact Nat.mod_eq_of_lt x.isLt

theorem wch_up (W : Cert.KernelIdeal.S14336x8192.Idx → Elt Ideal .fp8e4m3) (k : ℕ) (hk : k < 28) (l : Fin 256) (x : Fin 8192) :
    wch W k (ix3 (0 : Fin 1) (⟨256 + l.val, by omega⟩ : Fin 512) x) = W (ix2 ⟨7168 + (k * 256 + l.val), by omega⟩ x) := by
  show chunkG W k (256 + l.val) x.val = _
  unfold chunkG wAt
  rw [if_neg (by omega), ← ix2_eq_valueIdx]
  refine congrArg W (congrArg₂ ix2 (Fin.ext ?_) (Fin.ext ?_))
  · show (7168 + k * 256 + (256 + l.val - 256)) % 14336 = 7168 + (k * 256 + l.val); omega
  · exact Nat.mod_eq_of_lt x.isLt

theorem suAt_at (SU : Cert.KernelIdeal.S1x14336.Idx → Elt Ideal .f32) (n : ℕ) (l : Fin 256) (q : Fin 14336) (h : q.val = n + l.val) :
    suAt SU n (ix2 (0 : Fin 1) l) = SU (ix2 0 q) := by
  show SU (Idealize.ShloMosaic.ValueIdx.ix2 0 (Fin.ofNat 14336 (n + l.val))) = _
  rw [← ix2_eq_valueIdx]
  refine congrArg SU (congrArg (ix2 0) (Fin.ext ?_))
  show (n + l.val) % 14336 = q.val
  have := q.isLt
  omega

theorem dch_at (D : Cert.KernelIdeal.S8192x7168.Idx → Elt Ideal .fp8e4m3) (b : ℕ) (hb : b < 16) (l : Fin 512) (x : Fin 7168) :
    dch D b (ix3 (0 : Fin 1) l x) = D (ix2 ⟨b * 512 + l.val, by omega⟩ x) := by
  show dAt D (b * 512 + l.val) x.val = _
  unfold dAt
  rw [← ix2_eq_valueIdx]
  refine congrArg D (congrArg₂ ix2 (Fin.ext ?_) (Fin.ext ?_))
  · exact Nat.mod_eq_of_lt (by omega)
  · exact Nat.mod_eq_of_lt x.isLt

theorem sdAt_at (SD : Cert.KernelIdeal.S1x8192.Idx → Elt Ideal .f32) (n : ℕ) (l : Fin 512) (q : Fin 8192) (h : q.val = n + l.val) :
    sdAt SD n (ix2 (0 : Fin 1) l) = SD (ix2 0 q) := by
  show SD (Idealize.ShloMosaic.ValueIdx.ix2 0 (Fin.ofNat 8192 (n + l.val))) = _
  rw [← ix2_eq_valueIdx]
  refine congrArg SD (congrArg (ix2 0) (Fin.ext ?_))
  show (n + l.val) % 8192 = q.val
  have := q.isLt
  omega

/-! ## The hidden layer -/

/-- The product of two factors and a sigmoid, as both kernels form it. -/
def glu (g u : EReal) : EReal := g * Ideal.logistic g * u

/-- The reference's hidden layer. -/
abbrev RH (X : Cert.KernelIdeal.S24x8192.Idx → Elt Ideal .bf16) (W : Cert.KernelIdeal.S14336x8192.Idx → Elt Ideal .fp8e4m3)
    (SU : Cert.KernelIdeal.S1x14336.Idx → Elt Ideal .f32) : FVec Ideal Cert.ReferenceIdeal.S24x7168 .f32 :=
  Cert.ReferenceIdeal.Gen.k0_pay9 (Cert.ReferenceIdeal.Gen.k0_pay8 X W) SU

section Hidden
variable (c : Dev Cert.KernelIdeal.nD) (W : Cert.KernelIdeal.S14336x8192.Idx → Elt Ideal .fp8e4m3) (X : Cert.KernelIdeal.S24x8192.Idx → Elt Ideal .bf16)
  (SU : Cert.KernelIdeal.S1x14336.Idx → Elt Ideal .f32)

/-- Row `n` of the gate/up product, scaled. -/
def gu (r : Fin 24) (n : Fin 14336) : EReal :=
  (∑ x, Cert.ReferenceIdeal.Gen.k0_pay7 X (ix2 r x) * W (ix2 n x)) * Cert.ReferenceIdeal.Gen.k0_pay6 X (ix2 r 0) * SU (ix2 0 n)

theorem RH_at (r : Fin 24) (q : Fin 7168) :
    RH X W SU (ix2 r q) = glu (gu W X SU r ⟨q.val, by omega⟩) (gu W X SU r ⟨7168 + q.val, by omega⟩) := by
  unfold glu gu RH
  generalize hP : Cert.ReferenceIdeal.Gen.k0_pay7 X = P
  generalize hP' : Cert.ReferenceIdeal.Gen.k0_pay6 X = P'
  unfold Cert.ReferenceIdeal.Gen.k0_pay8
  simp only [hP, hP']
  pointwise [Cert.ReferenceIdeal.Gen.k0_pay9]

theorem pay2_at (xs : FVec Ideal Cert.KernelIdeal.S24x1 .f32) (Q : Vec Ideal Cert.KernelIdeal.S32x8192 .fp8e4m3) (B : Vec Ideal Cert.KernelIdeal.S1x512x8192 .fp8e4m3)
    (su : Vec Ideal Cert.KernelIdeal.S1x256 .f32) (r : Fin 24) (l : Fin 256) :
    Cert.KernelIdeal.Gen.k0_pay2 xs Q B su (ix2 r l)
      = (∑ x, Q (ix2 (⟨r.val, by omega⟩ : Fin 32) x) * B (ix3 0 (⟨l.val, by omega⟩ : Fin 512) x)) * xs (ix2 r 0) * su (ix2 0 l) := by
  pointwise [Cert.KernelIdeal.Gen.k0_pay2, Cert.KernelIdeal.Gen.k0_pay1]

theorem pay3_at (xs : FVec Ideal Cert.KernelIdeal.S24x1 .f32) (Q : Vec Ideal Cert.KernelIdeal.S32x8192 .fp8e4m3) (B : Vec Ideal Cert.KernelIdeal.S1x512x8192 .fp8e4m3)
    (r : Fin 24) (l : Fin 256) :
    Cert.KernelIdeal.Gen.k0_pay3 xs Q B (ix2 r l)
      = (∑ x, Q (ix2 (⟨r.val, by omega⟩ : Fin 32) x) * B (ix3 0 (⟨256 + l.val, by omega⟩ : Fin 512) x)) * xs (ix2 r 0) := by
  pointwise [Cert.KernelIdeal.Gen.k0_pay3, Cert.KernelIdeal.Gen.k0_pay1]

theorem pay72_at (g u : FVec Ideal Cert.KernelIdeal.S24x256 .f32) (su : Vec Ideal Cert.KernelIdeal.S1x256 .f32) (r : Fin 24) (l : Fin 256) :
    Cert.KernelIdeal.Gen.k0_pay72 g u su (ix2 r l) = glu (g (ix2 r l)) (u (ix2 r l) * su (ix2 0 l)) := by
  unfold glu
  pointwise [Cert.KernelIdeal.Gen.k0_pay72]

theorem pay73_at (g u : FVec Ideal Cert.KernelIdeal.S24x256 .f32) (su : Vec Ideal Cert.KernelIdeal.S1x256 .f32) (r : Fin 24) (l : Fin 256) :
    Cert.KernelIdeal.Gen.k0_pay73 g u su (ix3 (0 : Fin 1) r l) = Cert.KernelIdeal.Gen.k0_pay72 g u su (ix2 r l) := by
  generalize hP : Cert.KernelIdeal.Gen.k0_pay72 g u su = P
  unfold Cert.KernelIdeal.Gen.k0_pay73
  rw [hP]
  pointwise []

theorem pay74_at (g u : FVec Ideal Cert.KernelIdeal.S24x256 .f32) (su : Vec Ideal Cert.KernelIdeal.S1x256 .f32) (m : Vec Ideal Cert.KernelIdeal.S24x256 .f32) (r : Fin 24) (l : Fin 256) :
    Cert.KernelIdeal.Gen.k0_pay74 g u su m (ix2 r l)
      = max (m (ix2 r l)) (max (Cert.KernelIdeal.Gen.k0_pay72 g u su (ix2 r l)) (-(Cert.KernelIdeal.Gen.k0_pay72 g u su (ix2 r l)))) := by
  generalize hP : Cert.KernelIdeal.Gen.k0_pay72 g u su = P
  unfold Cert.KernelIdeal.Gen.k0_pay74
  rw [hP]
  pointwise []
  rfl

/-- A chunk of the hidden layer, before it is stored. -/
theorem chunk_at (k : ℕ) (hk : k < 28) (r : Fin 24) (l : Fin 256) :
    Cert.KernelIdeal.Gen.k0_pay72 (gateV c W (xsc X) (XQf X) SU k) (upV c W (xsc X) (XQf X) k) (suAt SU (7168 + k * 256)) (ix2 r l)
      = RH X W SU (ix2 r ⟨k * 256 + l.val, by omega⟩) := by
  rw [pay72_at, RH_at]
  unfold gateV upV gu
  rw [pay2_at, pay3_at, xsc_eq]
  simp only [XQf_at, wch_gate W k hk, wch_up W k hk]
  rw [suAt_at SU (k * 256) l ⟨k * 256 + l.val, by omega⟩ rfl, suAt_at SU (7168 + k * 256) l ⟨7168 + (k * 256 + l.val), by omega⟩ (by show 7168 + (k * 256 + l.val) = 7168 + k * 256 + l.val; omega)]

theorem hblk_at (k : ℕ) (hk : k < 28) (r : Fin 24) (l : Fin 256) :
    hblk c W X SU k (ix3 (0 : Fin 1) r l) = RH X W SU (ix2 r ⟨k * 256 + l.val, by omega⟩) := by
  unfold hblk hrow
  rw [pay73_at, chunk_at c W X SU k hk]

/-! ## The hidden layer's scales -/

/-- The running maximum after `n` chunks, at an element. -/
def mxs (n : ℕ) (r : Fin 24) (l : Fin 256) : EReal := mAt c W (xsc X) (XQf X) SU (Cert.KernelIdeal.Gen.k0_pay71 (F := Ideal)) n (ix2 r l)

theorem mxs_zero (r : Fin 24) (l : Fin 256) : mxs c W X SU 0 r l = 0 := by
  show (Cert.KernelIdeal.Gen.k0_pay71 (F := Ideal)) (ix2 r l) = 0
  pointwise [Cert.KernelIdeal.Gen.k0_pay71]

theorem mxs_succ (n : ℕ) (hn : n < 28) (r : Fin 24) (l : Fin 256) :
    mxs c W X SU (n + 1) r l = max (mxs c W X SU n r l) (max (RH X W SU (ix2 r ⟨n * 256 + l.val, by omega⟩)) (-(RH X W SU (ix2 r ⟨n * 256 + l.val, by omega⟩)))) := by
  rw [← chunk_at c W X SU n hn r l]
  exact pay74_at _ _ _ _ r l

theorem mxs_le (r : Fin 24) (l : Fin 256) (z : EReal) (n : ℕ) (hn : n ≤ 28) :
    mxs c W X SU n r l ≤ z
      ↔ 0 ≤ z ∧ ∀ (k : ℕ) (hk : k < n), max (RH X W SU (ix2 r ⟨k * 256 + l.val, by omega⟩)) (-(RH X W SU (ix2 r ⟨k * 256 + l.val, by omega⟩))) ≤ z := by
  induction n with
  | zero =>
    rw [mxs_zero]
    exact ⟨fun h => ⟨h, fun k hk => absurd hk (Nat.not_lt_zero k)⟩, fun h => h.1⟩
  | succ n ih =>
    rw [mxs_succ c W X SU n (by omega), max_le_iff, ih (by omega)]
    constructor
    · rintro ⟨⟨h0, h1⟩, h2⟩
      refine ⟨h0, fun k hk => ?_⟩
      rcases Nat.lt_succ_iff_lt_or_eq.mp hk with h | h
      · exact h1 k h
      · subst h; exact h2
    · rintro ⟨h0, h1⟩
      exact ⟨⟨h0, fun k hk => h1 k (by omega)⟩, h1 n (by omega)⟩

theorem hy_at (r : Fin 24) : hy c W X SU (ix2 r (0 : Fin 1)) = top (fun k : Fin 7168 => RH X W SU (ix2 r k)) * Ideal.ofBits .f32 0x3B124925#32 := by
  unfold hy
  generalize hP : hmxAll c W X SU = P
  pointwise [Cert.KernelIdeal.Gen.k0_pay75]
  refine congrArg (· * Ideal.ofBits .f32 0x3B124925#32) (eq_of_forall_ge_iff fun z => ?_)
  rw [Finset.fold_max_le, bot_bits, top_le]
  have hl : ∀ l : Fin 256, P (ix2 r l) ≤ z ↔ 0 ≤ z ∧ ∀ (k : ℕ) (hk : k < 28), max (RH X W SU (ix2 r ⟨k * 256 + l.val, by omega⟩)) (-(RH X W SU (ix2 r ⟨k * 256 + l.val, by omega⟩))) ≤ z := by
    intro l; rw [← hP]; exact mxs_le c W X SU r l z 28 le_rfl
  constructor
  · rintro ⟨-, h⟩ k
    have h' := ((hl ⟨k.val % 256, by omega⟩).mp (h _ (Finset.mem_univ _))).2 (k.val / 256) (by omega)
    have e : (⟨k.val / 256 * 256 + k.val % 256, by omega⟩ : Fin 7168) = k := Fin.ext (by show k.val / 256 * 256 + k.val % 256 = k.val; omega)
    simp only [e] at h'
    exact h'
  · intro h
    exact ⟨bot_le, fun l _ => (hl l).mpr ⟨le_trans (abs_nonneg' _) (h 0), fun k hk => h _⟩⟩

theorem rh_row (r : Fin 24) : Cert.ReferenceIdeal.Gen.k0_pay10 (Cert.ReferenceIdeal.Gen.k0_pay8 X W) SU (ix2 r (0 : Fin 1))
    = rexp (top (fun k : Fin 7168 => RH X W SU (ix2 r k)) * Ideal.ofBits .f32 0x3B124925#32) := rh_at _ _ _

theorem hsc_eq : hsc c W X SU = Cert.ReferenceIdeal.Gen.k0_pay11 (Cert.ReferenceIdeal.Gen.k0_pay8 X W) SU := by
  funext y
  obtain ⟨r, q, rfl⟩ := ix2_cases y
  obtain rfl : q = 0 := Fin.fin_one_eq_zero q
  rw [hsc_at, hy_at, ← rh_row]; rfl

theorem hinv_eq (r : Fin 24) : hinv c W X SU (ix2 r (0 : Fin 1)) = Ideal.exp2 (0 - Cert.ReferenceIdeal.Gen.k0_pay10 (Cert.ReferenceIdeal.Gen.k0_pay8 X W) SU (ix2 r 0)) := by
  rw [hinv_at, hy_at, ← rh_row]

/-! ## The hidden layer's codes -/

theorem rhcode_at (V : FVec Ideal Cert.ReferenceIdeal.S24x14336 .f32) (r : Fin 24) (q : Fin 7168) :
    Cert.ReferenceIdeal.Gen.k0_pay12 V SU (ix2 r q) = clip (Cert.ReferenceIdeal.Gen.k0_pay9 V SU (ix2 r q) * Ideal.exp2 (0 - Cert.ReferenceIdeal.Gen.k0_pay10 V SU (ix2 r 0))) := by
  generalize hP : Cert.ReferenceIdeal.Gen.k0_pay10 V SU = P
  generalize hP' : Cert.ReferenceIdeal.Gen.k0_pay9 V SU = P'
  unfold Cert.ReferenceIdeal.Gen.k0_pay12 clip
  rw [hP, hP']
  pointwise []
  rfl

theorem pay89_at (iv : FVec Ideal Cert.KernelIdeal.S24x1 .f32) (B : Vec Ideal Cert.KernelIdeal.S1x24x256 .f32) (r : Fin 24) (l : Fin 256) :
    Cert.KernelIdeal.Gen.k0_pay89 iv B (ix2 r l) = clip (B (ix3 0 r l) * iv (ix2 r 0)) := by
  unfold clip
  pointwise [Cert.KernelIdeal.Gen.k0_pay89, Cert.KernelIdeal.Gen.k0_pay88]

theorem pay90_at (iv : FVec Ideal Cert.KernelIdeal.S24x1 .f32) (B : Vec Ideal Cert.KernelIdeal.S1x24x256 .f32) (r : Fin 24) (l : Fin 256) :
    Cert.KernelIdeal.Gen.k0_pay90 iv B (ix2 (⟨r.val, by omega⟩ : Fin 32) l) = clip (B (ix3 0 r l) * iv (ix2 r 0)) := by
  unfold clip
  pointwise [Cert.KernelIdeal.Gen.k0_pay90, Cert.KernelIdeal.Gen.k0_pay88]

/-- The reference's codes of the hidden layer. -/
abbrev RC : FVec Ideal Cert.ReferenceIdeal.S24x7168 .fp8e4m3 := Cert.ReferenceIdeal.Gen.k0_pay12 (Cert.ReferenceIdeal.Gen.k0_pay8 X W) SU

theorem col_eq (q : Fin 7168) : (⟨q.val / 256 * 256 + (Fin.ofNat 256 q.val).val, by show q.val / 256 * 256 + q.val % 256 < 7168; omega⟩ : Fin 7168) = q :=
  Fin.ext (by show q.val / 256 * 256 + q.val % 256 = q.val; omega)

theorem HCf_eq : HCf c W X SU = RC W X SU := by
  funext y
  obtain ⟨r, q, rfl⟩ := ix2_cases y
  show Cert.KernelIdeal.Gen.k0_pay89 (hinv c W X SU) (hblk c W X SU (q.val / 256)) (Idealize.ShloMosaic.ValueIdx.ix2 r (Fin.ofNat 256 q.val)) = _
  rw [← ix2_eq_valueIdx, pay89_at, hblk_at c W X SU _ (by omega), hinv_eq, col_eq]
  exact (rhcode_at SU _ r q).symm

theorem HQf_at (r : Fin 24) (q : Fin 7168) : HQf c W X SU (ix2 (⟨r.val, by omega⟩ : Fin 32) q) = RC W X SU (ix2 r q) := by
  show Cert.KernelIdeal.Gen.k0_pay90 (hinv c W X SU) (hblk c W X SU (q.val / 256)) (Idealize.ShloMosaic.ValueIdx.ix2 (⟨r.val, by omega⟩ : Fin 32) (Fin.ofNat 256 q.val)) = _
  rw [← ix2_eq_valueIdx, pay90_at, hblk_at c W X SU _ (by omega), hinv_eq, col_eq]
  exact (rhcode_at SU _ r q).symm

/-! ## The last product -/

theorem pay4_at (xs : FVec Ideal Cert.KernelIdeal.S24x1 .f32) (Q : Vec Ideal Cert.KernelIdeal.S32x7168 .fp8e4m3) (B : Vec Ideal Cert.KernelIdeal.S1x512x7168 .fp8e4m3)
    (su : Vec Ideal Cert.KernelIdeal.S1x512 .f32) (r : Fin 24) (l : Fin 512) :
    Cert.KernelIdeal.Gen.k0_pay4 xs Q B su (ix2 r l) = (∑ x, Q (ix2 (⟨r.val, by omega⟩ : Fin 32) x) * B (ix3 0 l x)) * xs (ix2 r 0) * su (ix2 0 l) := by
  pointwise [Cert.KernelIdeal.Gen.k0_pay4]

theorem rout_at (hs : FVec Ideal Cert.ReferenceIdeal.S24x1 .f32) (Q : FVec Ideal Cert.ReferenceIdeal.S24x7168 .fp8e4m3) (D : Vec Ideal Cert.ReferenceIdeal.S8192x7168 .fp8e4m3)
    (SD : Vec Ideal Cert.ReferenceIdeal.S1x8192 .f32) (r : Fin 24) (q : Fin 8192) :
    Cert.ReferenceIdeal.Gen.k0_pay1 hs Q D SD (ix2 r q) = (∑ x, Q (ix2 r x) * D (ix2 q x)) * hs (ix2 r 0) * SD (ix2 0 q) := by
  pointwise [Cert.ReferenceIdeal.Gen.k0_pay1]

theorem OVf_eq (D : Cert.KernelIdeal.S8192x7168.Idx → Elt Ideal .fp8e4m3) (SD : Cert.KernelIdeal.S1x8192.Idx → Elt Ideal .f32) :
    OVf c D (hsc c W X SU) (HQf c W X SU) SD
      = Cert.ReferenceIdeal.Gen.k0_pay1 (Cert.ReferenceIdeal.Gen.k0_pay11 (Cert.ReferenceIdeal.Gen.k0_pay8 X W) SU) (RC W X SU) D SD := by
  funext y
  obtain ⟨r, q, rfl⟩ := ix2_cases y
  show Cert.KernelIdeal.Gen.k0_pay4 (hsc c W X SU) (HQf c W X SU) (dch D (q.val / 512)) (sdAt SD (q.val / 512 * 512)) (Idealize.ShloMosaic.ValueIdx.ix2 r (Fin.ofNat 512 q.val)) = _
  have e : (⟨q.val / 512 * 512 + (Fin.ofNat 512 q.val).val, by show q.val / 512 * 512 + q.val % 512 < 8192; omega⟩ : Fin 8192) = q :=
    Fin.ext (by show q.val / 512 * 512 + q.val % 512 = q.val; omega)
  rw [← ix2_eq_valueIdx, pay4_at, rout_at, hsc_eq]
  simp only [HQf_at, dch_at D (q.val / 512) (by omega), e]
  rw [sdAt_at SD (q.val / 512 * 512) (Fin.ofNat 512 q.val) q (by show q.val = q.val / 512 * 512 + q.val % 512; omega)]
end Hidden

end Cert.Proof.Value

end
-- ==== Proof.Value.RefOut.lean ====
/-
  What the reference's run leaves in its five results, over the arguments.
-/
module

public import proofs.«01_k».proof.Proof.Gen.ReferenceIdeal.Frame
public import Idealize.ShloMosaic.Lib.Pointwise
public import Idealize.ShloMosaic.Lib.Claim
public import Idealize.ShloMosaic.Lib.Pipeline.ValueKit.Point
public import Idealize.ShloMosaic.Lib.Pipeline.ValueKit.Geometry
public import Idealize.ShloMosaic.Lib.Pipeline.ValueKit.Acc

@[expose] public section

set_option maxRecDepth 16384

noncomputable section

namespace Cert.Proof.Value.Ref

open Cert.ReferenceIdeal Cert.ReferenceIdeal.Gen
open Idealize.ShloMosaic
open Idealize.ShloMosaic.TcCoe Idealize.ShloMosaic.Tactic

variable (m : (ℓ : Loc nD τ sig) → Buf (Elt Ideal) ℓ) (c : Dev nD)

/-- The arguments as the kernel finds them. -/
abbrev Xr : S24x8192.Idx → Elt Ideal .bf16 := V m c main_v0
abbrev Wr : S14336x8192.Idx → Elt Ideal .fp8e4m3 := V m c main_arg1
abbrev SUr : S1x14336.Idx → Elt Ideal .f32 := V m c main_v1
abbrev Dr : S8192x7168.Idx → Elt Ideal .fp8e4m3 := V m c main_arg3
abbrev SDr : S1x8192.Idx → Elt Ideal .f32 := V m c main_v2

theorem ix0 (t : Fin cfg0.N) (a : Fin 2) : win0_0.index t a = 0 := by revert t a; decide +kernel
theorem ix1 (t : Fin cfg0.N) (a : Fin 2) : win0_1.index t a = 0 := by revert t a; decide +kernel
theorem ix2 (t : Fin cfg0.N) (a : Fin 2) : win0_2.index t a = 0 := by revert t a; decide +kernel
theorem ix3 (t : Fin cfg0.N) (a : Fin 2) : win0_3.index t a = 0 := by revert t a; decide +kernel
theorem ix4 (t : Fin cfg0.N) (a : Fin 2) : win0_4.index t a = 0 := by revert t a; decide +kernel
theorem ix5 (t : Fin cfg0.N) (a : Fin 2) : win0_5.index t a = 0 := by revert t a; decide +kernel
theorem ix6 (t : Fin cfg0.N) (a : Fin 2) : win0_6.index t a = 0 := by revert t a; decide +kernel
theorem ix7 (t : Fin cfg0.N) (a : Fin 2) : win0_7.index t a = 0 := by revert t a; decide +kernel
theorem ix8 (t : Fin cfg0.N) (a : Fin 2) : win0_8.index t a = 0 := by revert t a; decide +kernel
theorem ix9 (t : Fin cfg0.N) (a : Fin 2) : win0_9.index t a = 0 := by revert t a; decide +kernel
theorem blk0 (t : Fin cfg0.N) : iblk m c 0 t = Xr m c := by
  funext y
  blk_ext [iblk, ix0]
theorem blk1 (t : Fin cfg0.N) : iblk m c 1 t = Wr m c := by
  funext y
  blk_ext [iblk, ix1]
theorem blk2 (t : Fin cfg0.N) : iblk m c 2 t = SUr m c := by
  funext y
  blk_ext [iblk, ix2]
theorem blk3 (t : Fin cfg0.N) : iblk m c 3 t = Dr m c := by
  funext y
  blk_ext [iblk, ix3]
theorem blk4 (t : Fin cfg0.N) : iblk m c 4 t = SDr m c := by
  funext y
  blk_ext [iblk, ix4]

section Outs
variable (x0 : Vec Ideal S24x8192 .bf16) (x1 : Vec Ideal S14336x8192 .fp8e4m3) (x2 : Vec Ideal S1x14336 .f32) (x3 : Vec Ideal S8192x7168 .fp8e4m3) (x4 : Vec Ideal S1x8192 .f32)
theorem out5 : out0_5 x0 x1 x2 x3 x4 = k0_pay1 (k0_pay11 (k0_pay8 x0 x1) x2) (k0_pay12 (k0_pay8 x0 x1) x2) x3 x4 := by
  unfold_out out0_5
  frame_out
theorem out6 : out0_6 x0 x1 x2 x3 x4 = k0_pay7 x0 := by
  unfold_out out0_6
  frame_out
theorem out7 : out0_7 x0 x1 x2 x3 x4 = k0_pay2 (k0_pay6 x0) := by
  unfold_out out0_7
  frame_out
theorem out8 : out0_8 x0 x1 x2 x3 x4 = k0_pay12 (k0_pay8 x0 x1) x2 := by
  unfold_out out0_8
  frame_out
theorem out9 : out0_9 x0 x1 x2 x3 x4 = k0_pay3 (k0_pay11 (k0_pay8 x0 x1) x2) := by
  unfold_out out0_9
  frame_out
end Outs

theorem arr5 : (dats m 0 c).arrAt 5 cfg0.N = k0_pay1 (k0_pay11 (k0_pay8 (Xr m c) (Wr m c)) (SUr m c)) (k0_pay12 (k0_pay8 (Xr m c) (Wr m c)) (SUr m c)) (Dr m c) (SDr m c) := by
  refine (dats m 0 c).arrAt_eq_of_covers 5 _ (by decide +kernel) fun t hf y => ?_
  blk_simp
  rw [after0_5, blk0, blk1, blk2, blk3, blk4, out5]
  refine congrArg _ (funext fun a => Fin.ext ?_)
  fin_cases a <;> blk_simp [ix5]
theorem arr6 : (dats m 0 c).arrAt 6 cfg0.N = k0_pay7 (Xr m c) := by
  refine (dats m 0 c).arrAt_eq_of_covers 6 _ (by decide +kernel) fun t hf y => ?_
  blk_simp
  rw [after0_6, blk0, blk1, blk2, blk3, blk4, out6]
  refine congrArg _ (funext fun a => Fin.ext ?_)
  fin_cases a <;> blk_simp [ix6]
theorem arr7 : (dats m 0 c).arrAt 7 cfg0.N = k0_pay2 (k0_pay6 (Xr m c)) := by
  refine (dats m 0 c).arrAt_eq_of_covers 7 _ (by decide +kernel) fun t hf y => ?_
  blk_simp
  rw [after0_7, blk0, blk1, blk2, blk3, blk4, out7]
  refine congrArg _ (funext fun a => Fin.ext ?_)
  fin_cases a <;> blk_simp [ix7]
theorem arr8 : (dats m 0 c).arrAt 8 cfg0.N = k0_pay12 (k0_pay8 (Xr m c) (Wr m c)) (SUr m c) := by
  refine (dats m 0 c).arrAt_eq_of_covers 8 _ (by decide +kernel) fun t hf y => ?_
  blk_simp
  rw [after0_8, blk0, blk1, blk2, blk3, blk4, out8]
  refine congrArg _ (funext fun a => Fin.ext ?_)
  fin_cases a <;> blk_simp [ix8]
theorem arr9 : (dats m 0 c).arrAt 9 cfg0.N = k0_pay3 (k0_pay11 (k0_pay8 (Xr m c) (Wr m c)) (SUr m c)) := by
  refine (dats m 0 c).arrAt_eq_of_covers 9 _ (by decide +kernel) fun t hf y => ?_
  blk_simp
  rw [after0_9, blk0, blk1, blk2, blk3, blk4, out9]
  refine congrArg _ (funext fun a => Fin.ext ?_)
  fin_cases a <;> blk_simp [ix9]

end Cert.Proof.Value.Ref

end
-- ==== Proof.Value.Claim.lean ====
/-
  The value claim: from memories agreeing on the arguments the kernel and the reference end with equal results.
-/
module

public import proofs.«01_k».proof.Proof.Ideal.Launch
public import proofs.«01_k».proof.Proof.Value.Hidden
public import proofs.«01_k».proof.Proof.Value.RefOut
public import proofs.«01_k».proof.Defs

@[expose] public section

set_option maxRecDepth 16384

noncomputable section

namespace Cert.Proof.Value

open Idealize.ShloMosaic
open Idealize.ShloMosaic.TcCoe Idealize.ShloMosaic.Tactic

/-! ## What the kernel's run leaves in the two results that it stages -/

section Staged
open Cert.KernelIdeal Cert.KernelIdeal.Gen
open Cert.Proof.KernelIdeal
variable (m : (ℓ : Loc Cert.KernelIdeal.nD Cert.KernelIdeal.τ Cert.KernelIdeal.sig) → Buf (Elt Ideal) ℓ) (c : Dev Cert.KernelIdeal.nD)

theorem kix0 (t : Fin cfg0.N) (a : Fin 2) : win0_0.index t a = 0 := by revert t a; decide +kernel
theorem kix1 (t : Fin cfg0.N) (a : Fin 2) : win0_1.index t a = 0 := by revert t a; decide +kernel

/-- A scales window reads as what was stored in it. -/
theorem scW_read (a : Memref Cert.KernelIdeal.sig .tc .vmem S1x24 .f32) (p : FVec Ideal S1x24 .f32) (y : S1x24.Idx) :
    a.view.read (Elt Ideal) (scW c a p) y = p y := by
  unfold scW
  rw [View.read_writes_junk_eq_canon]
  frame_out

theorem karr0 : (Cert.Proof.KernelIdeal.dats m 0 c).arrAt 0 cfg0.N = k0_pay70 (xsc (Xm m c)) := by
  refine (Cert.Proof.KernelIdeal.dats m 0 c).arrAt_eq_of_covers 0 _ (by decide +kernel) fun t hf y => ?_
  blk_simp
  rw [after_w0]
  refine (scW_read c (stA t) _ y).trans ?_
  refine congrArg _ (funext fun a => Fin.ext ?_)
  fin_cases a <;> blk_simp [kix0]

theorem karr1 : (Cert.Proof.KernelIdeal.dats m 0 c).arrAt 1 cfg0.N = k0_pay182 (hscm m c) := by
  refine (Cert.Proof.KernelIdeal.dats m 0 c).arrAt_eq_of_covers 1 _ (by decide +kernel) fun t hf y => ?_
  blk_simp
  rw [after_w1]
  refine (scW_read c (stB t) _ y).trans ?_
  refine congrArg _ (funext fun a => Fin.ext ?_)
  fin_cases a <;> blk_simp [kix1]
end Staged

/-! ## The arguments as the two kernels find them -/

section Args
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem X_eq (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Ref.Xr m' c = Cert.Proof.KernelIdeal.Xm m c := by
  unfold Ref.Xr Cert.Proof.KernelIdeal.Xm
  entry_read
  rw [h]; rfl
theorem SU_eq (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Ref.SUr m' c = Cert.Proof.KernelIdeal.SUm m c := by
  unfold Ref.SUr Cert.Proof.KernelIdeal.SUm
  entry_read
  rw [h]; rfl
theorem SD_eq (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Ref.SDr m' c = Cert.Proof.KernelIdeal.SDm m c := by
  unfold Ref.SDr Cert.Proof.KernelIdeal.SDm
  entry_read
  rw [h]; rfl
theorem W_eq (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Ref.Wr m' c = Cert.Proof.KernelIdeal.Wm m c :=
  (Cert.ReferenceIdeal.Gen.V_main_arg1 m' c).trans (h.trans (Cert.KernelIdeal.Gen.V_main_arg1 m c).symm)
theorem D_eq (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Ref.Dr m' c = Cert.Proof.KernelIdeal.Dm m c :=
  (Cert.ReferenceIdeal.Gen.V_main_arg3 m' c).trans (h.trans (Cert.KernelIdeal.Gen.V_main_arg3 m c).symm)
end Args

/-! ## The claim -/

theorem algebraic : Cert.algebraic_KernelIdeal_ReferenceIdeal (hKernelIdeal := Cert.KernelIdeal.Gen.facts) (hReferenceIdeal := Cert.ReferenceIdeal.Gen.facts) := by
  intro m g m' g' _ hag
  refine ⟨fun c => Cert.Proof.KernelIdeal.outm m c, fun c => Cert.Proof.KernelIdeal.XCf (Cert.Proof.KernelIdeal.Xm m c),
    fun c => Cert.KernelIdeal.Gen.k0_pay70 (Cert.Proof.KernelIdeal.xsc (Cert.Proof.KernelIdeal.Xm m c)),
    fun c => Cert.Proof.KernelIdeal.HCf c (Cert.Proof.KernelIdeal.Wm m c) (Cert.Proof.KernelIdeal.Xm m c) (Cert.Proof.KernelIdeal.SUm m c),
    fun c => Cert.KernelIdeal.Gen.k0_pay182 (Cert.Proof.KernelIdeal.hscm m c), ?_, ?_⟩
  · refine (θ_run _ _ _).mono (fun r hh c => ?_) (Cert.Proof.KernelIdeal.run_main (F := Ideal) m g)
    obtain ⟨hw, ha, h0, h1, h3⟩ := hh.1 c
    obtain ⟨a0, a1, a2, a3, a4⟩ := Cert.Proof.KernelIdeal.args_kept m (hh.1 c).2
    exact ⟨h0, h1, (hw 0).trans (karr0 m c), h3, (hw 1).trans (karr1 m c), a0, a1, a2, a3, a4⟩
  · have hframe := Cert.ReferenceIdeal.Gen.run_main (F := Ideal) m' g'
    refine (θ_run _ _ _).mono (fun r h c => ?_) hframe
    obtain ⟨e0, e1, e2, e3, e4⟩ := hag c
    have eX := X_eq m m' c e0
    have eW := W_eq m m' c e1
    have eSU := SU_eq m m' c e2
    have eD := D_eq m m' c e3
    have eSD := SD_eq m m' c e4
    refine ⟨((h c).1 5).trans ((Ref.arr5 m' c).trans ?_), ((h c).1 6).trans ((Ref.arr6 m' c).trans ?_), ((h c).1 7).trans ((Ref.arr7 m' c).trans ?_),
      ((h c).1 8).trans ((Ref.arr8 m' c).trans ?_), ((h c).1 9).trans ((Ref.arr9 m' c).trans ?_),
      ((h c).2 Cert.ReferenceIdeal.main_arg0 (Pipeline.mem_restRefs_of Cert.ReferenceIdeal.main_arg0 (by decide) (by decide))).trans (Cert.ReferenceIdeal.Gen.V_main_arg0 m' c),
      ((h c).1 1).trans (((Cert.ReferenceIdeal.Gen.dats m' 0 c).arrAt_in 1 rfl _).trans ((Cert.ReferenceIdeal.Gen.A_eq m' c 1).trans (Cert.ReferenceIdeal.Gen.V_main_arg1 m' c))),
      ((h c).2 Cert.ReferenceIdeal.main_arg2 (Pipeline.mem_restRefs_of Cert.ReferenceIdeal.main_arg2 (by decide) (by decide))).trans (Cert.ReferenceIdeal.Gen.V_main_arg2 m' c),
      ((h c).1 3).trans (((Cert.ReferenceIdeal.Gen.dats m' 0 c).arrAt_in 3 rfl _).trans ((Cert.ReferenceIdeal.Gen.A_eq m' c 3).trans (Cert.ReferenceIdeal.Gen.V_main_arg3 m' c))),
      ((h c).2 Cert.ReferenceIdeal.main_arg4 (Pipeline.mem_restRefs_of Cert.ReferenceIdeal.main_arg4 (by decide) (by decide))).trans (Cert.ReferenceIdeal.Gen.V_main_arg4 m' c)⟩
    · rw [eX, eW, eSU, eD, eSD]; exact (OVf_eq c _ _ _ _ _).symm
    · rw [eX]; exact (XCf_eq _).symm
    · rw [eX, ← xsc_eq]; rfl
    · rw [eX, eW, eSU]; exact (HCf_eq c _ _ _).symm
    · rw [eX, eW, eSU, ← hsc_eq c]; rfl

end Cert.Proof.Value

end
-- ==== Proof.lean ====
/-
  The proof of the certificate's claims. Each program's frame — it terminates without a fault, leaves its arguments
  unchanged and every semaphore at zero — comes from its launch theorem (Proof/Launch.lean for the kernel,
  Proof/Ideal/Launch.lean for the same kernel read over the extended reals); the reference's frame is generated.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Launch
public import proofs.«01_k».proof.Proof.Ideal.Launch
public import proofs.«01_k».proof.Proof.Value.Claim

@[expose] public section

noncomputable section

namespace Cert.Proof

open Idealize.ShloMosaic Idealize.SL.Sem

/-- The kernel terminates, keeps its arguments and ends with every semaphore at zero. -/
theorem frame_kernel : Cert.quiescent_Kernel (hKernel := Cert.Kernel.Gen.facts) := fun m ρ _ =>
  (θ_run _ _ _).mono (fun _ hh => ⟨fun c => Cert.Proof.Kernel.args_kept m (hh.1 c).2, hh.2⟩)
    (Cert.Proof.Kernel.run_main (F := Bits) m ρ)

/-- So does the kernel read over the extended reals. -/
theorem frame_ideal : Cert.quiescent_KernelIdeal (hKernelIdeal := Cert.KernelIdeal.Gen.facts) := fun m ρ _ =>
  (θ_run _ _ _).mono (fun _ hh => ⟨fun c => Cert.Proof.KernelIdeal.args_kept m (hh.1 c).2, hh.2⟩)
    (Cert.Proof.KernelIdeal.run_main (F := Ideal) m ρ)

theorem claim : Cert.Claim := ⟨Cert.Kernel.Gen.facts, Cert.KernelIdeal.Gen.facts, Cert.ReferenceIdeal.Gen.facts,
  frame_kernel, frame_ideal, fun m ρ _ => Cert.ReferenceIdeal.Gen.frame m ρ, trivial, Cert.Proof.Value.algebraic⟩

end Cert.Proof

end
